-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v401) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S1000000x10 : Shape := ⟨2, ![1000000, 10]⟩
abbrev S1000000x1 : Shape := ⟨2, ![1000000, 1]⟩
abbrev S50x10 : Shape := ⟨2, ![50, 10]⟩
abbrev S15625x640 : Shape := ⟨2, ![15625, 640]⟩
abbrev S15625x64 : Shape := ⟨2, ![15625, 64]⟩
abbrev S640 : Shape := ⟨1, ![640]⟩
abbrev S_ : Shape := ⟨0, ![]⟩
abbrev S640x1 : Shape := ⟨2, ![640, 1]⟩
abbrev S64 : Shape := ⟨1, ![64]⟩
abbrev S1x64 : Shape := ⟨2, ![1, 64]⟩
abbrev S640x64 : Shape := ⟨2, ![640, 64]⟩
abbrev S64x640 : Shape := ⟨2, ![64, 640]⟩
abbrev S1x640 : Shape := ⟨2, ![1, 640]⟩
abbrev S1x1 : Shape := ⟨2, ![1, 1]⟩
abbrev S512x640 : Shape := ⟨2, ![512, 640]⟩
abbrev S512x64 : Shape := ⟨2, ![512, 64]⟩
abbrev S512x1 : Shape := ⟨2, ![512, 1]⟩
abbrev S1x512x640 : Shape := ⟨3, ![1, 512, 640]⟩
abbrev S1 : Shape := ⟨1, ![1]⟩
abbrev S1x1x1 : Shape := ⟨3, ![1, 1, 1]⟩
abbrev S10000000 : Shape := ⟨1, ![10000000]⟩
abbrev S32x20608 : Shape := ⟨2, ![32, 20608]⟩
abbrev S8000 : Shape := ⟨1, ![8000]⟩
abbrev S20608 : Shape := ⟨1, ![20608]⟩
abbrev S16 : Shape := ⟨1, ![16]⟩
abbrev S1x20608 : Shape := ⟨2, ![1, 20608]⟩
abbrev S41216x16 : Shape := ⟨2, ![41216, 16]⟩
abbrev S1288x16 : Shape := ⟨2, ![1288, 16]⟩
abbrev S1288 : Shape := ⟨1, ![1288]⟩
abbrev S1288x1 : Shape := ⟨2, ![1288, 1]⟩
abbrev S50x1 : Shape := ⟨2, ![50, 1]⟩
abbrev S1x50x1 : Shape := ⟨3, ![1, 50, 1]⟩

abbrev nBuf : Table → Nat
  | .hbm => 64
  | .local .tc .vmem => 16
  | .local .scVector .vmem => 2
  | _ => 0

abbrev bufTy : (tb : Table) → Fin (nBuf tb) → BufTy
  | .hbm, ⟨0, _⟩ => ⟨S1000000x10, .f32⟩
  | .hbm, ⟨1, _⟩ => ⟨S1000000x1, .f32⟩
  | .hbm, ⟨2, _⟩ => ⟨S50x10, .f32⟩
  | .hbm, ⟨3, _⟩ => ⟨S15625x640, .f32⟩
  | .hbm, ⟨4, _⟩ => ⟨S15625x64, .f32⟩
  | .hbm, ⟨5, _⟩ => ⟨S640, .i32⟩
  | .hbm, ⟨6, _⟩ => ⟨S_, .i32⟩
  | .hbm, ⟨7, _⟩ => ⟨S_, .i32⟩
  | .hbm, ⟨8, _⟩ => ⟨S640, .i32⟩
  | .hbm, ⟨9, _⟩ => ⟨S640, .i32⟩
  | .hbm, ⟨10, _⟩ => ⟨S640, .i32⟩
  | .hbm, ⟨11, _⟩ => ⟨S_, .i32⟩
  | .hbm, ⟨12, _⟩ => ⟨S640, .i32⟩
  | .hbm, ⟨13, _⟩ => ⟨S640, .i1⟩
  | .hbm, ⟨14, _⟩ => ⟨S640, .i32⟩
  | .hbm, ⟨15, _⟩ => ⟨S640, .i32⟩
  | .hbm, ⟨16, _⟩ => ⟨S_, .i32⟩
  | .hbm, ⟨17, _⟩ => ⟨S640, .i32⟩
  | .hbm, ⟨18, _⟩ => ⟨S640, .i1⟩
  | .hbm, ⟨19, _⟩ => ⟨S640, .i1⟩
  | .hbm, ⟨20, _⟩ => ⟨S_, .i32⟩
  | .hbm, ⟨21, _⟩ => ⟨S640, .i32⟩
  | .hbm, ⟨22, _⟩ => ⟨S640, .i32⟩
  | .hbm, ⟨23, _⟩ => ⟨S640, .i32⟩
  | .hbm, ⟨24, _⟩ => ⟨S640x1, .i32⟩
  | .hbm, ⟨25, _⟩ => ⟨S64, .i32⟩
  | .hbm, ⟨26, _⟩ => ⟨S1x64, .i32⟩
  | .hbm, ⟨27, _⟩ => ⟨S640x64, .i32⟩
  | .hbm, ⟨28, _⟩ => ⟨S640x64, .i32⟩
  | .hbm, ⟨29, _⟩ => ⟨S640x64, .i1⟩
  | .hbm, ⟨30, _⟩ => ⟨S640x64, .f32⟩
  | .hbm, ⟨31, _⟩ => ⟨S64x640, .f32⟩
  | .hbm, ⟨32, _⟩ => ⟨S640, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S640, .i32⟩
  | .hbm, ⟨40, _⟩ => ⟨S640, .i32⟩
  | .hbm, ⟨41, _⟩ => ⟨S_, .i32⟩
  | .hbm, ⟨42, _⟩ => ⟨S640, .i32⟩
  | .hbm, ⟨43, _⟩ => ⟨S640, .i1⟩
  | .hbm, ⟨44, _⟩ => ⟨S_, .i32⟩
  | .hbm, ⟨45, _⟩ => ⟨S640, .i32⟩
  | .hbm, ⟨46, _⟩ => ⟨S640, .i1⟩
  | .hbm, ⟨47, _⟩ => ⟨S_, .i32⟩
  | .hbm, ⟨48, _⟩ => ⟨S_, .i1⟩
  | .hbm, ⟨49, _⟩ => ⟨S640, .i1⟩
  | .hbm, ⟨50, _⟩ => ⟨S640, .i1⟩
  | .hbm, ⟨51, _⟩ => ⟨S640, .i1⟩
  | .hbm, ⟨52, _⟩ => ⟨S640, .i32⟩
  | .hbm, ⟨53, _⟩ => ⟨S640, .i32⟩
  | .hbm, ⟨54, _⟩ => ⟨S640, .i32⟩
  | .hbm, ⟨55, _⟩ => ⟨S640, .f32⟩
  | .hbm, ⟨56, _⟩ => ⟨S1x640, .f32⟩
  | .hbm, ⟨57, _⟩ => ⟨S15625x640, .i32⟩
  | .hbm, ⟨58, _⟩ => ⟨S1x1, .f32⟩
  | .hbm, ⟨59, _⟩ => ⟨S10000000, .i32⟩
  | .hbm, ⟨60, _⟩ => ⟨S32x20608, .f32⟩
  | .hbm, ⟨61, _⟩ => ⟨S41216x16, .f32⟩
  | .hbm, ⟨62, _⟩ => ⟨S1x1, .f32⟩
  | .hbm, ⟨63, _⟩ => ⟨S_, .f32⟩
  | .local .tc .vmem, ⟨0, _⟩ => ⟨S512x640, .f32⟩
  | .local .tc .vmem, ⟨1, _⟩ => ⟨S512x640, .f32⟩
  | .local .tc .vmem, ⟨2, _⟩ => ⟨S512x64, .f32⟩
  | .local .tc .vmem, ⟨3, _⟩ => ⟨S512x64, .f32⟩
  | .local .tc .vmem, ⟨4, _⟩ => ⟨S640x64, .f32⟩
  | .local .tc .vmem, ⟨5, _⟩ => ⟨S64x640, .f32⟩
  | .local .tc .vmem, ⟨6, _⟩ => ⟨S1x640, .f32⟩
  | .local .tc .vmem, ⟨7, _⟩ => ⟨S512x640, .i32⟩
  | .local .tc .vmem, ⟨8, _⟩ => ⟨S512x640, .i32⟩
  | .local .tc .vmem, ⟨9, _⟩ => ⟨S1x1, .f32⟩
  | .local .tc .vmem, ⟨10, _⟩ => ⟨S1288x16, .f32⟩
  | .local .tc .vmem, ⟨11, _⟩ => ⟨S1288x16, .f32⟩
  | .local .tc .vmem, ⟨12, _⟩ => ⟨S50x10, .f32⟩
  | .local .tc .vmem, ⟨13, _⟩ => ⟨S1x1, .f32⟩
  | .local .tc .vmem, ⟨14, _⟩ => ⟨S1x1, .f32⟩
  | .local .tc .vmem, ⟨15, _⟩ => ⟨S1288x16, .f32⟩
  | .local .scVector .vmem, ⟨0, _⟩ => ⟨S8000, .i32⟩
  | .local .scVector .vmem, ⟨1, _⟩ => ⟨S20608, .f32⟩
  | _, _ => ⟨S1000000x10, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16_0 : Ref sig .tc := ⟨.hbm, 57, rfl⟩
abbrev main_v16_1 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v17_scv : Ref sig .scVector := ⟨.hbm, 59, rfl⟩
abbrev main_v18_scv : Ref sig .scVector := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_scratch0 : Ref sig .tc := ⟨.vmem, 15, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "bin_width" => some ((1 / 50 : ℝ) : EReal)
  | "inv_count" => some ((1 / 10000000 : ℝ) : EReal)
  | _ => none

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x640 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

@[reducible] def k1_t1_loop : Scf.Loop 32 :=
  let c0_i32_0 : BitVec 32 := 0#32
  let c1288_i32 : BitVec 32 := 1288#32
  let v3 : BitVec 32 := Scalar.addi c0_i32_0 c1288_i32
  let c1_i32 : BitVec 32 := 1#32
  ⟨c0_i32_0, v3, c1_i32⟩
def k1_off1 (k1_t1 : Fin k1_t1_loop.trips) : Fin 1 → Nat :=
  let c0_i32_0 : BitVec 32 := 0#32
  let c1_i32 : BitVec 32 := 1#32
  let arg6 : BitVec 32 := Scf.iv c0_i32_0 c1_i32 k1_t1
  let c16_i32 : BitVec 32 := 16#32
  let v16 : BitVec 32 := Scalar.muli arg6 c16_i32
  let v17 : Index := Scalar.indexCast v16
  ![v17.toNat]
@[reducible] def k1_t2_loop (i : grid1.Coords) : Scf.Loop 32 :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v7 : BitVec 1 := Scalar.cmpi .slt v1 c2_i32_3
  let c40_i32 : BitVec 32 := 40#32
  let c39_i32 : BitVec 32 := 39#32
  let v8 : BitVec 32 := Scalar.select v7 c40_i32 c39_i32
  let v9 : BitVec 32 := Scalar.subi v8 c0_i32_4
  let c1_i32_6 : BitVec 32 := 1#32
  let v11 : BitVec 32 := Scalar.divsi v9 c1_i32_6
  let v12 : BitVec 32 := Scalar.muli v11 c1_i32_6
  let v13 : BitVec 32 := Scalar.addi c0_i32_4 v12
  let c1_i32_7 : BitVec 32 := 1#32
  ⟨c0_i32_4, v13, c1_i32_7⟩
def k1_off2 (i : grid1.Coords) (k1_t2 : Fin (k1_t2_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_7 : BitVec 32 := 1#32
  let arg6 : BitVec 32 := Scf.iv c0_i32_4 c1_i32_7 k1_t2
  let v16 : BitVec 32 := Scalar.muli c32_i32 arg6
  let v17 : BitVec 32 := Scalar.addi v1 v16
  let c8000_i32 : BitVec 32 := 8000#32
  let v18 : BitVec 32 := Scalar.muli v17 c8000_i32
  ![v18.toNat]
@[reducible] def k1_t3_loop : Scf.Loop 32 :=
  let c0_i32_10 : BitVec 32 := 0#32
  let c125_i32 : BitVec 32 := 125#32
  let v19 : BitVec 32 := Scalar.addi c0_i32_10 c125_i32
  let c1_i32_11 : BitVec 32 := 1#32
  ⟨c0_i32_10, v19, c1_i32_11⟩
def k1_off3 (k1_t3 : Fin k1_t3_loop.trips) : Fin 1 → Nat :=
  let c0_i32_10 : BitVec 32 := 0#32
  let c1_i32_11 : BitVec 32 := 1#32
  let arg8 : BitVec 32 := Scf.iv c0_i32_10 c1_i32_11 k1_t3
  let c4_i32 : BitVec 32 := 4#32
  let v21 : BitVec 32 := Scalar.muli arg8 c4_i32
  let c0_i32_14 : BitVec 32 := 0#32
  let v22 : BitVec 32 := Scalar.addi v21 c0_i32_14
  let c16_i32 : BitVec 32 := 16#32
  let v23 : BitVec 32 := Scalar.muli v22 c16_i32
  let v24 : Index := Scalar.indexCast v23
  ![v24.toNat]

def k1_chk1 (v26 : IVec S16 32) : Prop :=
  (∀ a x, ((![v26] : Fin 1 → IVec S16 32) a x).toNat < S20608.size a)
theorem k1_idx1_inb : ∀ (v26 : IVec S16 32) (k1_hw1 : k1_chk1 v26), ∀ a x, ((![v26] : Fin 1 → IVec S16 32) a x).toNat < S20608.size a := fun v26 k1_hw1 => k1_hw1
def k1_off4 (k1_t3 : Fin k1_t3_loop.trips) : Fin 1 → Nat :=
  let c0_i32_10 : BitVec 32 := 0#32
  let c1_i32_11 : BitVec 32 := 1#32
  let arg8 : BitVec 32 := Scf.iv c0_i32_10 c1_i32_11 k1_t3
  let c4_i32_15 : BitVec 32 := 4#32
  let v27 : BitVec 32 := Scalar.muli arg8 c4_i32_15
  let c1_i32_16 : BitVec 32 := 1#32
  let v28 : BitVec 32 := Scalar.addi v27 c1_i32_16
  let c16_i32_17 : BitVec 32 := 16#32
  let v29 : BitVec 32 := Scalar.muli v28 c16_i32_17
  let v30 : Index := Scalar.indexCast v29
  ![v30.toNat]

def k1_chk2 (v32 : IVec S16 32) : Prop :=
  (∀ a x, ((![v32] : Fin 1 → IVec S16 32) a x).toNat < S20608.size a)
theorem k1_idx2_inb : ∀ (v32 : IVec S16 32) (k1_hw2 : k1_chk2 v32), ∀ a x, ((![v32] : Fin 1 → IVec S16 32) a x).toNat < S20608.size a := fun v32 k1_hw2 => k1_hw2
def k1_off5 (k1_t3 : Fin k1_t3_loop.trips) : Fin 1 → Nat :=
  let c0_i32_10 : BitVec 32 := 0#32
  let c1_i32_11 : BitVec 32 := 1#32
  let arg8 : BitVec 32 := Scf.iv c0_i32_10 c1_i32_11 k1_t3
  let c4_i32_18 : BitVec 32 := 4#32
  let v33 : BitVec 32 := Scalar.muli arg8 c4_i32_18
  let c2_i32_19 : BitVec 32 := 2#32
  let v34 : BitVec 32 := Scalar.addi v33 c2_i32_19
  let c16_i32_20 : BitVec 32 := 16#32
  let v35 : BitVec 32 := Scalar.muli v34 c16_i32_20
  let v36 : Index := Scalar.indexCast v35
  ![v36.toNat]

def k1_chk3 (v38 : IVec S16 32) : Prop :=
  (∀ a x, ((![v38] : Fin 1 → IVec S16 32) a x).toNat < S20608.size a)
theorem k1_idx3_inb : ∀ (v38 : IVec S16 32) (k1_hw3 : k1_chk3 v38), ∀ a x, ((![v38] : Fin 1 → IVec S16 32) a x).toNat < S20608.size a := fun v38 k1_hw3 => k1_hw3
def k1_off6 (k1_t3 : Fin k1_t3_loop.trips) : Fin 1 → Nat :=
  let c0_i32_10 : BitVec 32 := 0#32
  let c1_i32_11 : BitVec 32 := 1#32
  let arg8 : BitVec 32 := Scf.iv c0_i32_10 c1_i32_11 k1_t3
  let c4_i32_21 : BitVec 32 := 4#32
  let v39 : BitVec 32 := Scalar.muli arg8 c4_i32_21
  let c3_i32 : BitVec 32 := 3#32
  let v40 : BitVec 32 := Scalar.addi v39 c3_i32
  let c16_i32_22 : BitVec 32 := 16#32
  let v41 : BitVec 32 := Scalar.muli v40 c16_i32_22
  let v42 : Index := Scalar.indexCast v41
  ![v42.toNat]

def k1_chk4 (v44 : IVec S16 32) : Prop :=
  (∀ a x, ((![v44] : Fin 1 → IVec S16 32) a x).toNat < S20608.size a)
theorem k1_idx4_inb : ∀ (v44 : IVec S16 32) (k1_hw4 : k1_chk4 v44), ∀ a x, ((![v44] : Fin 1 → IVec S16 32) a x).toNat < S20608.size a := fun v44 k1_hw4 => k1_hw4
@[reducible] def k1_t4_loop (i : grid1.Coords) : Scf.Loop 32 :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v7 : BitVec 1 := Scalar.cmpi .slt v1 c2_i32_3
  let c40_i32 : BitVec 32 := 40#32
  let c39_i32 : BitVec 32 := 39#32
  let v8 : BitVec 32 := Scalar.select v7 c40_i32 c39_i32
  let v9 : BitVec 32 := Scalar.subi v8 c0_i32_4
  let c1_i32_6 : BitVec 32 := 1#32
  let v11 : BitVec 32 := Scalar.divsi v9 c1_i32_6
  let v12 : BitVec 32 := Scalar.muli v11 c1_i32_6
  let v13 : BitVec 32 := Scalar.addi c0_i32_4 v12
  let v10 : BitVec 32 := Scalar.addi c0_i32_4 v9
  let c1_i32_8 : BitVec 32 := 1#32
  ⟨v13, v10, c1_i32_8⟩
def k1_off7 (i : grid1.Coords) (k1_t4 : Fin (k1_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c2_i32_3 : BitVec 32 := 2#32
  let v7 : BitVec 1 := Scalar.cmpi .slt v1 c2_i32_3
  let c40_i32 : BitVec 32 := 40#32
  let c39_i32 : BitVec 32 := 39#32
  let v8 : BitVec 32 := Scalar.select v7 c40_i32 c39_i32
  let v9 : BitVec 32 := Scalar.subi v8 c0_i32_4
  let c1_i32_6 : BitVec 32 := 1#32
  let v11 : BitVec 32 := Scalar.divsi v9 c1_i32_6
  let v12 : BitVec 32 := Scalar.muli v11 c1_i32_6
  let v13 : BitVec 32 := Scalar.addi c0_i32_4 v12
  let c1_i32_8 : BitVec 32 := 1#32
  let arg6 : BitVec 32 := Scf.iv v13 c1_i32_8 k1_t4
  let v16 : BitVec 32 := Scalar.muli c32_i32 arg6
  let v17 : BitVec 32 := Scalar.addi v1 v16
  let c8000_i32 : BitVec 32 := 8000#32
  let v18 : BitVec 32 := Scalar.muli v17 c8000_i32
  ![v18.toNat]
@[reducible] def k1_t5_loop : Scf.Loop 32 :=
  let c0_i32_10 : BitVec 32 := 0#32
  let c125_i32 : BitVec 32 := 125#32
  let v19 : BitVec 32 := Scalar.addi c0_i32_10 c125_i32
  let c1_i32_11 : BitVec 32 := 1#32
  ⟨c0_i32_10, v19, c1_i32_11⟩
def k1_off8 (k1_t5 : Fin k1_t5_loop.trips) : Fin 1 → Nat :=
  let c0_i32_10 : BitVec 32 := 0#32
  let c1_i32_11 : BitVec 32 := 1#32
  let arg8 : BitVec 32 := Scf.iv c0_i32_10 c1_i32_11 k1_t5
  let c4_i32 : BitVec 32 := 4#32
  let v21 : BitVec 32 := Scalar.muli arg8 c4_i32
  let c0_i32_14 : BitVec 32 := 0#32
  let v22 : BitVec 32 := Scalar.addi v21 c0_i32_14
  let c16_i32 : BitVec 32 := 16#32
  let v23 : BitVec 32 := Scalar.muli v22 c16_i32
  let v24 : Index := Scalar.indexCast v23
  ![v24.toNat]

def k1_chk5 (i : grid1.Coords) (k1_t4 : Fin (k1_t4_loop i).trips) (v26 : IVec S16 32) : Prop :=
  (∀ a x, ((![v26] : Fin 1 → IVec S16 32) a x).toNat < S20608.size a)
theorem k1_idx5_inb : ∀ (i : grid1.Coords) (k1_t4 : Fin (k1_t4_loop i).trips) (v26 : IVec S16 32) (k1_hw5 : k1_chk5 i k1_t4 v26), ∀ a x, ((![v26] : Fin 1 → IVec S16 32) a x).toNat < S20608.size a := fun i k1_t4 v26 k1_hw5 => k1_hw5
def k1_off9 (k1_t5 : Fin k1_t5_loop.trips) : Fin 1 → Nat :=
  let c0_i32_10 : BitVec 32 := 0#32
  let c1_i32_11 : BitVec 32 := 1#32
  let arg8 : BitVec 32 := Scf.iv c0_i32_10 c1_i32_11 k1_t5
  let c4_i32_15 : BitVec 32 := 4#32
  let v27 : BitVec 32 := Scalar.muli arg8 c4_i32_15
  let c1_i32_16 : BitVec 32 := 1#32
  let v28 : BitVec 32 := Scalar.addi v27 c1_i32_16
  let c16_i32_17 : BitVec 32 := 16#32
  let v29 : BitVec 32 := Scalar.muli v28 c16_i32_17
  let v30 : Index := Scalar.indexCast v29
  ![v30.toNat]

def k1_chk6 (i : grid1.Coords) (k1_t4 : Fin (k1_t4_loop i).trips) (v32 : IVec S16 32) : Prop :=
  (∀ a x, ((![v32] : Fin 1 → IVec S16 32) a x).toNat < S20608.size a)
theorem k1_idx6_inb : ∀ (i : grid1.Coords) (k1_t4 : Fin (k1_t4_loop i).trips) (v32 : IVec S16 32) (k1_hw6 : k1_chk6 i k1_t4 v32), ∀ a x, ((![v32] : Fin 1 → IVec S16 32) a x).toNat < S20608.size a := fun i k1_t4 v32 k1_hw6 => k1_hw6
def k1_off10 (k1_t5 : Fin k1_t5_loop.trips) : Fin 1 → Nat :=
  let c0_i32_10 : BitVec 32 := 0#32
  let c1_i32_11 : BitVec 32 := 1#32
  let arg8 : BitVec 32 := Scf.iv c0_i32_10 c1_i32_11 k1_t5
  let c4_i32_18 : BitVec 32 := 4#32
  let v33 : BitVec 32 := Scalar.muli arg8 c4_i32_18
  let c2_i32_19 : BitVec 32 := 2#32
  let v34 : BitVec 32 := Scalar.addi v33 c2_i32_19
  let c16_i32_20 : BitVec 32 := 16#32
  let v35 : BitVec 32 := Scalar.muli v34 c16_i32_20
  let v36 : Index := Scalar.indexCast v35
  ![v36.toNat]

def k1_chk7 (i : grid1.Coords) (k1_t4 : Fin (k1_t4_loop i).trips) (v38 : IVec S16 32) : Prop :=
  (∀ a x, ((![v38] : Fin 1 → IVec S16 32) a x).toNat < S20608.size a)
theorem k1_idx7_inb : ∀ (i : grid1.Coords) (k1_t4 : Fin (k1_t4_loop i).trips) (v38 : IVec S16 32) (k1_hw7 : k1_chk7 i k1_t4 v38), ∀ a x, ((![v38] : Fin 1 → IVec S16 32) a x).toNat < S20608.size a := fun i k1_t4 v38 k1_hw7 => k1_hw7
def k1_off11 (k1_t5 : Fin k1_t5_loop.trips) : Fin 1 → Nat :=
  let c0_i32_10 : BitVec 32 := 0#32
  let c1_i32_11 : BitVec 32 := 1#32
  let arg8 : BitVec 32 := Scf.iv c0_i32_10 c1_i32_11 k1_t5
  let c4_i32_21 : BitVec 32 := 4#32
  let v39 : BitVec 32 := Scalar.muli arg8 c4_i32_21
  let c3_i32 : BitVec 32 := 3#32
  let v40 : BitVec 32 := Scalar.addi v39 c3_i32
  let c16_i32_22 : BitVec 32 := 16#32
  let v41 : BitVec 32 := Scalar.muli v40 c16_i32_22
  let v42 : Index := Scalar.indexCast v41
  ![v42.toNat]

def k1_chk8 (i : grid1.Coords) (k1_t4 : Fin (k1_t4_loop i).trips) (v44 : IVec S16 32) : Prop :=
  (∀ a x, ((![v44] : Fin 1 → IVec S16 32) a x).toNat < S20608.size a)
theorem k1_idx8_inb : ∀ (i : grid1.Coords) (k1_t4 : Fin (k1_t4_loop i).trips) (v44 : IVec S16 32) (k1_hw8 : k1_chk8 i k1_t4 v44), ∀ a x, ((![v44] : Fin 1 → IVec S16 32) a x).toNat < S20608.size a := fun i k1_t4 v44 k1_hw8 => k1_hw8
def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r2 : BitVec 32 := 0#32
  ![v1.toNat, 0]
abbrev grid2 : Pipeline.Grid := ⟨1, ![32], ![false]⟩

def k2_cond3 (i : grid2.Coords) : BitVec 1 :=
  let arg0 : BitVec 32 := BitVec.ofNat 32 (i 0).val
  let c31_i32 : BitVec 32 := 31#32
  let v6 : BitVec 1 := Scalar.cmpi .eq arg0 c31_i32
  let v7 : BitVec 32 := Scalar.extui v6
  let c0_i32_3 : BitVec 32 := 0#32
  let v8 : BitVec 1 := Scalar.cmpi .ne v7 c0_i32_3
  v8

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1288x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S50x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x10 : Shape := ⟨2, ![1000000, 10]⟩
abbrev S1000000x1 : Shape := ⟨2, ![1000000, 1]⟩
abbrev S50x10 : Shape := ⟨2, ![50, 10]⟩
abbrev S_ : Shape := ⟨0, ![]⟩
abbrev S1000000 : Shape := ⟨1, ![1000000]⟩
abbrev S50x1 : Shape := ⟨2, ![50, 1]⟩
abbrev S50 : Shape := ⟨1, ![50]⟩
abbrev S1 : Shape := ⟨1, ![1]⟩
abbrev S51 : Shape := ⟨1, ![51]⟩
abbrev S1x51 : Shape := ⟨2, ![1, 51]⟩
abbrev S1000000x51 : Shape := ⟨2, ![1000000, 51]⟩

abbrev nBuf : Space → Nat
  | .hbm => 699
  | .vmem => 0
  | .smem => 0
  | _ => 0

abbrev hbmTy0_0 (i : Nat) : BufTy := match i % 128 with
  | 0 => ⟨S1000000x10, .f32⟩
  | 1 => ⟨S1000000x1, .f32⟩
  | 2 => ⟨S50x10, .f32⟩
  | 3 => ⟨S_, .f32⟩
  | 4 => ⟨S1000000, .f32⟩
  | 5 => ⟨S_, .f32⟩
  | 6 => ⟨S1000000, .f32⟩
  | 7 => ⟨S1000000, .f32⟩
  | 8 => ⟨S1000000x1, .f32⟩
  | 9 => ⟨S1000000x10, .f32⟩
  | 10 => ⟨S1000000x10, .f32⟩
  | 11 => ⟨S1000000x10, .f32⟩
  | 12 => ⟨S_, .f32⟩
  | 13 => ⟨S1000000, .f32⟩
  | 14 => ⟨S1000000x1, .f32⟩
  | 15 => ⟨S1000000x10, .f32⟩
  | 16 => ⟨S1000000x10, .f32⟩
  | 17 => ⟨S1000000, .f32⟩
  | 18 => ⟨S1000000x1, .f32⟩
  | 19 => ⟨S1000000, .f32⟩
  | 20 => ⟨S50x1, .f32⟩
  | 21 => ⟨S50, .f32⟩
  | 22 => ⟨S50, .f32⟩
  | 23 => ⟨S50, .f32⟩
  | 24 => ⟨S_, .f32⟩
  | 25 => ⟨S50, .f32⟩
  | 26 => ⟨S50, .f32⟩
  | 27 => ⟨S_, .f32⟩
  | 28 => ⟨S50, .f32⟩
  | 29 => ⟨S50, .f32⟩
  | 30 => ⟨S_, .f32⟩
  | 31 => ⟨S1000000, .f32⟩
  | 32 => ⟨S1000000, .i1⟩
  | 33 => ⟨S1000000, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S50, .f32⟩
  | 42 => ⟨S_, .f32⟩
  | 43 => ⟨S50, .f32⟩
  | 44 => ⟨S50, .f32⟩
  | 45 => ⟨S1, .f32⟩
  | 46 => ⟨S_, .f32⟩
  | 47 => ⟨S50, .f32⟩
  | 48 => ⟨S50, .f32⟩
  | 49 => ⟨S50, .f32⟩
  | 50 => ⟨S50, .f32⟩
  | 51 => ⟨S1, .f32⟩
  | 52 => ⟨S50, .f32⟩
  | 53 => ⟨S50, .f32⟩
  | 54 => ⟨S50, .f32⟩
  | 55 => ⟨S1, .f32⟩
  | 56 => ⟨S51, .f32⟩
  | 57 => ⟨S1000000x1, .f32⟩
  | 58 => ⟨S1x51, .f32⟩
  | 59 => ⟨S1000000x51, .f32⟩
  | 60 => ⟨S1000000x51, .f32⟩
  | 61 => ⟨S1000000x51, .i1⟩
  | 62 => ⟨S1000000x51, .i32⟩
  | 63 => ⟨S_, .i32⟩
  | 64 => ⟨S1000000, .i32⟩
  | 65 => ⟨S_, .i32⟩
  | 66 => ⟨S1000000, .i32⟩
  | 67 => ⟨S1000000, .i32⟩
  | 68 => ⟨S_, .f32⟩
  | 69 => ⟨S50, .f32⟩
  | 70 => ⟨S1000000x1, .i32⟩
  | 71 => ⟨S50, .f32⟩
  | 72 => ⟨S_, .f32⟩
  | 73 => ⟨S1000000, .f32⟩
  | 74 => ⟨S_, .f32⟩
  | 75 => ⟨S50, .f32⟩
  | 76 => ⟨S1000000x1, .i32⟩
  | 77 => ⟨S50, .f32⟩
  | 78 => ⟨S50, .f32⟩
  | 79 => ⟨S50, .f32⟩
  | 80 => ⟨S_, .f32⟩
  | 81 => ⟨S50, .f32⟩
  | 82 => ⟨S50, .f32⟩
  | 83 => ⟨S_, .f32⟩
  | 84 => ⟨S50, .f32⟩
  | 85 => ⟨S50, .f32⟩
  | 86 => ⟨S50, .f32⟩
  | 87 => ⟨S50, .f32⟩
  | 88 => ⟨S_, .f32⟩
  | 89 => ⟨S50, .f32⟩
  | 90 => ⟨S50, .f32⟩
  | 91 => ⟨S_, .f32⟩
  | 92 => ⟨S50, .f32⟩
  | 93 => ⟨S50, .f32⟩
  | 94 => ⟨S50, .f32⟩
  | 95 => ⟨S50, .f32⟩
  | 96 => ⟨S50, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S1000000x1, .f32⟩
  | 104 => ⟨S1000000, .f32⟩
  | 105 => ⟨S50x1, .f32⟩
  | 106 => ⟨S50, .f32⟩
  | 107 => ⟨S50, .f32⟩
  | 108 => ⟨S50, .f32⟩
  | 109 => ⟨S_, .f32⟩
  | 110 => ⟨S50, .f32⟩
  | 111 => ⟨S50, .f32⟩
  | 112 => ⟨S_, .f32⟩
  | 113 => ⟨S50, .f32⟩
  | 114 => ⟨S50, .f32⟩
  | 115 => ⟨S_, .f32⟩
  | 116 => ⟨S1000000, .f32⟩
  | 117 => ⟨S1000000, .i1⟩
  | 118 => ⟨S1000000, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S50, .f32⟩
  | 127 => ⟨S_, .f32⟩
  | _ => ⟨S1000000x10, .f32⟩

abbrev hbmTy0_1 (i : Nat) : BufTy := match i % 128 with
  | 0 => ⟨S50, .f32⟩
  | 1 => ⟨S50, .f32⟩
  | 2 => ⟨S1, .f32⟩
  | 3 => ⟨S_, .f32⟩
  | 4 => ⟨S50, .f32⟩
  | 5 => ⟨S50, .f32⟩
  | 6 => ⟨S50, .f32⟩
  | 7 => ⟨S50, .f32⟩
  | 8 => ⟨S1, .f32⟩
  | 9 => ⟨S50, .f32⟩
  | 10 => ⟨S50, .f32⟩
  | 11 => ⟨S50, .f32⟩
  | 12 => ⟨S1, .f32⟩
  | 13 => ⟨S51, .f32⟩
  | 14 => ⟨S1000000x1, .f32⟩
  | 15 => ⟨S1x51, .f32⟩
  | 16 => ⟨S1000000x51, .f32⟩
  | 17 => ⟨S1000000x51, .f32⟩
  | 18 => ⟨S1000000x51, .i1⟩
  | 19 => ⟨S1000000x51, .i32⟩
  | 20 => ⟨S_, .i32⟩
  | 21 => ⟨S1000000, .i32⟩
  | 22 => ⟨S_, .i32⟩
  | 23 => ⟨S1000000, .i32⟩
  | 24 => ⟨S1000000, .i32⟩
  | 25 => ⟨S_, .f32⟩
  | 26 => ⟨S50, .f32⟩
  | 27 => ⟨S1000000x1, .i32⟩
  | 28 => ⟨S50, .f32⟩
  | 29 => ⟨S_, .f32⟩
  | 30 => ⟨S1000000, .f32⟩
  | 31 => ⟨S_, .f32⟩
  | 32 => ⟨S50, .f32⟩
  | 33 => ⟨S1000000x1, .i32⟩
  | 34 => ⟨S50, .f32⟩
  | 35 => ⟨S50, .f32⟩
  | 36 => ⟨S50, .f32⟩
  | 37 => ⟨S_, .f32⟩
  | 38 => ⟨S50, .f32⟩
  | 39 => ⟨S50, .f32⟩
  | 40 => ⟨S_, .f32⟩
  | 41 => ⟨S50, .f32⟩
  | 42 => ⟨S50, .f32⟩
  | 43 => ⟨S50, .f32⟩
  | 44 => ⟨S50, .f32⟩
  | 45 => ⟨S_, .f32⟩
  | 46 => ⟨S50, .f32⟩
  | 47 => ⟨S50, .f32⟩
  | 48 => ⟨S_, .f32⟩
  | 49 => ⟨S50, .f32⟩
  | 50 => ⟨S50, .f32⟩
  | 51 => ⟨S50, .f32⟩
  | 52 => ⟨S50, .f32⟩
  | 53 => ⟨S50, .f32⟩
  | 54 => ⟨S_, .f32⟩
  | 55 => ⟨S_, .f32⟩
  | 56 => ⟨S_, .f32⟩
  | 57 => ⟨S_, .f32⟩
  | 58 => ⟨S_, .f32⟩
  | 59 => ⟨S1000000x1, .f32⟩
  | 60 => ⟨S1000000, .f32⟩
  | 61 => ⟨S50x1, .f32⟩
  | 62 => ⟨S50, .f32⟩
  | 63 => ⟨S50, .f32⟩
  | 64 => ⟨S50, .f32⟩
  | 65 => ⟨S_, .f32⟩
  | 66 => ⟨S50, .f32⟩
  | 67 => ⟨S50, .f32⟩
  | 68 => ⟨S_, .f32⟩
  | 69 => ⟨S50, .f32⟩
  | 70 => ⟨S50, .f32⟩
  | 71 => ⟨S_, .f32⟩
  | 72 => ⟨S1000000, .f32⟩
  | 73 => ⟨S1000000, .i1⟩
  | 74 => ⟨S1000000, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S50, .f32⟩
  | 83 => ⟨S_, .f32⟩
  | 84 => ⟨S50, .f32⟩
  | 85 => ⟨S50, .f32⟩
  | 86 => ⟨S1, .f32⟩
  | 87 => ⟨S_, .f32⟩
  | 88 => ⟨S50, .f32⟩
  | 89 => ⟨S50, .f32⟩
  | 90 => ⟨S50, .f32⟩
  | 91 => ⟨S50, .f32⟩
  | 92 => ⟨S1, .f32⟩
  | 93 => ⟨S50, .f32⟩
  | 94 => ⟨S50, .f32⟩
  | 95 => ⟨S50, .f32⟩
  | 96 => ⟨S1, .f32⟩
  | 97 => ⟨S51, .f32⟩
  | 98 => ⟨S1000000x1, .f32⟩
  | 99 => ⟨S1x51, .f32⟩
  | 100 => ⟨S1000000x51, .f32⟩
  | 101 => ⟨S1000000x51, .f32⟩
  | 102 => ⟨S1000000x51, .i1⟩
  | 103 => ⟨S1000000x51, .i32⟩
  | 104 => ⟨S_, .i32⟩
  | 105 => ⟨S1000000, .i32⟩
  | 106 => ⟨S_, .i32⟩
  | 107 => ⟨S1000000, .i32⟩
  | 108 => ⟨S1000000, .i32⟩
  | 109 => ⟨S_, .f32⟩
  | 110 => ⟨S50, .f32⟩
  | 111 => ⟨S1000000x1, .i32⟩
  | 112 => ⟨S50, .f32⟩
  | 113 => ⟨S_, .f32⟩
  | 114 => ⟨S1000000, .f32⟩
  | 115 => ⟨S_, .f32⟩
  | 116 => ⟨S50, .f32⟩
  | 117 => ⟨S1000000x1, .i32⟩
  | 118 => ⟨S50, .f32⟩
  | 119 => ⟨S50, .f32⟩
  | 120 => ⟨S50, .f32⟩
  | 121 => ⟨S_, .f32⟩
  | 122 => ⟨S50, .f32⟩
  | 123 => ⟨S50, .f32⟩
  | 124 => ⟨S_, .f32⟩
  | 125 => ⟨S50, .f32⟩
  | 126 => ⟨S50, .f32⟩
  | 127 => ⟨S50, .f32⟩
  | _ => ⟨S1000000x10, .f32⟩

abbrev hbmTy0_2 (i : Nat) : BufTy := match i % 128 with
  | 0 => ⟨S50, .f32⟩
  | 1 => ⟨S_, .f32⟩
  | 2 => ⟨S50, .f32⟩
  | 3 => ⟨S50, .f32⟩
  | 4 => ⟨S_, .f32⟩
  | 5 => ⟨S50, .f32⟩
  | 6 => ⟨S50, .f32⟩
  | 7 => ⟨S50, .f32⟩
  | 8 => ⟨S50, .f32⟩
  | 9 => ⟨S50, .f32⟩
  | 10 => ⟨S_, .f32⟩
  | 11 => ⟨S_, .f32⟩
  | 12 => ⟨S_, .f32⟩
  | 13 => ⟨S_, .f32⟩
  | 14 => ⟨S_, .f32⟩
  | 15 => ⟨S1000000x1, .f32⟩
  | 16 => ⟨S1000000, .f32⟩
  | 17 => ⟨S50x1, .f32⟩
  | 18 => ⟨S50, .f32⟩
  | 19 => ⟨S50, .f32⟩
  | 20 => ⟨S50, .f32⟩
  | 21 => ⟨S_, .f32⟩
  | 22 => ⟨S50, .f32⟩
  | 23 => ⟨S50, .f32⟩
  | 24 => ⟨S_, .f32⟩
  | 25 => ⟨S50, .f32⟩
  | 26 => ⟨S50, .f32⟩
  | 27 => ⟨S_, .f32⟩
  | 28 => ⟨S1000000, .f32⟩
  | 29 => ⟨S1000000, .i1⟩
  | 30 => ⟨S1000000, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S50, .f32⟩
  | 39 => ⟨S_, .f32⟩
  | 40 => ⟨S50, .f32⟩
  | 41 => ⟨S50, .f32⟩
  | 42 => ⟨S1, .f32⟩
  | 43 => ⟨S_, .f32⟩
  | 44 => ⟨S50, .f32⟩
  | 45 => ⟨S50, .f32⟩
  | 46 => ⟨S50, .f32⟩
  | 47 => ⟨S50, .f32⟩
  | 48 => ⟨S1, .f32⟩
  | 49 => ⟨S50, .f32⟩
  | 50 => ⟨S50, .f32⟩
  | 51 => ⟨S50, .f32⟩
  | 52 => ⟨S1, .f32⟩
  | 53 => ⟨S51, .f32⟩
  | 54 => ⟨S1000000x1, .f32⟩
  | 55 => ⟨S1x51, .f32⟩
  | 56 => ⟨S1000000x51, .f32⟩
  | 57 => ⟨S1000000x51, .f32⟩
  | 58 => ⟨S1000000x51, .i1⟩
  | 59 => ⟨S1000000x51, .i32⟩
  | 60 => ⟨S_, .i32⟩
  | 61 => ⟨S1000000, .i32⟩
  | 62 => ⟨S_, .i32⟩
  | 63 => ⟨S1000000, .i32⟩
  | 64 => ⟨S1000000, .i32⟩
  | 65 => ⟨S_, .f32⟩
  | 66 => ⟨S50, .f32⟩
  | 67 => ⟨S1000000x1, .i32⟩
  | 68 => ⟨S50, .f32⟩
  | 69 => ⟨S_, .f32⟩
  | 70 => ⟨S1000000, .f32⟩
  | 71 => ⟨S_, .f32⟩
  | 72 => ⟨S50, .f32⟩
  | 73 => ⟨S1000000x1, .i32⟩
  | 74 => ⟨S50, .f32⟩
  | 75 => ⟨S50, .f32⟩
  | 76 => ⟨S50, .f32⟩
  | 77 => ⟨S_, .f32⟩
  | 78 => ⟨S50, .f32⟩
  | 79 => ⟨S50, .f32⟩
  | 80 => ⟨S_, .f32⟩
  | 81 => ⟨S50, .f32⟩
  | 82 => ⟨S50, .f32⟩
  | 83 => ⟨S50, .f32⟩
  | 84 => ⟨S50, .f32⟩
  | 85 => ⟨S_, .f32⟩
  | 86 => ⟨S50, .f32⟩
  | 87 => ⟨S50, .f32⟩
  | 88 => ⟨S_, .f32⟩
  | 89 => ⟨S50, .f32⟩
  | 90 => ⟨S50, .f32⟩
  | 91 => ⟨S50, .f32⟩
  | 92 => ⟨S50, .f32⟩
  | 93 => ⟨S50, .f32⟩
  | 94 => ⟨S_, .f32⟩
  | 95 => ⟨S_, .f32⟩
  | 96 => ⟨S_, .f32⟩
  | 97 => ⟨S_, .f32⟩
  | 98 => ⟨S_, .f32⟩
  | 99 => ⟨S1000000x1, .f32⟩
  | 100 => ⟨S1000000, .f32⟩
  | 101 => ⟨S50x1, .f32⟩
  | 102 => ⟨S50, .f32⟩
  | 103 => ⟨S50, .f32⟩
  | 104 => ⟨S50, .f32⟩
  | 105 => ⟨S_, .f32⟩
  | 106 => ⟨S50, .f32⟩
  | 107 => ⟨S50, .f32⟩
  | 108 => ⟨S_, .f32⟩
  | 109 => ⟨S50, .f32⟩
  | 110 => ⟨S50, .f32⟩
  | 111 => ⟨S_, .f32⟩
  | 112 => ⟨S1000000, .f32⟩
  | 113 => ⟨S1000000, .i1⟩
  | 114 => ⟨S1000000, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S50, .f32⟩
  | 123 => ⟨S_, .f32⟩
  | 124 => ⟨S50, .f32⟩
  | 125 => ⟨S50, .f32⟩
  | 126 => ⟨S1, .f32⟩
  | 127 => ⟨S_, .f32⟩
  | _ => ⟨S1000000x10, .f32⟩

abbrev hbmTy0_3 (i : Nat) : BufTy := match i % 128 with
  | 0 => ⟨S50, .f32⟩
  | 1 => ⟨S50, .f32⟩
  | 2 => ⟨S50, .f32⟩
  | 3 => ⟨S50, .f32⟩
  | 4 => ⟨S1, .f32⟩
  | 5 => ⟨S50, .f32⟩
  | 6 => ⟨S50, .f32⟩
  | 7 => ⟨S50, .f32⟩
  | 8 => ⟨S1, .f32⟩
  | 9 => ⟨S51, .f32⟩
  | 10 => ⟨S1000000x1, .f32⟩
  | 11 => ⟨S1x51, .f32⟩
  | 12 => ⟨S1000000x51, .f32⟩
  | 13 => ⟨S1000000x51, .f32⟩
  | 14 => ⟨S1000000x51, .i1⟩
  | 15 => ⟨S1000000x51, .i32⟩
  | 16 => ⟨S_, .i32⟩
  | 17 => ⟨S1000000, .i32⟩
  | 18 => ⟨S_, .i32⟩
  | 19 => ⟨S1000000, .i32⟩
  | 20 => ⟨S1000000, .i32⟩
  | 21 => ⟨S_, .f32⟩
  | 22 => ⟨S50, .f32⟩
  | 23 => ⟨S1000000x1, .i32⟩
  | 24 => ⟨S50, .f32⟩
  | 25 => ⟨S_, .f32⟩
  | 26 => ⟨S1000000, .f32⟩
  | 27 => ⟨S_, .f32⟩
  | 28 => ⟨S50, .f32⟩
  | 29 => ⟨S1000000x1, .i32⟩
  | 30 => ⟨S50, .f32⟩
  | 31 => ⟨S50, .f32⟩
  | 32 => ⟨S50, .f32⟩
  | 33 => ⟨S_, .f32⟩
  | 34 => ⟨S50, .f32⟩
  | 35 => ⟨S50, .f32⟩
  | 36 => ⟨S_, .f32⟩
  | 37 => ⟨S50, .f32⟩
  | 38 => ⟨S50, .f32⟩
  | 39 => ⟨S50, .f32⟩
  | 40 => ⟨S50, .f32⟩
  | 41 => ⟨S_, .f32⟩
  | 42 => ⟨S50, .f32⟩
  | 43 => ⟨S50, .f32⟩
  | 44 => ⟨S_, .f32⟩
  | 45 => ⟨S50, .f32⟩
  | 46 => ⟨S50, .f32⟩
  | 47 => ⟨S50, .f32⟩
  | 48 => ⟨S50, .f32⟩
  | 49 => ⟨S50, .f32⟩
  | 50 => ⟨S_, .f32⟩
  | 51 => ⟨S_, .f32⟩
  | 52 => ⟨S_, .f32⟩
  | 53 => ⟨S_, .f32⟩
  | 54 => ⟨S_, .f32⟩
  | 55 => ⟨S1000000x1, .f32⟩
  | 56 => ⟨S1000000, .f32⟩
  | 57 => ⟨S50x1, .f32⟩
  | 58 => ⟨S50, .f32⟩
  | 59 => ⟨S50, .f32⟩
  | 60 => ⟨S50, .f32⟩
  | 61 => ⟨S_, .f32⟩
  | 62 => ⟨S50, .f32⟩
  | 63 => ⟨S50, .f32⟩
  | 64 => ⟨S_, .f32⟩
  | 65 => ⟨S50, .f32⟩
  | 66 => ⟨S50, .f32⟩
  | 67 => ⟨S_, .f32⟩
  | 68 => ⟨S1000000, .f32⟩
  | 69 => ⟨S1000000, .i1⟩
  | 70 => ⟨S1000000, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S50, .f32⟩
  | 79 => ⟨S_, .f32⟩
  | 80 => ⟨S50, .f32⟩
  | 81 => ⟨S50, .f32⟩
  | 82 => ⟨S1, .f32⟩
  | 83 => ⟨S_, .f32⟩
  | 84 => ⟨S50, .f32⟩
  | 85 => ⟨S50, .f32⟩
  | 86 => ⟨S50, .f32⟩
  | 87 => ⟨S50, .f32⟩
  | 88 => ⟨S1, .f32⟩
  | 89 => ⟨S50, .f32⟩
  | 90 => ⟨S50, .f32⟩
  | 91 => ⟨S50, .f32⟩
  | 92 => ⟨S1, .f32⟩
  | 93 => ⟨S51, .f32⟩
  | 94 => ⟨S1000000x1, .f32⟩
  | 95 => ⟨S1x51, .f32⟩
  | 96 => ⟨S1000000x51, .f32⟩
  | 97 => ⟨S1000000x51, .f32⟩
  | 98 => ⟨S1000000x51, .i1⟩
  | 99 => ⟨S1000000x51, .i32⟩
  | 100 => ⟨S_, .i32⟩
  | 101 => ⟨S1000000, .i32⟩
  | 102 => ⟨S_, .i32⟩
  | 103 => ⟨S1000000, .i32⟩
  | 104 => ⟨S1000000, .i32⟩
  | 105 => ⟨S_, .f32⟩
  | 106 => ⟨S50, .f32⟩
  | 107 => ⟨S1000000x1, .i32⟩
  | 108 => ⟨S50, .f32⟩
  | 109 => ⟨S_, .f32⟩
  | 110 => ⟨S1000000, .f32⟩
  | 111 => ⟨S_, .f32⟩
  | 112 => ⟨S50, .f32⟩
  | 113 => ⟨S1000000x1, .i32⟩
  | 114 => ⟨S50, .f32⟩
  | 115 => ⟨S50, .f32⟩
  | 116 => ⟨S50, .f32⟩
  | 117 => ⟨S_, .f32⟩
  | 118 => ⟨S50, .f32⟩
  | 119 => ⟨S50, .f32⟩
  | 120 => ⟨S_, .f32⟩
  | 121 => ⟨S50, .f32⟩
  | 122 => ⟨S50, .f32⟩
  | 123 => ⟨S50, .f32⟩
  | 124 => ⟨S50, .f32⟩
  | 125 => ⟨S_, .f32⟩
  | 126 => ⟨S50, .f32⟩
  | 127 => ⟨S50, .f32⟩
  | _ => ⟨S1000000x10, .f32⟩

abbrev hbmTy0_4 (i : Nat) : BufTy := match i % 128 with
  | 0 => ⟨S_, .f32⟩
  | 1 => ⟨S50, .f32⟩
  | 2 => ⟨S50, .f32⟩
  | 3 => ⟨S50, .f32⟩
  | 4 => ⟨S50, .f32⟩
  | 5 => ⟨S50, .f32⟩
  | 6 => ⟨S_, .f32⟩
  | 7 => ⟨S_, .f32⟩
  | 8 => ⟨S_, .f32⟩
  | 9 => ⟨S_, .f32⟩
  | 10 => ⟨S_, .f32⟩
  | 11 => ⟨S1000000x1, .f32⟩
  | 12 => ⟨S1000000, .f32⟩
  | 13 => ⟨S50x1, .f32⟩
  | 14 => ⟨S50, .f32⟩
  | 15 => ⟨S50, .f32⟩
  | 16 => ⟨S50, .f32⟩
  | 17 => ⟨S_, .f32⟩
  | 18 => ⟨S50, .f32⟩
  | 19 => ⟨S50, .f32⟩
  | 20 => ⟨S_, .f32⟩
  | 21 => ⟨S50, .f32⟩
  | 22 => ⟨S50, .f32⟩
  | 23 => ⟨S_, .f32⟩
  | 24 => ⟨S1000000, .f32⟩
  | 25 => ⟨S1000000, .i1⟩
  | 26 => ⟨S1000000, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S50, .f32⟩
  | 35 => ⟨S_, .f32⟩
  | 36 => ⟨S50, .f32⟩
  | 37 => ⟨S50, .f32⟩
  | 38 => ⟨S1, .f32⟩
  | 39 => ⟨S_, .f32⟩
  | 40 => ⟨S50, .f32⟩
  | 41 => ⟨S50, .f32⟩
  | 42 => ⟨S50, .f32⟩
  | 43 => ⟨S50, .f32⟩
  | 44 => ⟨S1, .f32⟩
  | 45 => ⟨S50, .f32⟩
  | 46 => ⟨S50, .f32⟩
  | 47 => ⟨S50, .f32⟩
  | 48 => ⟨S1, .f32⟩
  | 49 => ⟨S51, .f32⟩
  | 50 => ⟨S1000000x1, .f32⟩
  | 51 => ⟨S1x51, .f32⟩
  | 52 => ⟨S1000000x51, .f32⟩
  | 53 => ⟨S1000000x51, .f32⟩
  | 54 => ⟨S1000000x51, .i1⟩
  | 55 => ⟨S1000000x51, .i32⟩
  | 56 => ⟨S_, .i32⟩
  | 57 => ⟨S1000000, .i32⟩
  | 58 => ⟨S_, .i32⟩
  | 59 => ⟨S1000000, .i32⟩
  | 60 => ⟨S1000000, .i32⟩
  | 61 => ⟨S_, .f32⟩
  | 62 => ⟨S50, .f32⟩
  | 63 => ⟨S1000000x1, .i32⟩
  | 64 => ⟨S50, .f32⟩
  | 65 => ⟨S_, .f32⟩
  | 66 => ⟨S1000000, .f32⟩
  | 67 => ⟨S_, .f32⟩
  | 68 => ⟨S50, .f32⟩
  | 69 => ⟨S1000000x1, .i32⟩
  | 70 => ⟨S50, .f32⟩
  | 71 => ⟨S50, .f32⟩
  | 72 => ⟨S50, .f32⟩
  | 73 => ⟨S_, .f32⟩
  | 74 => ⟨S50, .f32⟩
  | 75 => ⟨S50, .f32⟩
  | 76 => ⟨S_, .f32⟩
  | 77 => ⟨S50, .f32⟩
  | 78 => ⟨S50, .f32⟩
  | 79 => ⟨S50, .f32⟩
  | 80 => ⟨S50, .f32⟩
  | 81 => ⟨S_, .f32⟩
  | 82 => ⟨S50, .f32⟩
  | 83 => ⟨S50, .f32⟩
  | 84 => ⟨S_, .f32⟩
  | 85 => ⟨S50, .f32⟩
  | 86 => ⟨S50, .f32⟩
  | 87 => ⟨S50, .f32⟩
  | 88 => ⟨S50, .f32⟩
  | 89 => ⟨S50, .f32⟩
  | 90 => ⟨S_, .f32⟩
  | 91 => ⟨S_, .f32⟩
  | 92 => ⟨S_, .f32⟩
  | 93 => ⟨S_, .f32⟩
  | 94 => ⟨S_, .f32⟩
  | 95 => ⟨S1000000x1, .f32⟩
  | 96 => ⟨S1000000, .f32⟩
  | 97 => ⟨S50x1, .f32⟩
  | 98 => ⟨S50, .f32⟩
  | 99 => ⟨S50, .f32⟩
  | 100 => ⟨S50, .f32⟩
  | 101 => ⟨S_, .f32⟩
  | 102 => ⟨S50, .f32⟩
  | 103 => ⟨S50, .f32⟩
  | 104 => ⟨S_, .f32⟩
  | 105 => ⟨S50, .f32⟩
  | 106 => ⟨S50, .f32⟩
  | 107 => ⟨S_, .f32⟩
  | 108 => ⟨S1000000, .f32⟩
  | 109 => ⟨S1000000, .i1⟩
  | 110 => ⟨S1000000, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S50, .f32⟩
  | 119 => ⟨S_, .f32⟩
  | 120 => ⟨S50, .f32⟩
  | 121 => ⟨S50, .f32⟩
  | 122 => ⟨S1, .f32⟩
  | 123 => ⟨S_, .f32⟩
  | 124 => ⟨S50, .f32⟩
  | 125 => ⟨S50, .f32⟩
  | 126 => ⟨S50, .f32⟩
  | 127 => ⟨S50, .f32⟩
  | _ => ⟨S1000000x10, .f32⟩

abbrev hbmTy0_5 (i : Nat) : BufTy := match i % 128 with
  | 0 => ⟨S1, .f32⟩
  | 1 => ⟨S50, .f32⟩
  | 2 => ⟨S50, .f32⟩
  | 3 => ⟨S50, .f32⟩
  | 4 => ⟨S1, .f32⟩
  | 5 => ⟨S51, .f32⟩
  | 6 => ⟨S1000000x1, .f32⟩
  | 7 => ⟨S1x51, .f32⟩
  | 8 => ⟨S1000000x51, .f32⟩
  | 9 => ⟨S1000000x51, .f32⟩
  | 10 => ⟨S1000000x51, .i1⟩
  | 11 => ⟨S1000000x51, .i32⟩
  | 12 => ⟨S_, .i32⟩
  | 13 => ⟨S1000000, .i32⟩
  | 14 => ⟨S_, .i32⟩
  | 15 => ⟨S1000000, .i32⟩
  | 16 => ⟨S1000000, .i32⟩
  | 17 => ⟨S_, .f32⟩
  | 18 => ⟨S50, .f32⟩
  | 19 => ⟨S1000000x1, .i32⟩
  | 20 => ⟨S50, .f32⟩
  | 21 => ⟨S_, .f32⟩
  | 22 => ⟨S1000000, .f32⟩
  | 23 => ⟨S_, .f32⟩
  | 24 => ⟨S50, .f32⟩
  | 25 => ⟨S1000000x1, .i32⟩
  | 26 => ⟨S50, .f32⟩
  | 27 => ⟨S50, .f32⟩
  | 28 => ⟨S50, .f32⟩
  | 29 => ⟨S_, .f32⟩
  | 30 => ⟨S50, .f32⟩
  | 31 => ⟨S50, .f32⟩
  | 32 => ⟨S_, .f32⟩
  | 33 => ⟨S50, .f32⟩
  | 34 => ⟨S50, .f32⟩
  | 35 => ⟨S50, .f32⟩
  | 36 => ⟨S50, .f32⟩
  | 37 => ⟨S_, .f32⟩
  | 38 => ⟨S50, .f32⟩
  | 39 => ⟨S50, .f32⟩
  | 40 => ⟨S_, .f32⟩
  | 41 => ⟨S50, .f32⟩
  | 42 => ⟨S50, .f32⟩
  | 43 => ⟨S50, .f32⟩
  | 44 => ⟨S50, .f32⟩
  | 45 => ⟨S50, .f32⟩
  | 46 => ⟨S_, .f32⟩
  | 47 => ⟨S_, .f32⟩
  | 48 => ⟨S_, .f32⟩
  | 49 => ⟨S_, .f32⟩
  | 50 => ⟨S_, .f32⟩
  | 51 => ⟨S1000000x10, .f32⟩
  | 52 => ⟨S1000000x10, .f32⟩
  | 53 => ⟨S1000000x10, .f32⟩
  | 54 => ⟨S_, .f32⟩
  | 55 => ⟨S_, .f32⟩
  | 56 => ⟨S_, .f32⟩
  | 57 => ⟨S_, .f32⟩
  | 58 => ⟨S_, .f32⟩
  | _ => ⟨S1000000x10, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1000000x10, .f32⟩

abbrev bufTy : (tb : Table) → Fin (tcTables nBuf tb) → BufTy
  | .hbm, ⟨i, _⟩ => hbmTy i
  | _, _ => ⟨S1000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_cst : Ref sig .tc := ⟨.hbm, 39, rfl⟩
abbrev main_call0_v3 : Ref sig .tc := ⟨.hbm, 40, rfl⟩
abbrev main_call0_v4 : Ref sig .tc := ⟨.hbm, 41, rfl⟩
abbrev main_call0_cst_0 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_v15 : Ref sig .tc := ⟨.hbm, 54, rfl⟩
abbrev main_call0_v16 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_cst_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_9 : Ref sig .tc := ⟨.hbm, 72, rfl⟩
abbrev main_v38 : Ref sig .tc := ⟨.hbm, 73, rfl⟩
abbrev main_cst_10 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_11 : Ref sig .tc := ⟨.hbm, 80, rfl⟩
abbrev main_v44 : Ref sig .tc := ⟨.hbm, 81, rfl⟩
abbrev main_v45 : Ref sig .tc := ⟨.hbm, 82, rfl⟩
abbrev main_cst_12 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_13 : Ref sig .tc := ⟨.hbm, 88, rfl⟩
abbrev main_v50 : Ref sig .tc := ⟨.hbm, 89, rfl⟩
abbrev main_v51 : Ref sig .tc := ⟨.hbm, 90, rfl⟩
abbrev main_cst_14 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_15 : Ref sig .tc := ⟨.hbm, 97, rfl⟩
abbrev main_v57 : Ref sig .tc := ⟨.hbm, 98, rfl⟩
abbrev main_cst_16 : Ref sig .tc := ⟨.hbm, 99, rfl⟩
abbrev main_v58 : Ref sig .tc := ⟨.hbm, 100, rfl⟩
abbrev main_cst_17 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_18 : Ref sig .tc := ⟨.hbm, 109, rfl⟩
abbrev main_v66 : Ref sig .tc := ⟨.hbm, 110, rfl⟩
abbrev main_v67 : Ref sig .tc := ⟨.hbm, 111, rfl⟩
abbrev main_cst_19 : Ref sig .tc := ⟨.hbm, 112, rfl⟩
abbrev main_v68 : Ref sig .tc := ⟨.hbm, 113, rfl⟩
abbrev main_v69 : Ref sig .tc := ⟨.hbm, 114, rfl⟩
abbrev main_cst_20 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_21 : Ref sig .tc := ⟨.hbm, 119, rfl⟩
abbrev main_cst_22 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_cst : Ref sig .tc := ⟨.hbm, 124, rfl⟩
abbrev main_call1_v3 : Ref sig .tc := ⟨.hbm, 125, rfl⟩
abbrev main_call1_v4 : Ref sig .tc := ⟨.hbm, 126, rfl⟩
abbrev main_call1_cst_0 : Ref sig .tc := ⟨.hbm, 127, rfl⟩
abbrev main_call1_v5 : Ref sig .tc := ⟨.hbm, 128, rfl⟩
abbrev main_call1_v6 : Ref sig .tc := ⟨.hbm, 129, rfl⟩
abbrev main_call1_v7 : Ref sig .tc := ⟨.hbm, 130, rfl⟩
abbrev main_call1_cst_1 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_call1_v11 : Ref sig .tc := ⟨.hbm, 135, rfl⟩
abbrev main_call1_v12 : Ref sig .tc := ⟨.hbm, 136, rfl⟩
abbrev main_call1_v13 : Ref sig .tc := ⟨.hbm, 137, rfl⟩
abbrev main_call1_v14 : Ref sig .tc := ⟨.hbm, 138, rfl⟩
abbrev main_call1_v15 : Ref sig .tc := ⟨.hbm, 139, rfl⟩
abbrev main_call1_v16 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_c_23 : Ref sig .tc := ⟨.hbm, 148, rfl⟩
abbrev main_v80 : Ref sig .tc := ⟨.hbm, 149, rfl⟩
abbrev main_c_24 : Ref sig .tc := ⟨.hbm, 150, rfl⟩
abbrev main_v81 : Ref sig .tc := ⟨.hbm, 151, rfl⟩
abbrev main_v82 : Ref sig .tc := ⟨.hbm, 152, rfl⟩
abbrev main_cst_25 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_cst_26 : Ref sig .tc := ⟨.hbm, 157, rfl⟩
abbrev main_v86 : Ref sig .tc := ⟨.hbm, 158, rfl⟩
abbrev main_cst_27 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_28 : Ref sig .tc := ⟨.hbm, 165, rfl⟩
abbrev main_v92 : Ref sig .tc := ⟨.hbm, 166, rfl⟩
abbrev main_v93 : Ref sig .tc := ⟨.hbm, 167, rfl⟩
abbrev main_cst_29 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_cst_30 : Ref sig .tc := ⟨.hbm, 173, rfl⟩
abbrev main_v98 : Ref sig .tc := ⟨.hbm, 174, rfl⟩
abbrev main_v99 : Ref sig .tc := ⟨.hbm, 175, rfl⟩
abbrev main_cst_31 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_cst_32 : Ref sig .tc := ⟨.hbm, 182, rfl⟩
abbrev main_v105 : Ref sig .tc := ⟨.hbm, 183, rfl⟩
abbrev main_cst_33 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_cst_34 : Ref sig .tc := ⟨.hbm, 193, rfl⟩
abbrev main_v114 : Ref sig .tc := ⟨.hbm, 194, rfl⟩
abbrev main_v115 : Ref sig .tc := ⟨.hbm, 195, rfl⟩
abbrev main_cst_35 : Ref sig .tc := ⟨.hbm, 196, rfl⟩
abbrev main_v116 : Ref sig .tc := ⟨.hbm, 197, rfl⟩
abbrev main_v117 : Ref sig .tc := ⟨.hbm, 198, rfl⟩
abbrev main_cst_36 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_37 : Ref sig .tc := ⟨.hbm, 203, rfl⟩
abbrev main_cst_38 : Ref sig .tc := ⟨.hbm, 204, rfl⟩
abbrev main_call2_v0 : Ref sig .tc := ⟨.hbm, 205, rfl⟩
abbrev main_call2_v1 : Ref sig .tc := ⟨.hbm, 206, rfl⟩
abbrev main_call2_v2 : Ref sig .tc := ⟨.hbm, 207, rfl⟩
abbrev main_call2_cst : Ref sig .tc := ⟨.hbm, 208, rfl⟩
abbrev main_call2_v3 : Ref sig .tc := ⟨.hbm, 209, rfl⟩
abbrev main_call2_v4 : Ref sig .tc := ⟨.hbm, 210, rfl⟩
abbrev main_call2_cst_0 : Ref sig .tc := ⟨.hbm, 211, rfl⟩
abbrev main_call2_v5 : Ref sig .tc := ⟨.hbm, 212, rfl⟩
abbrev main_call2_v6 : Ref sig .tc := ⟨.hbm, 213, rfl⟩
abbrev main_call2_v7 : Ref sig .tc := ⟨.hbm, 214, rfl⟩
abbrev main_call2_cst_1 : Ref sig .tc := ⟨.hbm, 215, rfl⟩
abbrev main_call2_v8 : Ref sig .tc := ⟨.hbm, 216, rfl⟩
abbrev main_call2_v9 : Ref sig .tc := ⟨.hbm, 217, rfl⟩
abbrev main_call2_v10 : Ref sig .tc := ⟨.hbm, 218, rfl⟩
abbrev main_call2_v11 : Ref sig .tc := ⟨.hbm, 219, rfl⟩
abbrev main_call2_v12 : Ref sig .tc := ⟨.hbm, 220, rfl⟩
abbrev main_call2_v13 : Ref sig .tc := ⟨.hbm, 221, rfl⟩
abbrev main_call2_v14 : Ref sig .tc := ⟨.hbm, 222, rfl⟩
abbrev main_call2_v15 : Ref sig .tc := ⟨.hbm, 223, rfl⟩
abbrev main_call2_v16 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_c_39 : Ref sig .tc := ⟨.hbm, 232, rfl⟩
abbrev main_v128 : Ref sig .tc := ⟨.hbm, 233, rfl⟩
abbrev main_c_40 : Ref sig .tc := ⟨.hbm, 234, rfl⟩
abbrev main_v129 : Ref sig .tc := ⟨.hbm, 235, rfl⟩
abbrev main_v130 : Ref sig .tc := ⟨.hbm, 236, rfl⟩
abbrev main_cst_41 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_cst_42 : Ref sig .tc := ⟨.hbm, 241, rfl⟩
abbrev main_v134 : Ref sig .tc := ⟨.hbm, 242, rfl⟩
abbrev main_cst_43 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_cst_44 : Ref sig .tc := ⟨.hbm, 249, rfl⟩
abbrev main_v140 : Ref sig .tc := ⟨.hbm, 250, rfl⟩
abbrev main_v141 : Ref sig .tc := ⟨.hbm, 251, rfl⟩
abbrev main_cst_45 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_cst_46 : Ref sig .tc := ⟨.hbm, 257, rfl⟩
abbrev main_v146 : Ref sig .tc := ⟨.hbm, 258, rfl⟩
abbrev main_v147 : Ref sig .tc := ⟨.hbm, 259, rfl⟩
abbrev main_cst_47 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_48 : Ref sig .tc := ⟨.hbm, 266, rfl⟩
abbrev main_v153 : Ref sig .tc := ⟨.hbm, 267, rfl⟩
abbrev main_cst_49 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_cst_50 : Ref sig .tc := ⟨.hbm, 277, rfl⟩
abbrev main_v162 : Ref sig .tc := ⟨.hbm, 278, rfl⟩
abbrev main_v163 : Ref sig .tc := ⟨.hbm, 279, rfl⟩
abbrev main_cst_51 : Ref sig .tc := ⟨.hbm, 280, rfl⟩
abbrev main_v164 : Ref sig .tc := ⟨.hbm, 281, rfl⟩
abbrev main_v165 : Ref sig .tc := ⟨.hbm, 282, rfl⟩
abbrev main_cst_52 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_cst_53 : Ref sig .tc := ⟨.hbm, 287, rfl⟩
abbrev main_cst_54 : Ref sig .tc := ⟨.hbm, 288, rfl⟩
abbrev main_call3_v0 : Ref sig .tc := ⟨.hbm, 289, rfl⟩
abbrev main_call3_v1 : Ref sig .tc := ⟨.hbm, 290, rfl⟩
abbrev main_call3_v2 : Ref sig .tc := ⟨.hbm, 291, rfl⟩
abbrev main_call3_cst : Ref sig .tc := ⟨.hbm, 292, rfl⟩
abbrev main_call3_v3 : Ref sig .tc := ⟨.hbm, 293, rfl⟩
abbrev main_call3_v4 : Ref sig .tc := ⟨.hbm, 294, rfl⟩
abbrev main_call3_cst_0 : Ref sig .tc := ⟨.hbm, 295, rfl⟩
abbrev main_call3_v5 : Ref sig .tc := ⟨.hbm, 296, rfl⟩
abbrev main_call3_v6 : Ref sig .tc := ⟨.hbm, 297, rfl⟩
abbrev main_call3_v7 : Ref sig .tc := ⟨.hbm, 298, rfl⟩
abbrev main_call3_cst_1 : Ref sig .tc := ⟨.hbm, 299, rfl⟩
abbrev main_call3_v8 : Ref sig .tc := ⟨.hbm, 300, rfl⟩
abbrev main_call3_v9 : Ref sig .tc := ⟨.hbm, 301, rfl⟩
abbrev main_call3_v10 : Ref sig .tc := ⟨.hbm, 302, rfl⟩
abbrev main_call3_v11 : Ref sig .tc := ⟨.hbm, 303, rfl⟩
abbrev main_call3_v12 : Ref sig .tc := ⟨.hbm, 304, rfl⟩
abbrev main_call3_v13 : Ref sig .tc := ⟨.hbm, 305, rfl⟩
abbrev main_call3_v14 : Ref sig .tc := ⟨.hbm, 306, rfl⟩
abbrev main_call3_v15 : Ref sig .tc := ⟨.hbm, 307, rfl⟩
abbrev main_call3_v16 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_c_55 : Ref sig .tc := ⟨.hbm, 316, rfl⟩
abbrev main_v176 : Ref sig .tc := ⟨.hbm, 317, rfl⟩
abbrev main_c_56 : Ref sig .tc := ⟨.hbm, 318, rfl⟩
abbrev main_v177 : Ref sig .tc := ⟨.hbm, 319, rfl⟩
abbrev main_v178 : Ref sig .tc := ⟨.hbm, 320, rfl⟩
abbrev main_cst_57 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_cst_58 : Ref sig .tc := ⟨.hbm, 325, rfl⟩
abbrev main_v182 : Ref sig .tc := ⟨.hbm, 326, rfl⟩
abbrev main_cst_59 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_cst_60 : Ref sig .tc := ⟨.hbm, 333, rfl⟩
abbrev main_v188 : Ref sig .tc := ⟨.hbm, 334, rfl⟩
abbrev main_v189 : Ref sig .tc := ⟨.hbm, 335, rfl⟩
abbrev main_cst_61 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_cst_62 : Ref sig .tc := ⟨.hbm, 341, rfl⟩
abbrev main_v194 : Ref sig .tc := ⟨.hbm, 342, rfl⟩
abbrev main_v195 : Ref sig .tc := ⟨.hbm, 343, rfl⟩
abbrev main_cst_63 : Ref sig .tc := ⟨.hbm, 344, rfl⟩
abbrev main_v196 : Ref sig .tc := ⟨.hbm, 345, rfl⟩
abbrev main_v197 : Ref sig .tc := ⟨.hbm, 346, rfl⟩
abbrev main_v198 : Ref sig .tc := ⟨.hbm, 347, rfl⟩
abbrev main_v199 : Ref sig .tc := ⟨.hbm, 348, rfl⟩
abbrev main_v200 : Ref sig .tc := ⟨.hbm, 349, rfl⟩
abbrev main_cst_64 : Ref sig .tc := ⟨.hbm, 350, rfl⟩
abbrev main_v201 : Ref sig .tc := ⟨.hbm, 351, rfl⟩
abbrev main_cst_65 : Ref sig .tc := ⟨.hbm, 352, rfl⟩
abbrev main_v202 : Ref sig .tc := ⟨.hbm, 353, rfl⟩
abbrev main_v203 : Ref sig .tc := ⟨.hbm, 354, rfl⟩
abbrev main_v204 : Ref sig .tc := ⟨.hbm, 355, rfl⟩
abbrev main_v205 : Ref sig .tc := ⟨.hbm, 356, rfl⟩
abbrev main_v206 : Ref sig .tc := ⟨.hbm, 357, rfl⟩
abbrev main_v207 : Ref sig .tc := ⟨.hbm, 358, rfl⟩
abbrev main_v208 : Ref sig .tc := ⟨.hbm, 359, rfl⟩
abbrev main_v209 : Ref sig .tc := ⟨.hbm, 360, rfl⟩
abbrev main_cst_66 : Ref sig .tc := ⟨.hbm, 361, rfl⟩
abbrev main_v210 : Ref sig .tc := ⟨.hbm, 362, rfl⟩
abbrev main_v211 : Ref sig .tc := ⟨.hbm, 363, rfl⟩
abbrev main_cst_67 : Ref sig .tc := ⟨.hbm, 364, rfl⟩
abbrev main_v212 : Ref sig .tc := ⟨.hbm, 365, rfl⟩
abbrev main_v213 : Ref sig .tc := ⟨.hbm, 366, rfl⟩
abbrev main_cst_68 : Ref sig .tc := ⟨.hbm, 367, rfl⟩
abbrev main_v214 : Ref sig .tc := ⟨.hbm, 368, rfl⟩
abbrev main_v215 : Ref sig .tc := ⟨.hbm, 369, rfl⟩
abbrev main_v216 : Ref sig .tc := ⟨.hbm, 370, rfl⟩
abbrev main_cst_69 : Ref sig .tc := ⟨.hbm, 371, rfl⟩
abbrev main_cst_70 : Ref sig .tc := ⟨.hbm, 372, rfl⟩
abbrev main_call4_v0 : Ref sig .tc := ⟨.hbm, 373, rfl⟩
abbrev main_call4_v1 : Ref sig .tc := ⟨.hbm, 374, rfl⟩
abbrev main_call4_v2 : Ref sig .tc := ⟨.hbm, 375, rfl⟩
abbrev main_call4_cst : Ref sig .tc := ⟨.hbm, 376, rfl⟩
abbrev main_call4_v3 : Ref sig .tc := ⟨.hbm, 377, rfl⟩
abbrev main_call4_v4 : Ref sig .tc := ⟨.hbm, 378, rfl⟩
abbrev main_call4_cst_0 : Ref sig .tc := ⟨.hbm, 379, rfl⟩
abbrev main_call4_v5 : Ref sig .tc := ⟨.hbm, 380, rfl⟩
abbrev main_call4_v6 : Ref sig .tc := ⟨.hbm, 381, rfl⟩
abbrev main_call4_v7 : Ref sig .tc := ⟨.hbm, 382, rfl⟩
abbrev main_call4_cst_1 : Ref sig .tc := ⟨.hbm, 383, rfl⟩
abbrev main_call4_v8 : Ref sig .tc := ⟨.hbm, 384, rfl⟩
abbrev main_call4_v9 : Ref sig .tc := ⟨.hbm, 385, rfl⟩
abbrev main_call4_v10 : Ref sig .tc := ⟨.hbm, 386, rfl⟩
abbrev main_call4_v11 : Ref sig .tc := ⟨.hbm, 387, rfl⟩
abbrev main_call4_v12 : Ref sig .tc := ⟨.hbm, 388, rfl⟩
abbrev main_call4_v13 : Ref sig .tc := ⟨.hbm, 389, rfl⟩
abbrev main_call4_v14 : Ref sig .tc := ⟨.hbm, 390, rfl⟩
abbrev main_call4_v15 : Ref sig .tc := ⟨.hbm, 391, rfl⟩
abbrev main_call4_v16 : Ref sig .tc := ⟨.hbm, 392, rfl⟩
abbrev main_v217 : Ref sig .tc := ⟨.hbm, 393, rfl⟩
abbrev main_v218 : Ref sig .tc := ⟨.hbm, 394, rfl⟩
abbrev main_v219 : Ref sig .tc := ⟨.hbm, 395, rfl⟩
abbrev main_v220 : Ref sig .tc := ⟨.hbm, 396, rfl⟩
abbrev main_v221 : Ref sig .tc := ⟨.hbm, 397, rfl⟩
abbrev main_v222 : Ref sig .tc := ⟨.hbm, 398, rfl⟩
abbrev main_v223 : Ref sig .tc := ⟨.hbm, 399, rfl⟩
abbrev main_c_71 : Ref sig .tc := ⟨.hbm, 400, rfl⟩
abbrev main_v224 : Ref sig .tc := ⟨.hbm, 401, rfl⟩
abbrev main_c_72 : Ref sig .tc := ⟨.hbm, 402, rfl⟩
abbrev main_v225 : Ref sig .tc := ⟨.hbm, 403, rfl⟩
abbrev main_v226 : Ref sig .tc := ⟨.hbm, 404, rfl⟩
abbrev main_cst_73 : Ref sig .tc := ⟨.hbm, 405, rfl⟩
abbrev main_v227 : Ref sig .tc := ⟨.hbm, 406, rfl⟩
abbrev main_v228 : Ref sig .tc := ⟨.hbm, 407, rfl⟩
abbrev main_v229 : Ref sig .tc := ⟨.hbm, 408, rfl⟩
abbrev main_cst_74 : Ref sig .tc := ⟨.hbm, 409, rfl⟩
abbrev main_v230 : Ref sig .tc := ⟨.hbm, 410, rfl⟩
abbrev main_cst_75 : Ref sig .tc := ⟨.hbm, 411, rfl⟩
abbrev main_v231 : Ref sig .tc := ⟨.hbm, 412, rfl⟩
abbrev main_v232 : Ref sig .tc := ⟨.hbm, 413, rfl⟩
abbrev main_v233 : Ref sig .tc := ⟨.hbm, 414, rfl⟩
abbrev main_v234 : Ref sig .tc := ⟨.hbm, 415, rfl⟩
abbrev main_v235 : Ref sig .tc := ⟨.hbm, 416, rfl⟩
abbrev main_cst_76 : Ref sig .tc := ⟨.hbm, 417, rfl⟩
abbrev main_v236 : Ref sig .tc := ⟨.hbm, 418, rfl⟩
abbrev main_v237 : Ref sig .tc := ⟨.hbm, 419, rfl⟩
abbrev main_cst_77 : Ref sig .tc := ⟨.hbm, 420, rfl⟩
abbrev main_v238 : Ref sig .tc := ⟨.hbm, 421, rfl⟩
abbrev main_v239 : Ref sig .tc := ⟨.hbm, 422, rfl⟩
abbrev main_v240 : Ref sig .tc := ⟨.hbm, 423, rfl⟩
abbrev main_v241 : Ref sig .tc := ⟨.hbm, 424, rfl⟩
abbrev main_cst_78 : Ref sig .tc := ⟨.hbm, 425, rfl⟩
abbrev main_v242 : Ref sig .tc := ⟨.hbm, 426, rfl⟩
abbrev main_v243 : Ref sig .tc := ⟨.hbm, 427, rfl⟩
abbrev main_cst_79 : Ref sig .tc := ⟨.hbm, 428, rfl⟩
abbrev main_v244 : Ref sig .tc := ⟨.hbm, 429, rfl⟩
abbrev main_v245 : Ref sig .tc := ⟨.hbm, 430, rfl⟩
abbrev main_v246 : Ref sig .tc := ⟨.hbm, 431, rfl⟩
abbrev main_v247 : Ref sig .tc := ⟨.hbm, 432, rfl⟩
abbrev main_v248 : Ref sig .tc := ⟨.hbm, 433, rfl⟩
abbrev main_cst_80 : Ref sig .tc := ⟨.hbm, 434, rfl⟩
abbrev main_v249 : Ref sig .tc := ⟨.hbm, 435, rfl⟩
abbrev main_cst_81 : Ref sig .tc := ⟨.hbm, 436, rfl⟩
abbrev main_v250 : Ref sig .tc := ⟨.hbm, 437, rfl⟩
abbrev main_v251 : Ref sig .tc := ⟨.hbm, 438, rfl⟩
abbrev main_v252 : Ref sig .tc := ⟨.hbm, 439, rfl⟩
abbrev main_v253 : Ref sig .tc := ⟨.hbm, 440, rfl⟩
abbrev main_v254 : Ref sig .tc := ⟨.hbm, 441, rfl⟩
abbrev main_v255 : Ref sig .tc := ⟨.hbm, 442, rfl⟩
abbrev main_v256 : Ref sig .tc := ⟨.hbm, 443, rfl⟩
abbrev main_v257 : Ref sig .tc := ⟨.hbm, 444, rfl⟩
abbrev main_cst_82 : Ref sig .tc := ⟨.hbm, 445, rfl⟩
abbrev main_v258 : Ref sig .tc := ⟨.hbm, 446, rfl⟩
abbrev main_v259 : Ref sig .tc := ⟨.hbm, 447, rfl⟩
abbrev main_cst_83 : Ref sig .tc := ⟨.hbm, 448, rfl⟩
abbrev main_v260 : Ref sig .tc := ⟨.hbm, 449, rfl⟩
abbrev main_v261 : Ref sig .tc := ⟨.hbm, 450, rfl⟩
abbrev main_cst_84 : Ref sig .tc := ⟨.hbm, 451, rfl⟩
abbrev main_v262 : Ref sig .tc := ⟨.hbm, 452, rfl⟩
abbrev main_v263 : Ref sig .tc := ⟨.hbm, 453, rfl⟩
abbrev main_v264 : Ref sig .tc := ⟨.hbm, 454, rfl⟩
abbrev main_cst_85 : Ref sig .tc := ⟨.hbm, 455, rfl⟩
abbrev main_cst_86 : Ref sig .tc := ⟨.hbm, 456, rfl⟩
abbrev main_call5_v0 : Ref sig .tc := ⟨.hbm, 457, rfl⟩
abbrev main_call5_v1 : Ref sig .tc := ⟨.hbm, 458, rfl⟩
abbrev main_call5_v2 : Ref sig .tc := ⟨.hbm, 459, rfl⟩
abbrev main_call5_cst : Ref sig .tc := ⟨.hbm, 460, rfl⟩
abbrev main_call5_v3 : Ref sig .tc := ⟨.hbm, 461, rfl⟩
abbrev main_call5_v4 : Ref sig .tc := ⟨.hbm, 462, rfl⟩
abbrev main_call5_cst_0 : Ref sig .tc := ⟨.hbm, 463, rfl⟩
abbrev main_call5_v5 : Ref sig .tc := ⟨.hbm, 464, rfl⟩
abbrev main_call5_v6 : Ref sig .tc := ⟨.hbm, 465, rfl⟩
abbrev main_call5_v7 : Ref sig .tc := ⟨.hbm, 466, rfl⟩
abbrev main_call5_cst_1 : Ref sig .tc := ⟨.hbm, 467, rfl⟩
abbrev main_call5_v8 : Ref sig .tc := ⟨.hbm, 468, rfl⟩
abbrev main_call5_v9 : Ref sig .tc := ⟨.hbm, 469, rfl⟩
abbrev main_call5_v10 : Ref sig .tc := ⟨.hbm, 470, rfl⟩
abbrev main_call5_v11 : Ref sig .tc := ⟨.hbm, 471, rfl⟩
abbrev main_call5_v12 : Ref sig .tc := ⟨.hbm, 472, rfl⟩
abbrev main_call5_v13 : Ref sig .tc := ⟨.hbm, 473, rfl⟩
abbrev main_call5_v14 : Ref sig .tc := ⟨.hbm, 474, rfl⟩
abbrev main_call5_v15 : Ref sig .tc := ⟨.hbm, 475, rfl⟩
abbrev main_call5_v16 : Ref sig .tc := ⟨.hbm, 476, rfl⟩
abbrev main_v265 : Ref sig .tc := ⟨.hbm, 477, rfl⟩
abbrev main_v266 : Ref sig .tc := ⟨.hbm, 478, rfl⟩
abbrev main_v267 : Ref sig .tc := ⟨.hbm, 479, rfl⟩
abbrev main_v268 : Ref sig .tc := ⟨.hbm, 480, rfl⟩
abbrev main_v269 : Ref sig .tc := ⟨.hbm, 481, rfl⟩
abbrev main_v270 : Ref sig .tc := ⟨.hbm, 482, rfl⟩
abbrev main_v271 : Ref sig .tc := ⟨.hbm, 483, rfl⟩
abbrev main_c_87 : Ref sig .tc := ⟨.hbm, 484, rfl⟩
abbrev main_v272 : Ref sig .tc := ⟨.hbm, 485, rfl⟩
abbrev main_c_88 : Ref sig .tc := ⟨.hbm, 486, rfl⟩
abbrev main_v273 : Ref sig .tc := ⟨.hbm, 487, rfl⟩
abbrev main_v274 : Ref sig .tc := ⟨.hbm, 488, rfl⟩
abbrev main_cst_89 : Ref sig .tc := ⟨.hbm, 489, rfl⟩
abbrev main_v275 : Ref sig .tc := ⟨.hbm, 490, rfl⟩
abbrev main_v276 : Ref sig .tc := ⟨.hbm, 491, rfl⟩
abbrev main_v277 : Ref sig .tc := ⟨.hbm, 492, rfl⟩
abbrev main_cst_90 : Ref sig .tc := ⟨.hbm, 493, rfl⟩
abbrev main_v278 : Ref sig .tc := ⟨.hbm, 494, rfl⟩
abbrev main_cst_91 : Ref sig .tc := ⟨.hbm, 495, rfl⟩
abbrev main_v279 : Ref sig .tc := ⟨.hbm, 496, rfl⟩
abbrev main_v280 : Ref sig .tc := ⟨.hbm, 497, rfl⟩
abbrev main_v281 : Ref sig .tc := ⟨.hbm, 498, rfl⟩
abbrev main_v282 : Ref sig .tc := ⟨.hbm, 499, rfl⟩
abbrev main_v283 : Ref sig .tc := ⟨.hbm, 500, rfl⟩
abbrev main_cst_92 : Ref sig .tc := ⟨.hbm, 501, rfl⟩
abbrev main_v284 : Ref sig .tc := ⟨.hbm, 502, rfl⟩
abbrev main_v285 : Ref sig .tc := ⟨.hbm, 503, rfl⟩
abbrev main_cst_93 : Ref sig .tc := ⟨.hbm, 504, rfl⟩
abbrev main_v286 : Ref sig .tc := ⟨.hbm, 505, rfl⟩
abbrev main_v287 : Ref sig .tc := ⟨.hbm, 506, rfl⟩
abbrev main_v288 : Ref sig .tc := ⟨.hbm, 507, rfl⟩
abbrev main_v289 : Ref sig .tc := ⟨.hbm, 508, rfl⟩
abbrev main_cst_94 : Ref sig .tc := ⟨.hbm, 509, rfl⟩
abbrev main_v290 : Ref sig .tc := ⟨.hbm, 510, rfl⟩
abbrev main_v291 : Ref sig .tc := ⟨.hbm, 511, rfl⟩
abbrev main_cst_95 : Ref sig .tc := ⟨.hbm, 512, rfl⟩
abbrev main_v292 : Ref sig .tc := ⟨.hbm, 513, rfl⟩
abbrev main_v293 : Ref sig .tc := ⟨.hbm, 514, rfl⟩
abbrev main_v294 : Ref sig .tc := ⟨.hbm, 515, rfl⟩
abbrev main_v295 : Ref sig .tc := ⟨.hbm, 516, rfl⟩
abbrev main_v296 : Ref sig .tc := ⟨.hbm, 517, rfl⟩
abbrev main_cst_96 : Ref sig .tc := ⟨.hbm, 518, rfl⟩
abbrev main_v297 : Ref sig .tc := ⟨.hbm, 519, rfl⟩
abbrev main_cst_97 : Ref sig .tc := ⟨.hbm, 520, rfl⟩
abbrev main_v298 : Ref sig .tc := ⟨.hbm, 521, rfl⟩
abbrev main_v299 : Ref sig .tc := ⟨.hbm, 522, rfl⟩
abbrev main_v300 : Ref sig .tc := ⟨.hbm, 523, rfl⟩
abbrev main_v301 : Ref sig .tc := ⟨.hbm, 524, rfl⟩
abbrev main_v302 : Ref sig .tc := ⟨.hbm, 525, rfl⟩
abbrev main_v303 : Ref sig .tc := ⟨.hbm, 526, rfl⟩
abbrev main_v304 : Ref sig .tc := ⟨.hbm, 527, rfl⟩
abbrev main_v305 : Ref sig .tc := ⟨.hbm, 528, rfl⟩
abbrev main_cst_98 : Ref sig .tc := ⟨.hbm, 529, rfl⟩
abbrev main_v306 : Ref sig .tc := ⟨.hbm, 530, rfl⟩
abbrev main_v307 : Ref sig .tc := ⟨.hbm, 531, rfl⟩
abbrev main_cst_99 : Ref sig .tc := ⟨.hbm, 532, rfl⟩
abbrev main_v308 : Ref sig .tc := ⟨.hbm, 533, rfl⟩
abbrev main_v309 : Ref sig .tc := ⟨.hbm, 534, rfl⟩
abbrev main_cst_100 : Ref sig .tc := ⟨.hbm, 535, rfl⟩
abbrev main_v310 : Ref sig .tc := ⟨.hbm, 536, rfl⟩
abbrev main_v311 : Ref sig .tc := ⟨.hbm, 537, rfl⟩
abbrev main_v312 : Ref sig .tc := ⟨.hbm, 538, rfl⟩
abbrev main_cst_101 : Ref sig .tc := ⟨.hbm, 539, rfl⟩
abbrev main_cst_102 : Ref sig .tc := ⟨.hbm, 540, rfl⟩
abbrev main_call6_v0 : Ref sig .tc := ⟨.hbm, 541, rfl⟩
abbrev main_call6_v1 : Ref sig .tc := ⟨.hbm, 542, rfl⟩
abbrev main_call6_v2 : Ref sig .tc := ⟨.hbm, 543, rfl⟩
abbrev main_call6_cst : Ref sig .tc := ⟨.hbm, 544, rfl⟩
abbrev main_call6_v3 : Ref sig .tc := ⟨.hbm, 545, rfl⟩
abbrev main_call6_v4 : Ref sig .tc := ⟨.hbm, 546, rfl⟩
abbrev main_call6_cst_0 : Ref sig .tc := ⟨.hbm, 547, rfl⟩
abbrev main_call6_v5 : Ref sig .tc := ⟨.hbm, 548, rfl⟩
abbrev main_call6_v6 : Ref sig .tc := ⟨.hbm, 549, rfl⟩
abbrev main_call6_v7 : Ref sig .tc := ⟨.hbm, 550, rfl⟩
abbrev main_call6_cst_1 : Ref sig .tc := ⟨.hbm, 551, rfl⟩
abbrev main_call6_v8 : Ref sig .tc := ⟨.hbm, 552, rfl⟩
abbrev main_call6_v9 : Ref sig .tc := ⟨.hbm, 553, rfl⟩
abbrev main_call6_v10 : Ref sig .tc := ⟨.hbm, 554, rfl⟩
abbrev main_call6_v11 : Ref sig .tc := ⟨.hbm, 555, rfl⟩
abbrev main_call6_v12 : Ref sig .tc := ⟨.hbm, 556, rfl⟩
abbrev main_call6_v13 : Ref sig .tc := ⟨.hbm, 557, rfl⟩
abbrev main_call6_v14 : Ref sig .tc := ⟨.hbm, 558, rfl⟩
abbrev main_call6_v15 : Ref sig .tc := ⟨.hbm, 559, rfl⟩
abbrev main_call6_v16 : Ref sig .tc := ⟨.hbm, 560, rfl⟩
abbrev main_v313 : Ref sig .tc := ⟨.hbm, 561, rfl⟩
abbrev main_v314 : Ref sig .tc := ⟨.hbm, 562, rfl⟩
abbrev main_v315 : Ref sig .tc := ⟨.hbm, 563, rfl⟩
abbrev main_v316 : Ref sig .tc := ⟨.hbm, 564, rfl⟩
abbrev main_v317 : Ref sig .tc := ⟨.hbm, 565, rfl⟩
abbrev main_v318 : Ref sig .tc := ⟨.hbm, 566, rfl⟩
abbrev main_v319 : Ref sig .tc := ⟨.hbm, 567, rfl⟩
abbrev main_c_103 : Ref sig .tc := ⟨.hbm, 568, rfl⟩
abbrev main_v320 : Ref sig .tc := ⟨.hbm, 569, rfl⟩
abbrev main_c_104 : Ref sig .tc := ⟨.hbm, 570, rfl⟩
abbrev main_v321 : Ref sig .tc := ⟨.hbm, 571, rfl⟩
abbrev main_v322 : Ref sig .tc := ⟨.hbm, 572, rfl⟩
abbrev main_cst_105 : Ref sig .tc := ⟨.hbm, 573, rfl⟩
abbrev main_v323 : Ref sig .tc := ⟨.hbm, 574, rfl⟩
abbrev main_v324 : Ref sig .tc := ⟨.hbm, 575, rfl⟩
abbrev main_v325 : Ref sig .tc := ⟨.hbm, 576, rfl⟩
abbrev main_cst_106 : Ref sig .tc := ⟨.hbm, 577, rfl⟩
abbrev main_v326 : Ref sig .tc := ⟨.hbm, 578, rfl⟩
abbrev main_cst_107 : Ref sig .tc := ⟨.hbm, 579, rfl⟩
abbrev main_v327 : Ref sig .tc := ⟨.hbm, 580, rfl⟩
abbrev main_v328 : Ref sig .tc := ⟨.hbm, 581, rfl⟩
abbrev main_v329 : Ref sig .tc := ⟨.hbm, 582, rfl⟩
abbrev main_v330 : Ref sig .tc := ⟨.hbm, 583, rfl⟩
abbrev main_v331 : Ref sig .tc := ⟨.hbm, 584, rfl⟩
abbrev main_cst_108 : Ref sig .tc := ⟨.hbm, 585, rfl⟩
abbrev main_v332 : Ref sig .tc := ⟨.hbm, 586, rfl⟩
abbrev main_v333 : Ref sig .tc := ⟨.hbm, 587, rfl⟩
abbrev main_cst_109 : Ref sig .tc := ⟨.hbm, 588, rfl⟩
abbrev main_v334 : Ref sig .tc := ⟨.hbm, 589, rfl⟩
abbrev main_v335 : Ref sig .tc := ⟨.hbm, 590, rfl⟩
abbrev main_v336 : Ref sig .tc := ⟨.hbm, 591, rfl⟩
abbrev main_v337 : Ref sig .tc := ⟨.hbm, 592, rfl⟩
abbrev main_cst_110 : Ref sig .tc := ⟨.hbm, 593, rfl⟩
abbrev main_v338 : Ref sig .tc := ⟨.hbm, 594, rfl⟩
abbrev main_v339 : Ref sig .tc := ⟨.hbm, 595, rfl⟩
abbrev main_cst_111 : Ref sig .tc := ⟨.hbm, 596, rfl⟩
abbrev main_v340 : Ref sig .tc := ⟨.hbm, 597, rfl⟩
abbrev main_v341 : Ref sig .tc := ⟨.hbm, 598, rfl⟩
abbrev main_v342 : Ref sig .tc := ⟨.hbm, 599, rfl⟩
abbrev main_v343 : Ref sig .tc := ⟨.hbm, 600, rfl⟩
abbrev main_v344 : Ref sig .tc := ⟨.hbm, 601, rfl⟩
abbrev main_cst_112 : Ref sig .tc := ⟨.hbm, 602, rfl⟩
abbrev main_v345 : Ref sig .tc := ⟨.hbm, 603, rfl⟩
abbrev main_cst_113 : Ref sig .tc := ⟨.hbm, 604, rfl⟩
abbrev main_v346 : Ref sig .tc := ⟨.hbm, 605, rfl⟩
abbrev main_v347 : Ref sig .tc := ⟨.hbm, 606, rfl⟩
abbrev main_v348 : Ref sig .tc := ⟨.hbm, 607, rfl⟩
abbrev main_v349 : Ref sig .tc := ⟨.hbm, 608, rfl⟩
abbrev main_v350 : Ref sig .tc := ⟨.hbm, 609, rfl⟩
abbrev main_v351 : Ref sig .tc := ⟨.hbm, 610, rfl⟩
abbrev main_v352 : Ref sig .tc := ⟨.hbm, 611, rfl⟩
abbrev main_v353 : Ref sig .tc := ⟨.hbm, 612, rfl⟩
abbrev main_cst_114 : Ref sig .tc := ⟨.hbm, 613, rfl⟩
abbrev main_v354 : Ref sig .tc := ⟨.hbm, 614, rfl⟩
abbrev main_v355 : Ref sig .tc := ⟨.hbm, 615, rfl⟩
abbrev main_cst_115 : Ref sig .tc := ⟨.hbm, 616, rfl⟩
abbrev main_v356 : Ref sig .tc := ⟨.hbm, 617, rfl⟩
abbrev main_v357 : Ref sig .tc := ⟨.hbm, 618, rfl⟩
abbrev main_cst_116 : Ref sig .tc := ⟨.hbm, 619, rfl⟩
abbrev main_v358 : Ref sig .tc := ⟨.hbm, 620, rfl⟩
abbrev main_v359 : Ref sig .tc := ⟨.hbm, 621, rfl⟩
abbrev main_v360 : Ref sig .tc := ⟨.hbm, 622, rfl⟩
abbrev main_cst_117 : Ref sig .tc := ⟨.hbm, 623, rfl⟩
abbrev main_cst_118 : Ref sig .tc := ⟨.hbm, 624, rfl⟩
abbrev main_call7_v0 : Ref sig .tc := ⟨.hbm, 625, rfl⟩
abbrev main_call7_v1 : Ref sig .tc := ⟨.hbm, 626, rfl⟩
abbrev main_call7_v2 : Ref sig .tc := ⟨.hbm, 627, rfl⟩
abbrev main_call7_cst : Ref sig .tc := ⟨.hbm, 628, rfl⟩
abbrev main_call7_v3 : Ref sig .tc := ⟨.hbm, 629, rfl⟩
abbrev main_call7_v4 : Ref sig .tc := ⟨.hbm, 630, rfl⟩
abbrev main_call7_cst_0 : Ref sig .tc := ⟨.hbm, 631, rfl⟩
abbrev main_call7_v5 : Ref sig .tc := ⟨.hbm, 632, rfl⟩
abbrev main_call7_v6 : Ref sig .tc := ⟨.hbm, 633, rfl⟩
abbrev main_call7_v7 : Ref sig .tc := ⟨.hbm, 634, rfl⟩
abbrev main_call7_cst_1 : Ref sig .tc := ⟨.hbm, 635, rfl⟩
abbrev main_call7_v8 : Ref sig .tc := ⟨.hbm, 636, rfl⟩
abbrev main_call7_v9 : Ref sig .tc := ⟨.hbm, 637, rfl⟩
abbrev main_call7_v10 : Ref sig .tc := ⟨.hbm, 638, rfl⟩
abbrev main_call7_v11 : Ref sig .tc := ⟨.hbm, 639, rfl⟩
abbrev main_call7_v12 : Ref sig .tc := ⟨.hbm, 640, rfl⟩
abbrev main_call7_v13 : Ref sig .tc := ⟨.hbm, 641, rfl⟩
abbrev main_call7_v14 : Ref sig .tc := ⟨.hbm, 642, rfl⟩
abbrev main_call7_v15 : Ref sig .tc := ⟨.hbm, 643, rfl⟩
abbrev main_call7_v16 : Ref sig .tc := ⟨.hbm, 644, rfl⟩
abbrev main_v361 : Ref sig .tc := ⟨.hbm, 645, rfl⟩
abbrev main_v362 : Ref sig .tc := ⟨.hbm, 646, rfl⟩
abbrev main_v363 : Ref sig .tc := ⟨.hbm, 647, rfl⟩
abbrev main_v364 : Ref sig .tc := ⟨.hbm, 648, rfl⟩
abbrev main_v365 : Ref sig .tc := ⟨.hbm, 649, rfl⟩
abbrev main_v366 : Ref sig .tc := ⟨.hbm, 650, rfl⟩
abbrev main_v367 : Ref sig .tc := ⟨.hbm, 651, rfl⟩
abbrev main_c_119 : Ref sig .tc := ⟨.hbm, 652, rfl⟩
abbrev main_v368 : Ref sig .tc := ⟨.hbm, 653, rfl⟩
abbrev main_c_120 : Ref sig .tc := ⟨.hbm, 654, rfl⟩
abbrev main_v369 : Ref sig .tc := ⟨.hbm, 655, rfl⟩
abbrev main_v370 : Ref sig .tc := ⟨.hbm, 656, rfl⟩
abbrev main_cst_121 : Ref sig .tc := ⟨.hbm, 657, rfl⟩
abbrev main_v371 : Ref sig .tc := ⟨.hbm, 658, rfl⟩
abbrev main_v372 : Ref sig .tc := ⟨.hbm, 659, rfl⟩
abbrev main_v373 : Ref sig .tc := ⟨.hbm, 660, rfl⟩
abbrev main_cst_122 : Ref sig .tc := ⟨.hbm, 661, rfl⟩
abbrev main_v374 : Ref sig .tc := ⟨.hbm, 662, rfl⟩
abbrev main_cst_123 : Ref sig .tc := ⟨.hbm, 663, rfl⟩
abbrev main_v375 : Ref sig .tc := ⟨.hbm, 664, rfl⟩
abbrev main_v376 : Ref sig .tc := ⟨.hbm, 665, rfl⟩
abbrev main_v377 : Ref sig .tc := ⟨.hbm, 666, rfl⟩
abbrev main_v378 : Ref sig .tc := ⟨.hbm, 667, rfl⟩
abbrev main_v379 : Ref sig .tc := ⟨.hbm, 668, rfl⟩
abbrev main_cst_124 : Ref sig .tc := ⟨.hbm, 669, rfl⟩
abbrev main_v380 : Ref sig .tc := ⟨.hbm, 670, rfl⟩
abbrev main_v381 : Ref sig .tc := ⟨.hbm, 671, rfl⟩
abbrev main_cst_125 : Ref sig .tc := ⟨.hbm, 672, rfl⟩
abbrev main_v382 : Ref sig .tc := ⟨.hbm, 673, rfl⟩
abbrev main_v383 : Ref sig .tc := ⟨.hbm, 674, rfl⟩
abbrev main_v384 : Ref sig .tc := ⟨.hbm, 675, rfl⟩
abbrev main_v385 : Ref sig .tc := ⟨.hbm, 676, rfl⟩
abbrev main_cst_126 : Ref sig .tc := ⟨.hbm, 677, rfl⟩
abbrev main_v386 : Ref sig .tc := ⟨.hbm, 678, rfl⟩
abbrev main_v387 : Ref sig .tc := ⟨.hbm, 679, rfl⟩
abbrev main_cst_127 : Ref sig .tc := ⟨.hbm, 680, rfl⟩
abbrev main_v388 : Ref sig .tc := ⟨.hbm, 681, rfl⟩
abbrev main_v389 : Ref sig .tc := ⟨.hbm, 682, rfl⟩
abbrev main_v390 : Ref sig .tc := ⟨.hbm, 683, rfl⟩
abbrev main_v391 : Ref sig .tc := ⟨.hbm, 684, rfl⟩
abbrev main_v392 : Ref sig .tc := ⟨.hbm, 685, rfl⟩
abbrev main_cst_128 : Ref sig .tc := ⟨.hbm, 686, rfl⟩
abbrev main_v393 : Ref sig .tc := ⟨.hbm, 687, rfl⟩
abbrev main_cst_129 : Ref sig .tc := ⟨.hbm, 688, rfl⟩
abbrev main_v394 : Ref sig .tc := ⟨.hbm, 689, rfl⟩
abbrev main_v395 : Ref sig .tc := ⟨.hbm, 690, rfl⟩
abbrev main_v396 : Ref sig .tc := ⟨.hbm, 691, rfl⟩
abbrev main_v397 : Ref sig .tc := ⟨.hbm, 692, rfl⟩
abbrev main_v398 : Ref sig .tc := ⟨.hbm, 693, rfl⟩
abbrev main_cst_130 : Ref sig .tc := ⟨.hbm, 694, rfl⟩
abbrev main_v399 : Ref sig .tc := ⟨.hbm, 695, rfl⟩
abbrev main_cst_131 : Ref sig .tc := ⟨.hbm, 696, rfl⟩
abbrev main_v400 : Ref sig .tc := ⟨.hbm, 697, rfl⟩
abbrev main_v401 : Ref sig .tc := ⟨.hbm, 698, rfl⟩

abbrev nD : Nat := 1
abbrev τ : Topo := Topo.v7x

variable {F : FTy → Type} [FloatOps F]
-- ==== Proof.Words.lean ====
/-
  The arithmetic of the extended reals this proof rests on: the float constants of the two programs, the softmax
  probability of a row (always a real between 0 and 1), and the code word of a probability.
-/
module

public import Idealize.ShloMosaic.PureOps.Ideal

@[expose] public section

noncomputable section

namespace Cert.Proof.Words

open Idealize.ShloMosaic

/-! ## Constants -/

theorem w0 : Ideal.ofBits .f32 0x00000000#32 = 0 := by simp [Ideal.ofBits, Ideal.ieee]
theorem w1 : Ideal.ofBits .f32 0x3F800000#32 = 1 := by simp [Ideal.ofBits, Ideal.ieee, -EReal.coe_mul] <;> norm_num
theorem wBot : Ideal.ofBits .f32 0xFF800000#32 = ⊥ := by simp [Ideal.ofBits, Ideal.ieee]
theorem w2 : Ideal.ofBits .f32 0x40000000#32 = ((2 : ℝ) : EReal) := by simp [Ideal.ofBits, Ideal.ieee, -EReal.coe_mul] <;> norm_num
theorem w3 : Ideal.ofBits .f32 0x40400000#32 = ((3 : ℝ) : EReal) := by simp [Ideal.ofBits, Ideal.ieee, -EReal.coe_mul] <;> norm_num
theorem w4 : Ideal.ofBits .f32 0x40800000#32 = ((4 : ℝ) : EReal) := by simp [Ideal.ofBits, Ideal.ieee, -EReal.coe_mul] <;> norm_num
theorem w5 : Ideal.ofBits .f32 0x40A00000#32 = ((5 : ℝ) : EReal) := by simp [Ideal.ofBits, Ideal.ieee, -EReal.coe_mul] <;> norm_num
theorem w6 : Ideal.ofBits .f32 0x40C00000#32 = ((6 : ℝ) : EReal) := by simp [Ideal.ofBits, Ideal.ieee, -EReal.coe_mul] <;> norm_num
theorem w7 : Ideal.ofBits .f32 0x40E00000#32 = ((7 : ℝ) : EReal) := by simp [Ideal.ofBits, Ideal.ieee, -EReal.coe_mul] <;> norm_num
theorem w8 : Ideal.ofBits .f32 0x41000000#32 = ((8 : ℝ) : EReal) := by simp [Ideal.ofBits, Ideal.ieee, -EReal.coe_mul] <;> norm_num
theorem w16 : Ideal.ofBits .f32 0x41800000#32 = ((16 : ℝ) : EReal) := by simp [Ideal.ofBits, Ideal.ieee, -EReal.coe_mul] <;> norm_num
theorem w50 : Ideal.ofBits .f32 0x42480000#32 = ((50 : ℝ) : EReal) := by simp [Ideal.ofBits, Ideal.ieee, -EReal.coe_mul] <;> norm_num
theorem w64 : Ideal.ofBits .f32 0x42800000#32 = ((64 : ℝ) : EReal) := by simp [Ideal.ofBits, Ideal.ieee, -EReal.coe_mul] <;> norm_num
theorem w640 : Ideal.ofBits .f32 0x44200000#32 = ((640 : ℝ) : EReal) := by simp [Ideal.ofBits, Ideal.ieee, -EReal.coe_mul] <;> norm_num
theorem w1e7 : Ideal.ofBits .f32 0x4B189680#32 = ((10000000 : ℝ) : EReal) := by simp [Ideal.ofBits, Ideal.ieee, -EReal.coe_mul] <;> norm_num

/-! ## The probability of a row -/

theorem exp_nonneg (x : EReal) : 0 ≤ Ideal.exp x := by
  induction x with
  | bot => simp
  | top => simp
  | coe r => rw [Ideal.exp_coe]; exact_mod_cast (Real.exp_pos r).le

/-- The softmax of the row `e` at the class `c`, as a product with a reciprocal. -/
def pr (e : Fin 10 → EReal) (c : Fin 10) : EReal := Ideal.exp (e c) * Ideal.div 1 (∑ c', Ideal.exp (e c'))

theorem pr_real (e : Fin 10 → EReal) (c : Fin 10) : ∃ r : ℝ, 0 ≤ r ∧ r ≤ 1 ∧ pr e c = (r : EReal) := by
  have h0 : ∀ c', 0 ≤ Ideal.exp (e c') := fun c' => exp_nonneg _
  have hle : Ideal.exp (e c) ≤ ∑ c', Ideal.exp (e c') := Finset.single_le_sum (fun i _ => h0 i) (Finset.mem_univ c)
  have hS : 0 ≤ ∑ c', Ideal.exp (e c') := Finset.sum_nonneg fun i _ => h0 i
  have ha := h0 c
  unfold pr
  generalize (∑ c', Ideal.exp (e c')) = S at hle hS ⊢
  generalize Ideal.exp (e c) = a at hle ha ⊢
  induction S with
  | bot => simp at hS
  | top => exact ⟨0, le_rfl, zero_le_one, by simp [Ideal.div]⟩
  | coe s =>
    induction a with
    | bot => simp at ha
    | top => simp at hle
    | coe a =>
      have ha' : 0 ≤ a := by exact_mod_cast ha
      have hle' : a ≤ s := by exact_mod_cast hle
      rcases eq_or_ne s 0 with hs | hs
      · have : a = 0 := le_antisymm (hs ▸ hle') ha'
        exact ⟨0, le_rfl, zero_le_one, by rw [this]; simp⟩
      · have hs0 : 0 < s := lt_of_le_of_ne (ha'.trans hle') (Ne.symm hs)
        refine ⟨a * (1 / s), by positivity, ?_, ?_⟩
        · rw [mul_one_div, div_le_one hs0]; exact hle'
        · rw [Ideal.div_coe hs, one_mul, ← EReal.coe_mul]

/-- On a row of reals the probability does not change when the row is shifted, and is the quotient. -/
theorem pr_shift (e : Fin 10 → EReal) (a : Fin 10 → ℝ) (h : ∀ c, e c = (a c : EReal)) (M : ℝ) (c : Fin 10) :
    Ideal.div (Ideal.exp (e c - (M : EReal))) (0 + ∑ c', Ideal.exp (e c' - (M : EReal))) = pr e c := by
  have hx : ∀ c', Ideal.exp (e c' - (M : EReal)) = ((Real.exp (a c' - M) : ℝ) : EReal) := fun c' => by
    rw [h, ← EReal.coe_sub, Ideal.exp_coe]
  have hx' : ∀ c', Ideal.exp (e c') = ((Real.exp (a c') : ℝ) : EReal) := fun c' => by rw [h, Ideal.exp_coe]
  unfold pr
  simp only [hx, hx', zero_add]
  have hs : ∀ f : Fin 10 → ℝ, (∑ c', ((f c' : ℝ) : EReal)) = ((∑ c', f c' : ℝ) : EReal) := fun f => by
    exact (map_sum (⟨⟨Real.toEReal, EReal.coe_zero⟩, EReal.coe_add⟩ : ℝ →+ EReal) f Finset.univ).symm
  have hp : (∑ c', Real.exp (a c')) ≠ 0 := (Finset.sum_pos (fun i _ => Real.exp_pos _) ⟨0, Finset.mem_univ _⟩).ne'
  have hp' : (∑ c', Real.exp (a c' - M)) ≠ 0 := (Finset.sum_pos (fun i _ => Real.exp_pos _) ⟨0, Finset.mem_univ _⟩).ne'
  rw [hs, hs, Ideal.div_coe hp, Ideal.div_coe hp', one_mul, ← EReal.coe_mul, ← EReal.coe_mul]
  congr 1
  have e1 : (∑ c', Real.exp (a c' - M)) = (∑ c', Real.exp (a c')) / Real.exp M := by
    rw [Finset.sum_div]; exact Finset.sum_congr rfl fun i _ => Real.exp_sub _ _
  rw [e1, Real.exp_sub]
  have := (Real.exp_pos M).ne'
  field_simp

/-! ## The code word of a probability -/

/-- The bin of a probability. -/
def slot (p : EReal) : ℕ := ⌊p.toReal * 50⌋₊

theorem slot_le (e : Fin 10 → EReal) (c : Fin 10) : slot (pr e c) ≤ 50 := by
  obtain ⟨r, h0, h1, h⟩ := pr_real e c
  unfold slot
  rw [h, EReal.toReal_coe]
  exact Nat.floor_le_of_le (by push_cast; linarith)

/-- A bit as an extended real. -/
def bitE (b : BitVec 1) : EReal := (((b.setWidth 32).toInt : ℝ) : EReal)

theorem bitE_zero : bitE 0#1 = 0 := by simp [bitE]
theorem bitE_one : bitE 1#1 = 1 := by
  have : ((1#1 : BitVec 1).setWidth 32).toInt = 1 := by decide
  unfold bitE; rw [this]; norm_num

theorem bit_cases (b : BitVec 1) : b = 0#1 ∨ b = 1#1 := by
  revert b; decide

/-- The code word the first stage computes, over the probability `p`, the class `cls` and the match bit `b`. -/
def kcode (p cls : EReal) (b : BitVec 1) : BitVec 32 :=
  Ideal.fptosi 32 (((cls * ((64 : ℝ) : EReal) + ((Ideal.liftRound Int.floor (p * ((50 : ℝ) : EReal))
      + bitE (Ideal.cmp .oge p ((Ideal.liftRound Int.floor (p * ((50 : ℝ) : EReal)) + 1) * ((1 / 50 : ℝ) : EReal))))
      - bitE (Ideal.cmp .olt p (Ideal.liftRound Int.floor (p * ((50 : ℝ) : EReal)) * ((1 / 50 : ℝ) : EReal)))))
    + bitE b * ((640 : ℝ) : EReal)) * ((16 : ℝ) : EReal))

theorem kcode_eq (p : EReal) (r : ℝ) (h0 : 0 ≤ r) (h1 : r ≤ 1) (hp : p = (r : EReal)) (c : ℕ) (hc : c < 10) (b : BitVec 1) :
    kcode p ((c : ℝ) : EReal) b = BitVec.ofNat 32 (16 * (64 * c + slot p + 640 * b.toNat)) := by
  subst hp
  unfold kcode slot
  rw [EReal.toReal_coe, show ((r : EReal) * ((50 : ℝ) : EReal)) = ((r * 50 : ℝ) : EReal) from (EReal.coe_mul _ _).symm, Ideal.liftRound_coe]
  set n : ℕ := ⌊r * 50⌋₊ with hn
  have hf : (⌊r * 50⌋ : ℤ) = (n : ℤ) := by rw [hn, Int.natCast_floor_eq_floor (by positivity)]
  have hlo : (n : ℝ) ≤ r * 50 := Nat.floor_le (by positivity)
  have hhi : r * 50 < n + 1 := Nat.lt_floor_add_one _
  have hn50 : n ≤ 50 := Nat.floor_le_of_le (by push_cast; linarith)
  rw [hf]
  have e1 : Ideal.cmp .oge (r : EReal) (((((n : ℤ) : ℝ) : EReal) + 1) * ((1 / 50 : ℝ) : EReal)) = 0#1 := by
    have : ¬ ((((n : ℤ) : ℝ) : EReal) + 1) * ((1 / 50 : ℝ) : EReal) ≤ (r : EReal) := by
      rw [show (1 : EReal) = ((1 : ℝ) : EReal) from rfl, ← EReal.coe_add, ← EReal.coe_mul, EReal.coe_le_coe_iff]
      push_cast; linarith
    simp only [Ideal.cmp, decide_eq_false this]; rfl
  have e2 : Ideal.cmp .olt (r : EReal) ((((n : ℤ) : ℝ) : EReal) * ((1 / 50 : ℝ) : EReal)) = 0#1 := by
    have : ¬ (r : EReal) < (((n : ℤ) : ℝ) : EReal) * ((1 / 50 : ℝ) : EReal) := by
      rw [← EReal.coe_mul, EReal.coe_lt_coe_iff]
      push_cast; linarith
    simp only [Ideal.cmp, decide_eq_false this]; rfl
  rw [e1, e2, bitE_zero, add_zero, sub_zero]
  have hb : bitE b = ((b.toNat : ℝ) : EReal) := by
    rcases bit_cases b with rfl | rfl
    · rw [bitE_zero]; simp
    · rw [bitE_one]; simp
  rw [hb, ← EReal.coe_mul, ← EReal.coe_mul, ← EReal.coe_add, ← EReal.coe_add, ← EReal.coe_mul]
  have hbn : b.toNat ≤ 1 := by rcases bit_cases b with rfl | rfl <;> decide
  have hv : ((c : ℝ) * 64 + ((n : ℤ) : ℝ) + (b.toNat : ℝ) * 640) * 16 = (((16 * (64 * c + n + 640 * b.toNat) : ℕ) : ℤ) : ℝ) := by
    push_cast; ring
  rw [hv]
  unfold Ideal.fptosi
  rw [Ideal.toIntClamped_coe, if_pos (by exact_mod_cast Nat.zero_le _), Int.floor_intCast]
  have hm : ((16 * (64 * c + n + 640 * b.toNat) : ℕ) : ℤ) ≤ 30000 := by exact_mod_cast (by omega : 16 * (64 * c + n + 640 * b.toNat) ≤ 30000)
  have hm0 : (0 : ℤ) ≤ ((16 * (64 * c + n + 640 * b.toNat) : ℕ) : ℤ) := Int.natCast_nonneg _
  rw [min_eq_right (by norm_num; omega), max_eq_right (by norm_num; omega), BitVec.ofInt_natCast]

end Cert.Proof.Words
-- ==== Proof.RefBins.lean ====
/-
  The reference's bins at the extended reals: the edges k/50, the number of edges at or below a probability, and the two
  sums over the samples of a bin.
-/
module

public import proofs.«01_k».proof.Proof.Gen.ReferenceIdeal.Read
public import proofs.«01_k».proof.Proof.Words
public import Idealize.ShloMosaic.Lib.IdealHost
public import Idealize.ShloMosaic.Lib.StableHlo.Predicate
public import Idealize.ShloMosaic.Lib.Routing.OpsPair

@[expose] public section

noncomputable section

namespace Cert.Proof.Ref

open Cert.ReferenceIdeal Cert.ReferenceIdeal.Gen Cert.ReferenceIdeal.Read
open Idealize.ShloMosaic Idealize.ShloMosaic.StableHlo
open Idealize.ShloMosaic.TcCoe
open Idealize.ShloMosaic.ValueIdx
open Words
open Routing (shape1 shape2)

/-! ## The edges -/

theorem cat_left {α : Type} (a : S50.Idx → α) (b : S1.Idx → α) (k : Fin 50) :
    concatenate S51 0 [⟨S50, a⟩, ⟨S1, b⟩] concatenates_S50_S1_S51_d0 (ix1 (⟨k.val, by omega⟩ : Fin 51)) = a (ix1 k) :=
   concatenate_pair_apply_left 0 a b concatenates_S50_S1_S51_d0 _ rfl (ix1 k) (fun b => by match b with | ⟨0, _⟩ => rfl)

theorem cat_right {α : Type} (a : S50.Idx → α) (b : S1.Idx → α) :
    concatenate S51 0 [⟨S50, a⟩, ⟨S1, b⟩] concatenates_S50_S1_S51_d0 (ix1 (⟨50, by omega⟩ : Fin 51)) = b (ix1 (0 : Fin 1)) :=
  concatenate_pair_apply_right 0 a b concatenates_S50_S1_S51_d0 _ rfl rfl (ix1 (0 : Fin 1)) (fun b hb => absurd (Subsingleton.elim (α := Fin 1) _ _) hb) rfl

theorem step_at (k : Fin 50) : (val_main_call0_v6 (F := Ideal) (ix1 k) : EReal) = (((k.val : ℝ) / 50 : ℝ) : EReal) := by
  rw [val_main_call0_v6_apply, val_main_call0_v5_apply, val_main_call0_cst_0_apply]
  show Ideal.div ((((BitVec.ofNat 32 k.val).toInt : ℝ) : EReal)) (Ideal.ofBits .f32 0x42480000#32) = _
  rw [w50, Ideal.div_coe (by norm_num), StableHlo.Predicate.toInt_ofNat_small _ (by omega), ← EReal.coe_mul]
  congr 1
  push_cast
  ring

theorem edge_at (k : Fin 51) : (val_main_v25 (F := Ideal) (ix1 k) : EReal) = (((k.val : ℝ) / 50 : ℝ) : EReal) := by
  unfold val_main_v25
  by_cases hk : k.val < 50
  · refine (cat_left _ _ (⟨k.val, hk⟩ : Fin 50)).trans ?_
    rw [val_main_call0_v15_apply, val_main_call0_v11_apply, val_main_call0_v14_apply, val_main_call0_v9_apply, val_main_call0_v8_apply]
    show (Ideal.ofBits .f32 0x00000000#32 : EReal) * (Ideal.ofBits .f32 0x3F800000#32 - (val_main_call0_v6 (F := Ideal) (ix1 (⟨k.val, hk⟩ : Fin 50)) : EReal))
      + Ideal.ofBits .f32 0x3F800000#32 * (val_main_call0_v6 (F := Ideal) (ix1 (⟨k.val, hk⟩ : Fin 50)) : EReal) = _
    rw [w0, w1, step_at, zero_mul, zero_add, one_mul]
  · have ek : k = (⟨50, by omega⟩ : Fin 51) := Fin.ext (by have := k.isLt; show k.val = 50; omega)
    rw [ek]
    refine (cat_right _ _).trans ?_
    show (Ideal.ofBits .f32 0x3F800000#32 : EReal) = _
    rw [w1]
    norm_num

/-! ## The bin of a sample -/

section Bin

variable {F : FTy → Type} [FloatOps F]

/-- Which edges are at or below each probability, -/
def edgeBits (p : FVec F S1000000 .f32) : IVec S1000000x51 1 :=
  cmpf .oge (broadcastInDim S1000000x51 ![0, 1] bcast_S1000000x1_S1000000x51_0_1 (broadcastInDim S1000000x1 ![0] bcast_S1000000_S1000000x1_0 p))
    (val_main_v29 (F := F))

/-- and the bin: their number, less one. -/
def binids (p : FVec F S1000000 .f32) : IVec S1000000 32 :=
  subi (Host.reduce IntOp.addi (extui 32 (edgeBits p) natLt_1_32) (val_main_c (F := F)) reducesTo_S1000000x51_S1000000_d1 h_S_) (val_main_v33 (F := F))

/-- The bins as a column. -/
def bincol (p : FVec F S1000000 .f32) : IVec S1000000x1 32 := broadcastInDim S1000000x1 ![0] bcast_S1000000_S1000000x1_0 (binids p)

end Bin

theorem edgeBits_at (p : FVec Ideal S1000000 .f32) (s : Fin 1000000) (q : Fin 51) :
    edgeBits p (ix2 s q) = Ideal.cmp .oge (p (ix1 s)) (((q.val : ℝ) / 50 : ℝ) : EReal) := by
  unfold edgeBits
  show Ideal.cmp .oge (broadcastInDim S1000000x51 ![0, 1] bcast_S1000000x1_S1000000x51_0_1 (broadcastInDim S1000000x1 ![0] bcast_S1000000_S1000000x1_0 p) (ix2 s q))
    (val_main_v29 (F := Ideal) (ix2 s q)) = _
  have e1 : broadcastInDim S1000000x51 ![0, 1] bcast_S1000000x1_S1000000x51_0_1 (broadcastInDim S1000000x1 ![0] bcast_S1000000_S1000000x1_0 p) (ix2 s q) = p (ix1 s) :=
    (broadcastInDim_apply _ bcast_S1000000x1_S1000000x51_0_1 (broadcastInDim S1000000x1 ![0] bcast_S1000000_S1000000x1_0 p) (ix2 s q) (ix2 s (0 : Fin 1)) (fun a => match a with
      | ⟨0, _⟩ => by show s.val = if (1000000 : Nat) = 1 then 0 else s.val; rw [if_neg (by decide)]
      | ⟨1, _⟩ => by show 0 = if (1 : Nat) = 1 then 0 else q.val; rw [if_pos rfl])).trans
    (broadcastInDim_apply _ bcast_S1000000_S1000000x1_0 p (ix2 s (0 : Fin 1)) (ix1 s) (fun a => match a with
      | ⟨0, _⟩ => by show s.val = if (1000000 : Nat) = 1 then 0 else s.val; rw [if_neg (by decide)]))
  have e2 : (val_main_v29 (F := Ideal) (ix2 s q) : EReal) = (((q.val : ℝ) / 50 : ℝ) : EReal) := by
    rw [val_main_v29_apply, val_main_v27_apply]
    exact (congrArg (val_main_v25 (F := Ideal)) (funext fun a => by match a with | ⟨0, _⟩ => rfl)).trans (edge_at q)
  rw [e1]
  exact congrArg _ e2

/-- How many of the 51 edges are at or below a probability. -/
theorem card_edges (r : ℝ) (h0 : 0 ≤ r) (h1 : r ≤ 1) :
    (Finset.univ.filter fun q : Fin 51 => Ideal.cmp .oge (r : EReal) (((q.val : ℝ) / 50 : ℝ) : EReal) = 1#1).card = slot (r : EReal) + 1 := by
  have hle : ⌊r * 50⌋₊ ≤ 50 := Nat.floor_le_of_le (by push_cast; linarith)
  have e : (Finset.univ.filter fun q : Fin 51 => Ideal.cmp .oge (r : EReal) (((q.val : ℝ) / 50 : ℝ) : EReal) = 1#1) = Finset.Iic (⟨⌊r * 50⌋₊, by omega⟩ : Fin 51) := by
    ext q
    rw [Finset.mem_filter, Finset.mem_Iic, Fin.le_def]
    show _ ↔ q.val ≤ ⌊r * 50⌋₊
    rw [Nat.le_floor_iff (by positivity)]
    have hb : Ideal.cmp .oge (r : EReal) (((q.val : ℝ) / 50 : ℝ) : EReal) = 1#1 ↔ (q.val : ℝ) / 50 ≤ r := by
      rw [← EReal.coe_le_coe_iff]
      unfold Ideal.cmp
      exact (by decide : ∀ b : Bool, BitVec.ofBool b = 1#1 ↔ b = true) _ |>.trans decide_eq_true_iff
    rw [hb, div_le_iff₀ (by norm_num)]
    exact ⟨fun h => h.2, fun h => ⟨Finset.mem_univ _, h⟩⟩
  rw [e, Fin.card_Iic]
  unfold slot
  rw [EReal.toReal_coe]

theorem binids_at (p : FVec Ideal S1000000 .f32) (s : Fin 1000000) (r : ℝ) (h0 : 0 ≤ r) (h1 : r ≤ 1) (hp : (p (ix1 s) : EReal) = (r : EReal)) :
    (binids p (ix1 s)).toInt = (slot (p (ix1 s)) : ℕ) := by
  have hs : slot (r : EReal) ≤ 50 := by
    unfold slot; rw [EReal.toReal_coe]; exact Nat.floor_le_of_le (by push_cast; linarith)
  have hc := StableHlo.Predicate.toNat_reduce_count_cols (by norm_num) (edgeBits p) natLt_1_32 reducesTo_S1000000x51_S1000000_d1 h_S_ (ix1 s)
  have hf : (Finset.univ.filter fun q : Fin 51 => edgeBits p (StableHlo.Predicate.ij s q) = 1#1) = Finset.univ.filter fun q : Fin 51 => Ideal.cmp .oge (r : EReal) (((q.val : ℝ) / 50 : ℝ) : EReal) = 1#1 := by
    refine Finset.filter_congr fun q _ => ?_
    rw [← hp, ← edgeBits_at]
    exact Eq.congr (congrArg (edgeBits p) (funext fun a => by match a with | ⟨0, _⟩ => rfl | ⟨1, _⟩ => rfl)) rfl
  have hc' := hc.trans ((congrArg Finset.card hf).trans (card_edges r h0 h1))
  rw [hp]
  have hw : binids p (ix1 s) = BitVec.ofNat 32 (slot (r : EReal)) := by
    show IntOp.subi (Host.reduce IntOp.addi (extui 32 (edgeBits p) natLt_1_32) (constantI S_ 32 0#32) reducesTo_S1000000x51_S1000000_d1 h_S_ (ix1 s)) 1#32 = _
    generalize Host.reduce IntOp.addi (extui 32 (edgeBits p) natLt_1_32) (constantI S_ 32 0#32) reducesTo_S1000000x51_S1000000_d1 h_S_ (ix1 s) = w at hc'
    generalize slot (r : EReal) = n at hs hc'
    apply BitVec.eq_of_toNat_eq
    show (w - 1#32).toNat = _
    rw [BitVec.toNat_sub, hc', BitVec.toNat_ofNat]
    show (2 ^ 32 - 1 + (n + 1)) % 2 ^ 32 = n % 2 ^ 32
    omega
  rw [hw]
  exact StableHlo.Predicate.toInt_ofNat_small _ (by omega)

/-! ## The sums over a bin -/

/-- An update lands at the entry its word names. -/
theorem lands {n N : ℕ} (d : ScatterDims (shape1 N) (shape2 n 1) (shape1 n)) (hiw : d.insertedWindowDims = [0]) (hsd : d.scatterDimsToOperandDims = [0])
    (hiv : d.indexVectorDim = 1) (idx : IVec (shape2 n 1) 32) (s : Fin n) (e : Fin N) :
    d.resultIdx? (ix1 s) idx = some (ix1 e) ↔ (idx (ix2 s (0 : Fin 1))).toInt = (e.val : ℤ) := by
  have hm : (0 : Fin 1) ∈ d.scatterDimsToOperandDims := by rw [hsd]; exact List.mem_singleton.2 rfl
  have hwin : d.window (ix1 s) 0 = 0 := by
    unfold ScatterDims.window
    rw [dif_neg fun h => (of_decide_eq_true (List.mem_filter.1 h).2) (by rw [hiw]; exact List.mem_singleton.2 rfl)]
  have hstart : d.start (ix1 s) idx 0 = (idx (ix2 s (0 : Fin 1))).toInt := by
    unfold ScatterDims.start
    rw [dif_pos hm]
    have hsi : d.siIdx (ix1 s) ⟨d.scatterDimsToOperandDims.idxOf 0, List.idxOf_lt_length_iff.2 hm⟩ = ix2 s (0 : Fin 1) := by
      funext b'
      match b' with
      | ⟨0, _⟩ =>
        unfold ScatterDims.siIdx
        rw [dif_neg (by rw [hiv]; exact Nat.zero_ne_one)]
        apply Fin.ext
        have q : ∀ X : Fin 1, (ix1 s X).val = s.val := fun X => by
          obtain rfl : X = 0 := Subsingleton.elim _ _
          rfl
        exact q _
      | ⟨1, _⟩ => exact Subsingleton.elim (α := Fin 1) _ _
    rw [hsi]
  rw [Routing.resultIdx?_ix1, hstart, hwin]
  push_cast
  rw [add_zero]

theorem sum_ix1 {n : ℕ} (f : (shape1 n).Idx → EReal) : ∑ i : (shape1 n).Idx, f i = ∑ s : Fin n, f (ix1 s) :=
  (Equiv.sum_comp ⟨fun s : Fin n => (ix1 s : (shape1 n).Idx), fun i => i 0, fun _ => rfl, fun i => (eq_ix1 i).symm⟩ f).symm

theorem scatter_at {n N : ℕ} (d : ScatterDims (shape1 N) (shape2 n 1) (shape1 n)) (hiw : d.insertedWindowDims = [0]) (hsd : d.scatterDimsToOperandDims = [0])
    (hiv : d.indexVectorDim = 1) (v : (shape1 N).Idx → EReal) (idx : IVec (shape2 n 1) 32) (u : (shape1 n).Idx → EReal) (e : Fin N) :
    Ideal.hostScatterAdd d v idx u (ix1 e) = v (ix1 e) + ∑ s : Fin n, if (idx (ix2 s (0 : Fin 1))).toInt = (e.val : ℤ) then u (ix1 s) else 0 := by
  unfold Ideal.hostScatterAdd
  rw [Finset.sum_filter, sum_ix1]
  refine congrArg (v (ix1 e) + ·) (Finset.sum_congr rfl fun s _ => ?_)
  exact if_congr (lands d hiw hsd hiv idx s e) rfl rfl

theorem bincol_at (p : FVec Ideal S1000000 .f32) (s : Fin 1000000) : bincol p (ix2 s (0 : Fin 1)) = binids p (ix1 s) :=
  broadcastInDim_apply _ bcast_S1000000_S1000000x1_0 (binids p) (ix2 s (0 : Fin 1)) (ix1 s) (fun a => match a with
    | ⟨0, _⟩ => by show s.val = if (1000000 : Nat) = 1 then 0 else s.val; rw [if_neg (by decide)])

/-- The sum, over the samples of a bin, of a 0/1 value is the number of them that have it. -/
theorem bin_sum (p : FVec Ideal S1000000 .f32) (hp : ∀ s, ∃ r : ℝ, 0 ≤ r ∧ r ≤ 1 ∧ (p (ix1 s) : EReal) = (r : EReal))
    (v : FVec Ideal S50 .f32) (hv : ∀ k, (v (ix1 k) : EReal) = 0)
    (u : FVec Ideal S1000000 .f32) (P : Fin 1000000 → Prop) [DecidablePred P] (hu : ∀ s, (u (ix1 s) : EReal) = if P s then 1 else 0) (k : Fin 50) :
    (Host.scatterAdd scatter_S50_S1000000x1_S1000000_n_0_0_1 v (bincol p) u (ix1 k) : EReal)
      = ((∑ s : Fin 1000000, if slot (p (ix1 s)) = k.val ∧ P s then 1 else 0 : ℕ) : EReal) := by
  refine (scatter_at scatter_S50_S1000000x1_S1000000_n_0_0_1 rfl rfl rfl v (bincol p) u k).trans ?_
  rw [hv, zero_add, Nat.cast_sum]
  refine Finset.sum_congr rfl fun s _ => ?_
  obtain ⟨r, h0, h1, h⟩ := hp s
  rw [bincol_at, binids_at p s r h0 h1 h, hu]
  by_cases h2 : slot (p (ix1 s)) = k.val
  · rw [if_pos (by exact_mod_cast h2)]
    by_cases h3 : P s
    · rw [if_pos h3, if_pos ⟨h2, h3⟩, Nat.cast_one]
    · rw [if_neg h3, if_neg (fun h => h3 h.2), Nat.cast_zero]
  · rw [if_neg (by exact_mod_cast h2), if_neg (fun h => h2 h.1), Nat.cast_zero]

end Cert.Proof.Ref
-- ==== Proof.Setup.lean ====
/-
  What every part of the proof shares: the printed program as the launch theorem sees it (its two TensorCore pipelines
  and its one SparseCore call), the resource algebra (the handshakes' rounds, the pipelines' rounds, the transfers'
  counters) and the launch facts.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' rounds. -/
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

end Cert.Proof
-- ==== Proof.StageA.lean ====
/-
  Stage A, the first TensorCore kernel: its body run by the executor, once at the first point (which clears the running
  sum) and once at every other.
-/
module

public import proofs.«01_k».proof.Proof.Setup
public import Idealize.ShloMosaic.Lib.Pipeline.Launch
public import Idealize.ShloMosaic.Lib.Pipeline.FrameBody
public import Idealize.ShloMosaic.Lib.Pipeline.Value
public import Idealize.ShloMosaic.Lib.VecWindow
public import proofs.«01_k».proof.Proof.Gen.KernelIdeal.Points

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## Whole memrefs -/

section Whole

variable {κ : Kind} {sp : Space} {s : Shape} {e : EltTy} {m : Memref sig κ sp s e}

/-- Owning a whole memref is holding its buffer at contents it reads. -/
theorem owns_full {c : Thread nD τ} {sp : Space} {s : Shape} {e : EltTy} {m : Memref sig c.2.kind sp s e} (hw : m.IsWhole)
    (q : PosShare TreeShare) (X : s.Idx → Elt F e) :
    (owns c m q X : sProp 𝕄) = iprop(∃ f : Buf (Elt F) (m.view.loc c), ⌜m.view.read (Elt F) f = X⌝ ∗ (m.view.loc c ↦{q} f)) := by
  obtain ⟨b, rfl, rfl, rfl, hm⟩ := hw; cases hm
  rw [owns_whole_eq]; simp only [Memref.view_whole, View.read_whole]

end Whole

theorem off2 : (![0, 0] : Fin 2 → Nat) = fun _ => 0 := funext fun a => by fin_cases a <;> rfl

variable [FloatOps F] [Named F]

/-! ## What the body computes -/

/-- The codes of one block, from the blocks the body loads. -/
def aAddr (i : grid0.Coords) (X : Vec F S512x640 .f32) (Y : Vec F S512x64 .f32) (G : Vec F S640x64 .f32) (GT : Vec F S64x640 .f32)
    (C : Vec F S1x640 .f32) : IVec S512x640 32 :=
  k0_pay8 (k0_pay1 i) (k0_pay3 i Y GT) (k0_pay4 i X G GT) (k0_pay5 i X G GT) (k0_pay6 i X G GT) (k0_pay7 i X G GT) C

/-- The running sum after one block. -/
def aBl (i : grid0.Coords) (X : Vec F S512x640 .f32) (Y : Vec F S512x64 .f32) (GT : Vec F S64x640 .f32) (acc : Vec F S1x1 .f32) : FVec F S1x1 .f32 :=
  k0_pay10 (k0_pay2 i X) (k0_pay3 i Y GT) acc

section Body

variable (c : Dev nD) (i : grid0.Coords) (M1 : Memref sig .tc .vmem S512x640 .f32) (h1 : M1.IsWhole) (M2 : Memref sig .tc .vmem S512x64 .f32) (h2 : M2.IsWhole)
  (M3 : Memref sig .tc .vmem S640x64 .f32) (h3 : M3.IsWhole) (M4 : Memref sig .tc .vmem S64x640 .f32) (h4 : M4.IsWhole)
  (M5 : Memref sig .tc .vmem S1x640 .f32) (h5 : M5.IsWhole) (M6 : Memref sig .tc .vmem S512x640 .i32) (h6 : M6.IsWhole)
  (M7 : Memref sig .tc .vmem S1x1 .f32) (h7 : M7.IsWhole)
  (X : Vec F S512x640 .f32) (Y : Vec F S512x64 .f32) (G : Vec F S640x64 .f32) (GT : Vec F S64x640 .f32) (C : Vec F S1x640 .f32)
  (A : IVec S512x640 32) (B : Vec F S1x1 .f32)

/-- The condition under which the body clears the running sum. -/
abbrev condA (i : grid0.Coords) : BitVec 1 := Scalar.cmpi .ne (Scalar.extui (Scalar.cmpi .eq (BitVec.ofNat 32 (i 0).val) 0#32) : BitVec 32) 0#32

/-- The running sum the body adds to. -/
abbrev accA (i : grid0.Coords) (B : Vec F S1x1 .f32) : Vec F S1x1 .f32 := if condA i = 1#1 then k0_pay9 (F := F) else B

set_option maxHeartbeats 2000000 in
theorem bodyA (E : Set ℕ) (Q : PUnit → sProp 𝕄) :
    iprop((owns (c : Thread nD τ) M1 fullShare X ∗ owns (c : Thread nD τ) M2 fullShare Y ∗ owns (c : Thread nD τ) M3 fullShare G
        ∗ owns (c : Thread nD τ) M4 fullShare GT ∗ owns (c : Thread nD τ) M5 fullShare C ∗ owns (c : Thread nD τ) M6 fullShare A
        ∗ owns (c : Thread nD τ) M7 fullShare B)
      ∗ (iprop(owns (c : Thread nD τ) M1 fullShare X ∗ owns (c : Thread nD τ) M2 fullShare Y ∗ owns (c : Thread nD τ) M3 fullShare G
        ∗ owns (c : Thread nD τ) M4 fullShare GT ∗ owns (c : Thread nD τ) M5 fullShare C ∗ owns (c : Thread nD τ) M6 fullShare (aAddr i X Y G GT C)
        ∗ owns (c : Thread nD τ) M7 fullShare (aBl i X Y GT (accA i B))) -∗ Q ⟨⟩))
      ⊢ wp frame (wpE (defs₀ (F := F)) 𝒱₀ c none) E (cc0__stage_a_body i M1 h1 M2 h2 M3 h3 M4 h4 M5 h5 M6 h6 M7 h7) Q := by
  rw [owns_full h1, owns_full h2, owns_full h3, owns_full h4, owns_full h5, owns_full h6, owns_full h7, owns_full h6, owns_full h7]
  rw [cc0__stage_a_body_eq_skeleton]; unfold cc0__stage_a_body_skel
  rw [k0_part1_eq_skeleton, k0_part2_eq_skeleton]; unfold k0_part1_skel k0_part2_skel
  by_cases hc : condA i = 1#1
  · have ha : accA i B = k0_pay9 := if_pos hc
    rw [ha]
    simp only [dif_pos hc]
    iintro ⟨⟨⟨%f1, %e1, H1⟩, ⟨%f2, %e2, H2⟩, ⟨%f3, %e3, H3⟩, ⟨%f4, %e4, H4⟩, ⟨%f5, %e5, H5⟩, ⟨%f6, -, H6⟩, ⟨%f7, -, H7⟩⟩, Hk⟩
    have hr1 := (View.readAt_full M1.view f1 inb_S512x640_S512x640_0_0).trans e1
    have hr2 := (View.readAt_full M2.view f2 inb_S512x64_S512x64_0_0).trans e2
    have hr3 := (View.readAt_full M3.view f3 inb_S640x64_S640x64_0_0).trans e3
    have hr4 := (View.readAt_full M4.view f4 inb_S64x640_S64x640_0_0).trans e4
    have hr5 := (View.readAt_full M5.view f5 inb_S1x640_S1x640_0_0).trans e5
    sl_exec
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]
    · iexists _; isplitr; swap; (· iexact H6); ipureintro
      refine (View.read_writes_full _ _ _ _ _).trans ?_
      rfl
    · iexists _; isplitr; swap; (· iexact H7); ipureintro
      exact (View.read_writes_full _ _ _ _ _).trans (congrArg (k0_pay10 (k0_pay2 i X) (k0_pay3 i Y GT))
        (by unfold bodyA.sl.v79; exact View.readCov_full (Val := Elt F) M7.view inb_S1x1_S1x1_0_0 inb_S1x1_S1x1_0_0 (k0_pay9 (F := F)) []))
  · have ha : accA i B = B := if_neg hc
    rw [ha]
    simp only [dif_neg hc]
    iintro ⟨⟨⟨%f1, %e1, H1⟩, ⟨%f2, %e2, H2⟩, ⟨%f3, %e3, H3⟩, ⟨%f4, %e4, H4⟩, ⟨%f5, %e5, H5⟩, ⟨%f6, -, H6⟩, ⟨%f7, %e7, H7⟩⟩, Hk⟩
    have hr7 := (View.readAt_full M7.view f7 inb_S1x1_S1x1_0_0).trans e7
    have hr1 := (View.readAt_full M1.view f1 inb_S512x640_S512x640_0_0).trans e1
    have hr2 := (View.readAt_full M2.view f2 inb_S512x64_S512x64_0_0).trans e2
    have hr3 := (View.readAt_full M3.view f3 inb_S640x64_S640x64_0_0).trans e3
    have hr4 := (View.readAt_full M4.view f4 inb_S64x640_S64x640_0_0).trans e4
    have hr5 := (View.readAt_full M5.view f5 inb_S1x640_S1x640_0_0).trans e5
    sl_exec
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]
    · iexists _; isplitr; swap; (· iexact H6); ipureintro
      refine (View.read_writes_full _ _ _ _ _).trans ?_
      rfl
    · iexists _; isplitr; swap; (· iexact H7); ipureintro
      refine (View.read_writes_full _ _ _ _ _).trans ?_
      rfl

end Body

/-! ## The rows past the array's end

The last block overhangs the arrays by 247 rows. The body replaces them by zeros before it uses them, so what it
computes depends on the rows inside the arrays alone. -/

theorem clip_extent (ix k d : Nat) : (Pipeline.Clip.of ix k d).extent k = min k (d - ix * k) := by
  unfold Pipeline.Clip.of
  have h : (ix + 1) * k = ix * k + k := Nat.succ_mul ix k
  split
  · show k = _; rw [Nat.min_eq_left (by omega)]
  · show d - ix * k = _; rw [Nat.min_eq_right (by omega)]

theorem coord0 (i : grid0.Coords) : (i 0).val < 31 := (i 0).isLt

theorem row_ofNat (i : grid0.Coords) : (BitVec.ofNat 32 (i 0).val).toNat = (i 0).val := by
  rw [BitVec.toNat_ofNat]; exact Nat.mod_eq_of_lt (by have := coord0 i; omega)

/-- The mask is on exactly for the rows inside the array. -/
theorem pay1_iff (i : grid0.Coords) (r : S512x1.Idx) : k0_pay1 i r = 1 ↔ 512 * (i 0).val + (r 0).val < 15625 := by
  have hr : (r 0).val < 512 := (r 0).isLt
  have hi := coord0 i
  have h : k0_pay1 i r = Scalar.cmpi .slt (BitVec.ofNat 32 (0 + (r 0).val) + BitVec.ofNat 32 (i 0).val * 512#32) 15625#32 := rfl
  rw [h]
  have h2 : BitVec.ofNat 32 (0 + (r 0).val) + BitVec.ofNat 32 (i 0).val * 512#32 = BitVec.ofNat 32 (512 * (i 0).val + (r 0).val) := by
    apply BitVec.eq_of_toNat_eq
    simp only [BitVec.toNat_add, BitVec.toNat_mul, BitVec.toNat_ofNat]
    omega
  rw [h2]
  show BitVec.ofBool (BitVec.slt _ _) = 1 ↔ _
  have h3 : BitVec.slt (BitVec.ofNat 32 (512 * (i 0).val + (r 0).val)) 15625#32 = decide (512 * (i 0).val + (r 0).val < 15625) := by
    rw [BitVec.slt, BitVec.toInt_eq_toNat_of_lt (by rw [BitVec.toNat_ofNat]; omega), BitVec.toNat_ofNat, Nat.mod_eq_of_lt (by omega)]
    show decide (((512 * (i 0).val + (r 0).val : Nat) : Int) < 15625) = _
    congr 1
    exact propext (by omega)
  rw [h3]
  by_cases hlt : 512 * (i 0).val + (r 0).val < 15625
  · rw [decide_eq_true hlt]; exact iff_of_true rfl hlt
  · rw [decide_eq_false hlt]; exact iff_of_false (by decide) hlt

/-- The mask over a block of width `n`, read at an entry: the row's mask. -/
theorem mask_at {n : Nat} (i : grid0.Coords) (hb : S512x1.Broadcasts ⟨2, ![512, n]⟩) (j : (⟨2, ![512, n]⟩ : Shape).Idx) :
    broadcastTo ⟨2, ![512, n]⟩ (shapeCast S512x1 (k0_pay1 i) shapeCasts_S512x1_S512x1) hb j = k0_pay1 i (ix2 (j 0 : Fin 512) (0 : Fin 1)) := by
  rw [shapeCast_self]
  refine broadcastTo_apply _ hb j _ fun a => ?_
  match a with
  | ⟨0, _⟩ => rfl
  | ⟨1, _⟩ => rfl

theorem pay2_congr (i : grid0.Coords) {X X' : Vec F S512x640 .f32} (h : ∀ j : S512x640.Idx, 512 * (i 0).val + (j 0).val < 15625 → X j = X' j) :
    k0_pay2 i X = k0_pay2 i X' := by
  funext j
  show Scalar.select (broadcastTo ⟨2, ![512, 640]⟩ (shapeCast S512x1 (k0_pay1 i) shapeCasts_S512x1_S512x1) _ j) (shapeCast S512x640 X _ j) _
    = Scalar.select _ (shapeCast S512x640 X' _ j) _
  rw [mask_at, shapeCast_self, shapeCast_self]
  unfold Scalar.select
  by_cases hm : k0_pay1 i (ix2 (j 0 : Fin 512) (0 : Fin 1)) = 1
  · rw [if_pos hm, if_pos hm]; exact h j ((pay1_iff i _).1 hm)
  · rw [if_neg hm, if_neg hm]

theorem pay3_congr (i : grid0.Coords) {Y Y' : Vec F S512x64 .f32} (h : ∀ j : S512x64.Idx, 512 * (i 0).val + (j 0).val < 15625 → Y j = Y' j)
    (GT : Vec F S64x640 .f32) : k0_pay3 i Y GT = k0_pay3 i Y' GT := by
  have hs : select (broadcastTo S512x64 (shapeCast S512x1 (k0_pay1 i) shapeCasts_S512x1_S512x1) broadcasts_S512x1_S512x64)
        (shapeCast S512x64 Y shapeCasts_S512x64_S512x64) (broadcast S512x64 (Scalar.ofBits .f32 0x00000000#32 : F .f32))
      = select (broadcastTo S512x64 (shapeCast S512x1 (k0_pay1 i) shapeCasts_S512x1_S512x1) broadcasts_S512x1_S512x64)
        (shapeCast S512x64 Y' shapeCasts_S512x64_S512x64) (broadcast S512x64 (Scalar.ofBits .f32 0x00000000#32 : F .f32)) := by
    funext j
    show Scalar.select (broadcastTo ⟨2, ![512, 64]⟩ (shapeCast S512x1 (k0_pay1 i) shapeCasts_S512x1_S512x1) _ j) (shapeCast S512x64 Y _ j) _
      = Scalar.select _ (shapeCast S512x64 Y' _ j) _
    rw [mask_at, shapeCast_self, shapeCast_self]
    unfold Scalar.select
    by_cases hm : k0_pay1 i (ix2 (j 0 : Fin 512) (0 : Fin 1)) = 1
    · rw [if_pos hm, if_pos hm]; exact h j ((pay1_iff i _).1 hm)
    · rw [if_neg hm, if_neg hm]
  exact congrArg (fun M => matmul dot_S512x64_S64x640_S512x640_1_0_0_1_n_n (some .fp32) M (shapeCast S64x640 GT shapeCasts_S64x640_S64x640)
    (constant S512x640 .f32 0x00000000#32)) hs

theorem aAddr_congr (i : grid0.Coords) {X X' : Vec F S512x640 .f32} {Y Y' : Vec F S512x64 .f32} (hX : k0_pay2 i X = k0_pay2 i X')
    (hY : ∀ GT : Vec F S64x640 .f32, k0_pay3 i Y GT = k0_pay3 i Y' GT) (G : Vec F S640x64 .f32) (GT : Vec F S64x640 .f32) (C : Vec F S1x640 .f32) :
    aAddr i X Y G GT C = aAddr i X' Y' G GT C := by
  have h4 : k0_pay4 i X G GT = k0_pay4 i X' G GT := by unfold k0_pay4; rw [hX]
  have h5 : k0_pay5 i X G GT = k0_pay5 i X' G GT := by unfold k0_pay5; rw [h4]
  have h6 : k0_pay6 i X G GT = k0_pay6 i X' G GT := by unfold k0_pay6; rw [h5]
  have h7 : k0_pay7 i X G GT = k0_pay7 i X' G GT := by unfold k0_pay7; rw [h5]
  unfold aAddr
  rw [hY, h4, h5, h6, h7]

theorem aBl_congr (i : grid0.Coords) {X X' : Vec F S512x640 .f32} {Y Y' : Vec F S512x64 .f32} (hX : k0_pay2 i X = k0_pay2 i X')
    (hY : ∀ GT : Vec F S64x640 .f32, k0_pay3 i Y GT = k0_pay3 i Y' GT) (GT : Vec F S64x640 .f32) (acc : Vec F S1x1 .f32) :
    aBl i X Y GT acc = aBl i X' Y' GT acc := by
  unfold aBl; rw [hX, hY]

theorem moved0 (i : grid0.Coords) (j : S512x640.Idx) : win0_0.moved i j = true ↔ 512 * (i 0).val + (j 0).val < 15625 := by
  rw [win0_0.moved_iff]
  refine Iff.trans Fin.forall_fin_two ?_
  have h0 : win0_0.xsize i 0 = min 512 (15625 - (i 0).val * 512) := by
    show (Pipeline.Clip.of (BitVec.ofNat 32 (i 0).val).toNat 512 15625).extent 512 = _
    rw [clip_extent, row_ofNat]
  have h1 : win0_0.xsize i 1 = 640 := rfl
  have hj0 : (j 0).val < 512 := (j 0).isLt
  have hj1 : (j 1).val < 640 := (j 1).isLt
  rw [h0, h1]
  exact ⟨fun h => by omega, fun h => ⟨by omega, hj1⟩⟩

theorem moved1 (i : grid0.Coords) (j : S512x64.Idx) : win0_1.moved i j = true ↔ 512 * (i 0).val + (j 0).val < 15625 := by
  rw [win0_1.moved_iff]
  refine Iff.trans Fin.forall_fin_two ?_
  have h0 : win0_1.xsize i 0 = min 512 (15625 - (i 0).val * 512) := by
    show (Pipeline.Clip.of (BitVec.ofNat 32 (i 0).val).toNat 512 15625).extent 512 = _
    rw [clip_extent, row_ofNat]
  have h1 : win0_1.xsize i 1 = 64 := rfl
  have hj0 : (j 0).val < 512 := (j 0).isLt
  have hj1 : (j 1).val < 64 := (j 1).isLt
  rw [h0, h1]
  exact ⟨fun h => by omega, fun h => ⟨by omega, hj1⟩⟩

end Cert.Proof
-- ==== Proof.StageC.lean ====
/-
  Stage C, the second TensorCore kernel: its body run by the executor at the first point (the scratch becomes the first
  tile's histogram), at a middle point (the scratch takes one more histogram) and at the last (the result is computed).
-/
module

public import proofs.«01_k».proof.Proof.StageA

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F] [Named F]

/-! ## What the body computes -/

/-- The result, from the summed histogram `H`, the calibration table `P` and stage A's sum `B`. -/
def cOut (H : Vec F S1288x16 .f32) (P : Vec F S50x10 .f32) (B : Vec F S1x1 .f32) : FVec F S1x1 .f32 :=
  k2_pay3
    (k2_pay23
      (k2_pay19 (k2_pay4 H)
        (k2_pay17
          (k2_pay14
            (k2_pay9 (k2_pay5 H (VecWindow.window P ![0, 1] S50x1.size inb_S50x10_S50x1_0_1)) (k2_pay7 H) (k2_pay8 H)
              (VecWindow.window P ![0, 2] S50x1.size inb_S50x10_S50x1_0_2))
            (k2_pay11 (k2_pay4 H)) (k2_pay12 (k2_pay4 H)) k2_pay13 (VecWindow.window P ![0, 3] S50x1.size inb_S50x10_S50x1_0_3))
          (k2_pay15 (k2_pay4 H)) (k2_pay16 (VecWindow.window P ![0, 4] S50x1.size inb_S50x10_S50x1_0_4)) (Scalar.ofBits .f32 0x3F800000#32))
        (k2_pay18 (k2_pay4 H) (VecWindow.window P ![0, 5] S50x1.size inb_S50x10_S50x1_0_5))
        (Named.named κ "bin_width" 0x3CA3D70A#32) (VecWindow.window P ![0, 6] S50x1.size inb_S50x10_S50x1_0_6))
      (k2_pay21 (k2_pay4 H)) (k2_pay22 (k2_pay4 H)) (Scalar.ofBits .f32 0x3F800000#32)
      (VecWindow.window P ![0, 7] S50x1.size inb_S50x10_S50x1_0_7))
    (k2_pay24 (k2_pay4 H)) (VecWindow.window P ![0, 8] S50x1.size inb_S50x10_S50x1_0_8) B

/-- The condition of the first point, and of every later one. -/
abbrev condC1 (i : grid2.Coords) : BitVec 1 := Scalar.cmpi .ne (Scalar.extui (Scalar.cmpi .eq (BitVec.ofNat 32 (i 0).val) 0#32) : BitVec 32) 0#32
abbrev condC2 (i : grid2.Coords) : BitVec 1 := Scalar.cmpi .ne (Scalar.extui (Scalar.cmpi .sgt (BitVec.ofNat 32 (i 0).val) 0#32) : BitVec 32) 0#32

theorem condC1_iff (i : grid2.Coords) : condC1 i = 1#1 ↔ (i 0).val = 0 := by
  have h : ∀ k : Fin 32, (Scalar.cmpi .ne (Scalar.extui (Scalar.cmpi .eq (BitVec.ofNat 32 k.val) 0#32) : BitVec 32) 0#32 = 1#1) ↔ k.val = 0 := by decide
  exact h ⟨(i 0).val, (i 0).isLt⟩
theorem condC2_iff (i : grid2.Coords) : condC2 i = 1#1 ↔ (i 0).val ≠ 0 := by
  have h : ∀ k : Fin 32, (Scalar.cmpi .ne (Scalar.extui (Scalar.cmpi .sgt (BitVec.ofNat 32 k.val) 0#32) : BitVec 32) 0#32 = 1#1) ↔ k.val ≠ 0 := by decide
  exact h ⟨(i 0).val, (i 0).isLt⟩
theorem condC3_iff (i : grid2.Coords) : k2_cond3 i = 1#1 ↔ (i 0).val = 31 := by
  have h : ∀ k : Fin 32, (Scalar.cmpi .ne (Scalar.extui (Scalar.cmpi .eq (BitVec.ofNat 32 k.val) 31#32) : BitVec 32) 0#32 = 1#1) ↔ k.val = 31 := by decide
  exact h ⟨(i 0).val, (i 0).isLt⟩

/-- A load of one column of a view that reads `P`. -/
theorem readCol (M : Memref sig .tc .vmem S50x10 .f32) (f : M.view.ty.Contents (Elt F)) {off : Fin 2 → ℕ} (inb : ∀ a, off a + S50x1.size a ≤ S50x10.size a)
    {P : Vec F S50x10 .f32} (e : M.view.read (Elt F) f = P) :
    M.view.readAt (Elt F) (Rect.unit (s := S50x10) off S50x1.size inb).toLoadRect f = VecWindow.window P off S50x1.size inb := by
  subst e; exact View.readAt_unit _ _ _ rfl _

section Body

variable (c : Dev nD) (i : grid2.Coords) (M1 : Memref sig .tc .vmem S1288x16 .f32) (h1 : M1.IsWhole) (M2 : Memref sig .tc .vmem S50x10 .f32) (h2 : M2.IsWhole)
  (M3 : Memref sig .tc .vmem S1x1 .f32) (h3 : M3.IsWhole) (M4 : Memref sig .tc .vmem S1x1 .f32) (h4 : M4.IsWhole)
  (M5 : Memref sig .tc .vmem S1288x16 .f32) (h5 : M5.IsWhole)
  (X : Vec F S1288x16 .f32) (P : Vec F S50x10 .f32) (B : Vec F S1x1 .f32) (O : Vec F S1x1 .f32) (H : Vec F S1288x16 .f32)

set_option maxHeartbeats 1000000 in
/-- The first point. -/
theorem bodyC_first (hc1 : condC1 i = 1#1) (hc2 : ¬ condC2 i = 1#1) (hc3 : ¬ k2_cond3 i = 1#1) (E : Set ℕ) (Q : PUnit → sProp 𝕄) :
    iprop((owns (c : Thread nD τ) M1 fullShare X ∗ owns (c : Thread nD τ) M2 fullShare P ∗ owns (c : Thread nD τ) M3 fullShare B
        ∗ owns (c : Thread nD τ) M4 fullShare O ∗ owns (c : Thread nD τ) M5 fullShare H)
      ∗ (iprop(owns (c : Thread nD τ) M1 fullShare X ∗ owns (c : Thread nD τ) M2 fullShare P ∗ owns (c : Thread nD τ) M3 fullShare B
        ∗ owns (c : Thread nD τ) M4 fullShare O ∗ owns (c : Thread nD τ) M5 fullShare (k2_pay1 X)) -∗ Q ⟨⟩))
      ⊢ wp frame (wpE (defs₀ (F := F)) 𝒱₀ c none) E (cc2__stage_c_body i M1 h1 M2 h2 M3 h3 M4 h4 M5 h5) Q := by
  rw [owns_full (c := (c : Thread nD τ)) (m := M1) h1, owns_full (c := (c : Thread nD τ)) (m := M5) h5, owns_full (c := (c : Thread nD τ)) (m := M5) h5]
  rw [cc2__stage_c_body_eq_skeleton]; unfold cc2__stage_c_body_skel
  simp only [dif_pos hc1, dif_neg hc2, dif_neg hc3]
  iintro ⟨⟨⟨%f1, %e1, H1⟩, H2, H3, H4, ⟨%f5, -, H5⟩⟩, Hk⟩
  have hr1 := (View.readAt_full M1.view f1 inb_S1288x16_S1288x16_0_0).trans e1
  sl_exec
  sl_step
  iapply Hk
  isplitl [H1]; · iexists f1; isplitr; · ipureintro; exact e1
                  iexact H1
  isplitl [H2]; · iexact H2
  isplitl [H3]; · iexact H3
  isplitl [H4]; · iexact H4
  iexists _; isplitr; swap; (· iexact H5); ipureintro
  exact (View.read_writes_full _ _ _ _ _).trans rfl

set_option maxHeartbeats 1000000 in
/-- A middle point. -/
theorem bodyC_mid (hc1 : ¬ condC1 i = 1#1) (hc2 : condC2 i = 1#1) (hc3 : ¬ k2_cond3 i = 1#1) (E : Set ℕ) (Q : PUnit → sProp 𝕄) :
    iprop((owns (c : Thread nD τ) M1 fullShare X ∗ owns (c : Thread nD τ) M2 fullShare P ∗ owns (c : Thread nD τ) M3 fullShare B
        ∗ owns (c : Thread nD τ) M4 fullShare O ∗ owns (c : Thread nD τ) M5 fullShare H)
      ∗ (iprop(owns (c : Thread nD τ) M1 fullShare X ∗ owns (c : Thread nD τ) M2 fullShare P ∗ owns (c : Thread nD τ) M3 fullShare B
        ∗ owns (c : Thread nD τ) M4 fullShare O ∗ owns (c : Thread nD τ) M5 fullShare (k2_pay2 H X)) -∗ Q ⟨⟩))
      ⊢ wp frame (wpE (defs₀ (F := F)) 𝒱₀ c none) E (cc2__stage_c_body i M1 h1 M2 h2 M3 h3 M4 h4 M5 h5) Q := by
  rw [owns_full (c := (c : Thread nD τ)) (m := M1) h1, owns_full (c := (c : Thread nD τ)) (m := M5) h5, owns_full (c := (c : Thread nD τ)) (m := M5) h5]
  rw [cc2__stage_c_body_eq_skeleton]; unfold cc2__stage_c_body_skel
  simp only [dif_neg hc1, dif_pos hc2, dif_neg hc3]
  iintro ⟨⟨⟨%f1, %e1, H1⟩, H2, H3, H4, ⟨%f5, %e5, H5⟩⟩, Hk⟩
  have hr1 := (View.readAt_full M1.view f1 inb_S1288x16_S1288x16_0_0).trans e1
  have hr5 := (View.readAt_full M5.view f5 inb_S1288x16_S1288x16_0_0).trans e5
  sl_exec
  sl_step
  iapply Hk
  isplitl [H1]; · iexists f1; isplitr; · ipureintro; exact e1
                  iexact H1
  isplitl [H2]; · iexact H2
  isplitl [H3]; · iexact H3
  isplitl [H4]; · iexact H4
  iexists _; isplitr; swap; (· iexact H5); ipureintro
  exact (View.read_writes_full _ _ _ _ _).trans rfl

set_option maxHeartbeats 4000000 in
/-- The last point. -/
theorem bodyC_last (hc1 : ¬ condC1 i = 1#1) (hc2 : condC2 i = 1#1) (hc3 : k2_cond3 i = 1#1) (E : Set ℕ) (Q : PUnit → sProp 𝕄) :
    iprop((owns (c : Thread nD τ) M1 fullShare X ∗ owns (c : Thread nD τ) M2 fullShare P ∗ owns (c : Thread nD τ) M3 fullShare B
        ∗ owns (c : Thread nD τ) M4 fullShare O ∗ owns (c : Thread nD τ) M5 fullShare H)
      ∗ (iprop(owns (c : Thread nD τ) M1 fullShare X ∗ owns (c : Thread nD τ) M2 fullShare P ∗ owns (c : Thread nD τ) M3 fullShare B
        ∗ owns (c : Thread nD τ) M4 fullShare (cOut (k2_pay2 H X) P B) ∗ owns (c : Thread nD τ) M5 fullShare (k2_pay2 H X)) -∗ Q ⟨⟩))
      ⊢ wp frame (wpE (defs₀ (F := F)) 𝒱₀ c none) E (cc2__stage_c_body i M1 h1 M2 h2 M3 h3 M4 h4 M5 h5) Q := by
  rw [owns_full (c := (c : Thread nD τ)) (m := M1) h1, owns_full (c := (c : Thread nD τ)) (m := M2) h2, owns_full (c := (c : Thread nD τ)) (m := M3) h3, owns_full (c := (c : Thread nD τ)) (m := M4) h4, owns_full (c := (c : Thread nD τ)) (m := M4) h4, owns_full (c := (c : Thread nD τ)) (m := M5) h5, owns_full (c := (c : Thread nD τ)) (m := M5) h5]
  rw [cc2__stage_c_body_eq_skeleton]; unfold cc2__stage_c_body_skel
  rw [k2_part1_eq_skeleton, k2_part2_eq_skeleton, k2_part3_eq_skeleton, k2_part4_eq_skeleton, k2_part5_eq_skeleton, k2_part6_eq_skeleton]
  unfold k2_part1_skel k2_part2_skel k2_part3_skel k2_part4_skel k2_part5_skel k2_part6_skel
  simp only [dif_neg hc1, dif_pos hc2, dif_pos hc3]
  iintro ⟨⟨⟨%f1, %e1, H1⟩, ⟨%f2, %e2, H2⟩, ⟨%f3, %e3, H3⟩, ⟨%f4, -, H4⟩, ⟨%f5, %e5, H5⟩⟩, Hk⟩
  have hr1 := (View.readAt_full M1.view f1 inb_S1288x16_S1288x16_0_0).trans e1
  have hr5 := (View.readAt_full M5.view f5 inb_S1288x16_S1288x16_0_0).trans e5
  have hr3 := (View.readAt_full M3.view f3 inb_S1x1_S1x1_0_0).trans e3
  have hp1 := readCol M2 f2 inb_S50x10_S50x1_0_1 e2
  have hp2 := readCol M2 f2 inb_S50x10_S50x1_0_2 e2
  have hp3 := readCol M2 f2 inb_S50x10_S50x1_0_3 e2
  have hp4 := readCol M2 f2 inb_S50x10_S50x1_0_4 e2
  have hp5 := readCol M2 f2 inb_S50x10_S50x1_0_5 e2
  have hp6 := readCol M2 f2 inb_S50x10_S50x1_0_6 e2
  have hp7 := readCol M2 f2 inb_S50x10_S50x1_0_7 e2
  have hp8 := readCol M2 f2 inb_S50x10_S50x1_0_8 e2
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]
  · iexists _; isplitr; swap; (· iexact H4); ipureintro
    refine (View.read_writes_full _ _ _ _ _).trans ?_
    have hv : bodyC_last.sl.v9 M5 X H = k2_pay2 H X := by
      unfold bodyC_last.sl.v9
      exact View.readCov_full (Val := Elt F) M5.view inb_S1288x16_S1288x16_0_0 inb_S1288x16_S1288x16_0_0 (k2_pay2 H X) []
    rw [hv]; rfl
  iexists _; isplitr; swap; (· iexact H5); ipureintro
  exact (View.read_writes_full _ _ _ _ _).trans rfl

end Body

end Cert.Proof
-- ==== Proof.Region.lean ====
/-
  A TensorCore kernel of the program as a region of @main between SparseCore calls: entered and left with the arrays its
  windows name held at a valuation, the core owing what the launch protocol has it owe at that place, its recorded waits
  within the protocol's bound.
-/
module

public import proofs.«01_k».proof.Proof.Setup
public import Idealize.ShloMosaic.Lib.Pipeline.RegionArrays

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type}

local notation "𝕄" => MT nD τ sig (HIx 1) (Elt F) ℕ UU ℕ

/-- The pipelines' rounds within the resource algebra. -/
def EP : Emb UR (MT nD τ sig (HIx 1) (Elt F) ℕ UU ℕ) :=
  ((Emb.inl : Emb UR (UR × Counters)).trans (Emb.inr : Emb (UR × Counters) UU)).trans
    (uEmb (nD := nD) (τ := τ) (sig := sig) (Ix := HIx 1) (Val := Elt F) (Name := ℕ) (U := UU) (Lvl := ℕ)).toEmb

instance EP_landsIn : (EP : Emb UR 𝕄).LandsIn (upEmb : UEmb _ 𝕄) := by unfold EP; infer_instance

/-- What the launch puts in the ghost state: the handshakes' part and the pipelines'. -/
theorem ownU_split (a : UH) (b : UR) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- The launch protocol's debts sit at its stages, none at a kernel's own index. -/
theorem otc_none (d : Dev nD) (n : ℕ) (g : GSem nD τ sig) : (K (F := F)).Otc d n g none = 0 := by
  rcases Nat.eq_zero_or_pos ((K (F := F)).Otc d n g none) with h | h
  · exact h
  · exact absurd (SparseCore.Cfg.lev_of_Otc_pos h) (by rw [SparseCore.Cfg.lev_none]; omega)

/-- A kernel's own wait is allowed under those debts. -/
theorem mayWait (d : Dev nD) (n : ℕ) (sm : SemLoc sig) :
    (levAts (K (F := F)).L (K (F := F)).lev : sProp 𝕄) ⊢ MayWait (d : Thread nD τ) sm none ((K (F := F)).Otc d n) :=
  (K (F := F)).mayWait_none (Name := ℕ) (U := UU) (thr := (d : Thread nD τ)) sm (otc_none d n) (K (F := F)).lev (K (F := F)).refines_self

/-- The pairs the core may have recorded at stage `n` of the launch protocol. -/
def below (d : Dev nD) (n : ℕ) : Set (SemLoc sig × HIx 1) :=
  {p | (K (F := F)).lev ((d : Thread nD τ), p.1) p.2 ≤ 8 * n}

/-- No kernel of the program prefetches a table. -/
abbrev adm : (p : Fin 2) → (pcfgs (F := F) p).Adm := fun p => (cfgs p).toPCfg_adm

variable [FloatOps F] [Named F]

/-- The core's debts at stage `n`, its recorded waits within the stage's bound. -/
abbrev owesSt (d : Dev nD) (n : ℕ) : sProp 𝕄 :=
  iprop(∃ W, ⌜(K (F := F)).WBelow (T d) W (8 * n)⌝ ∗ owes (T d) ((K (F := F)).Otc d n) W)

variable (p : Fin 2) (pdats : (p : Fin 2) → (c : Dev nD) → Dat τ (Elt F) (HIx 1) ℕ UU ℕ (pin (pcfgs (F := F)) adm p) c)

/-- Pipeline `p` as a region of @main at stage `n`: from its arrays at `W` to its arrays at `W'`. -/
def region (n : ℕ) (kit : PLaunchFacts (nD := nD) (τ := τ) (pcfgs (F := F)) p)
    (hbody : ∀ c, BodyObligationLoose (pdats p c) (defs₀ (F := F)) 𝒱₀ none Set.univ)
    (howed : ∀ c t, (pdats p c).owed t = (K (F := F)).Otc c n)
    (hrec : ∀ c t, (pdats p c).recorded t = below (F := F) c n)
    (hshare : ∀ c w, (pdats p c).share w = fullShare)
    (hin : ∀ c, scopedRest (pin (pcfgs (F := F)) adm p).spec c ⊢ (pdats p c).Φ 0)
    (hout : ∀ c, (pdats p c).Φ (Fin.last (pin (pcfgs (F := F)) adm p).N) ⊢ scopedRest (pin (pcfgs (F := F)) adm p).spec c)
    (W W' : Dev nD → Valuation τ sig (Elt F))
    (hW : ∀ c w, (pdats p c).arrAt w 0 = W c (Proc.devRef .tc (arrRef (pin (pcfgs (F := F)) adm p).spec w)))
    (hW' : ∀ c w, (pdats p c).arrAt w (pin (pcfgs (F := F)) adm p).N = W' c (Proc.devRef .tc (arrRef (pin (pcfgs (F := F)) adm p).spec w))) :
    RegionSeg (pcfgs (F := F)) adm pdats none (defs₀ (F := F)) 𝒱₀ (K (F := F)).L (K (F := F)).lev p where
  win := kit.win.to₀
  block_pos := kit.block_pos
  stage_whole := kit.stage_whole
  K := PEmpty
  osem k := k.elim
  ho := OwnSemFacts.none _
  hbody := hbody
  hwaits c := cellsWaits_intro (pin (pcfgs (F := F)) adm) pdats none p c fun w s t => by
    rw [howed c t]; exact mayWait c n _
  pre c := iprop(StableHlo.held (c.tc : Thread nD τ) (arrRefs (pcfgs (F := F) p).spec) (W c) ∗ owesSt (F := F) c n)
  post c := iprop(StableHlo.held (c.tc : Thread nD τ) (arrRefs (pcfgs (F := F) p).spec) (W' c) ∗ owesSt (F := F) c n)
  X _ := iprop(emp)
  Y _ := iprop(emp)
  Z _ := iprop(emp)
  hentry c := by
    rw [← arrays_held (pcfgs (F := F)) adm pdats p kit c (hshare c) ((pdats p c).arrAt · 0) (W c) (hW c)]
    rw [ownSems0_none, prefHeld_of_none _ rfl]
    iintro ⟨⟨Ha, HO⟩, -, -⟩
    imodintro
    isplitl [Ha]; · iexact Ha
    isplitr; · iempintro
    isplitl [HO]
    · unfold Dat.owesAt owesWithin Dat.bound
      rw [howed c 0, hrec c]
      icases HO with ⟨%W, %hB, HO⟩; iexists W; isplitr; · ipureintro; exact fun q hq => Or.inl (hB q hq)
      iexact HO
    isplitr <;> iempintro
  hin c := (show _ ⊢ scopedRest (pin (pcfgs (F := F)) adm p).spec c from by
    iintro ⟨-, -, Hr⟩; iexact Hr).trans (hin c)
  hout c := (hout c).trans (by
    rw [ownSems0_none]
    iintro Hr
    isplitr; · iempintro
    isplitr; · iempintro
    iexact Hr)
  hexit c := by
    rw [← arrays_held (pcfgs (F := F)) adm pdats p kit c (hshare c) ((pdats p c).arrAt · (pin (pcfgs (F := F)) adm p).N) (W' c) (hW' c)]
    iintro ⟨Ha, HO, -, -⟩
    imodintro
    isplitl [Ha]; · iexact Ha
    unfold Dat.owesAt owesWithin Dat.bound
    rw [howed c (Fin.last _), hrec c]
    icases HO with ⟨%W, %hB, HO⟩; iexists W
    isplitr
    · ipureintro
      intro q hq
      rcases hB hq with h | ⟨w, s, h⟩
      · exact h
      · subst h; exact Nat.zero_le _
    iexact HO

end Cert.Proof
-- ==== Proof.RegionA.lean ====
/-
  Stage A as a region of @main: what every staging buffer holds at every point, the running sum carried from point to
  point, and the two results as the write-backs leave them.
-/
module

public import proofs.«01_k».proof.Proof.StageA
public import proofs.«01_k».proof.Proof.Region

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline

variable {F : FTy → Type} [FloatOps F] [Named F]

local notation "𝕄" => MT nD τ sig (HIx 1) (Elt F) ℕ UU ℕ

/-- A valuation at a TensorCore buffer. -/
abbrev at' (V : Valuation τ sig (Elt F)) (b : Ref sig .tc) := V (Proc.devRef .tc b)

/-- The float zero, which fills a staged block past the array's end. -/
abbrev z32 : F .f32 := Scalar.ofBits .f32 0x00000000#32

variable (V : Valuation τ sig (Elt F))

/-- The staged blocks at a point, zeros past the array's end. -/
def xB (t : Fin cfg0.N) : Vec F S512x640 .f32 :=
  win0_0.fill (grid0.coords t) (fun _ => z32) (((cfg0.win 0).blk t).view.read (Elt F) (at' V (arrRef spec0 0)))
def yB (t : Fin cfg0.N) : Vec F S512x64 .f32 :=
  win0_1.fill (grid0.coords t) (fun _ => z32) (((cfg0.win 1).blk t).view.read (Elt F) (at' V (arrRef spec0 1)))
def gB (t : Fin cfg0.N) : Vec F S640x64 .f32 := ((cfg0.win 2).blk t).view.read (Elt F) (at' V (arrRef spec0 2))
def gtB (t : Fin cfg0.N) : Vec F S64x640 .f32 := ((cfg0.win 3).blk t).view.read (Elt F) (at' V (arrRef spec0 3))
def cB (t : Fin cfg0.N) : Vec F S1x640 .f32 := ((cfg0.win 4).blk t).view.read (Elt F) (at' V (arrRef spec0 4))

/-- The point of number `n`. -/
def tA (n : ℕ) : Fin cfg0.N := ⟨n % 31, (Nat.mod_lt _ (by decide)).trans_eq N_0.symm⟩

theorem tA_val (t : Fin cfg0.N) : tA t.val = t := Fin.ext (Nat.mod_eq_of_lt (lt_of_lt_of_eq t.isLt N_0))

/-- The running sum after `n` blocks. -/
def blN : ℕ → Vec F S1x1 .f32
  | 0 => k0_pay9 (F := F)
  | n + 1 => aBl (grid0.coords (tA n)) (xB V (tA n)) (yB V (tA n)) (gtB V (tA n)) (blN n)

theorem blN_succ (t : Fin cfg0.N) : blN V (t.val + 1) = aBl (grid0.coords t) (xB V t) (yB V t) (gtB V t) (blN V t.val) := by
  show aBl (grid0.coords (tA t.val)) (xB V (tA t.val)) (yB V (tA t.val)) (gtB V (tA t.val)) (blN V t.val) = _
  rw [tA_val]

/-- The proof data of stage A at stage `n` of the launch protocol, from the valuation `V`. -/
def datA (n : ℕ) (c : Dev nD) : Dat τ (Elt F) (HIx 1) ℕ UU ℕ cfg0 c where
  A w := at' V (arrRef spec0 w)
  after w t := match w with
    | ⟨0, _⟩ => xB V t
    | ⟨1, _⟩ => yB V t
    | ⟨2, _⟩ => gB V t
    | ⟨3, _⟩ => gtB V t
    | ⟨4, _⟩ => cB V t
    | ⟨5, _⟩ => aAddr (grid0.coords t) (xB V t) (yB V t) (gB V t) (gtB V t) (cB V t)
    | ⟨6, _⟩ => blN V (t.val + 1)
  Φ _ := scopedRest (pin (pcfgs (F := F)) adm 0).spec c
  q _ := fullShare
  owed _ := (K (F := F)).Otc c n
  recorded _ := below (F := F) c n

variable (n : ℕ) (c : Dev nD)

theorem beforeA_0 (t : Fin cfg0.N) (d) : (datA V n c).before (0 : Fin 7) t d
    = win0_0.fill (grid0.coords t) d (((cfg0.win 0).blk t).view.read (Elt F) (at' V (arrRef spec0 0))) := by
  unfold Dat.before; rw [if_pos (fetch0_0 t)]; rfl
theorem beforeA_1 (t : Fin cfg0.N) (d) : (datA V n c).before (1 : Fin 7) t d
    = win0_1.fill (grid0.coords t) d (((cfg0.win 1).blk t).view.read (Elt F) (at' V (arrRef spec0 1))) := by
  unfold Dat.before; rw [if_pos (fetch0_1 t)]; rfl
theorem beforeA_2 (t : Fin cfg0.N) (d) : (datA V n c).before (2 : Fin 7) t d = gB V t :=
  (Dat.before_in_eq_fetched (datA V n c) 2 rfl (fun _ => rfl) (fun _ _ _ => rfl) (fun _ => rfl) t d).trans rfl
theorem beforeA_3 (t : Fin cfg0.N) (d) : (datA V n c).before (3 : Fin 7) t d = gtB V t :=
  (Dat.before_in_eq_fetched (datA V n c) 3 rfl (fun _ => rfl) (fun _ _ _ => rfl) (fun _ => rfl) t d).trans rfl
theorem beforeA_4 (t : Fin cfg0.N) (d) : (datA V n c).before (4 : Fin 7) t d = cB V t :=
  (Dat.before_in_eq_fetched (datA V n c) 4 rfl (fun _ => rfl) (fun _ _ _ => rfl) (fun _ => rfl) t d).trans rfl
theorem beforeA_5 (t : Fin cfg0.N) (d) : (datA V n c).before (5 : Fin 7) t d = d :=
  Dat.before_out_reset (datA V n c) 5 rfl t (by
    by_cases h : t.val = 0
    · exact Or.inl h
    · exact Or.inr ⟨h, flush0_5 _⟩) d
theorem beforeA_6_zero (t : Fin cfg0.N) (h : t.val = 0) (d) : (datA V n c).before (6 : Fin 7) t d = d :=
  Dat.before_out_reset (datA V n c) 6 rfl t (Or.inl h) d
theorem beforeA_6_pos (t : Fin cfg0.N) (h : t.val ≠ 0) (d) : (datA V n c).before (6 : Fin 7) t d = blN V t.val := by
  have hN : t.val < 31 := lt_of_lt_of_eq t.isLt N_0
  refine (Dat.before_out_kept (datA V n c) 6 rfl t h (by
    rw [Bool.eq_false_iff]; intro hf; have := (flush0_6 _).1 hf; simp only at this; omega) (fun _ => rfl) (fun _ _ => rfl) d).trans ?_
  show blN V (t.val - 1 + 1) = _
  rw [Nat.sub_add_cancel (Nat.pos_of_ne_zero h)]

/-- The condition of the first point. -/
theorem condA_iff (i : grid0.Coords) : condA i = 1#1 ↔ (i 0).val = 0 := by
  have h : ∀ k : Fin 31, (Scalar.cmpi .ne (Scalar.extui (Scalar.cmpi .eq (BitVec.ofNat 32 k.val) 0#32) : BitVec 32) 0#32 = 1#1) ↔ k.val = 0 := by decide
  exact h ⟨(i 0).val, (i 0).isLt⟩

theorem coords0 (t : Fin cfg0.N) : ((grid0.coords t) 0).val = t.val := by
  have h := Grid.coords_val (G := grid0) t 0 (S := 1) (B := 31) (by decide) rfl
  have hN : t.val < 31 := lt_of_lt_of_eq t.isLt N_0
  rw [h]; omega

/-- The running sum the body adds to at a point. -/
theorem accA_before (t : Fin cfg0.N) (d) : accA (grid0.coords t) ((datA V n c).before (6 : Fin 7) t d) = blN V t.val := by
  by_cases h : t.val = 0
  · exact (if_pos ((condA_iff _).2 ((coords0 t).trans h))).trans (by rw [h]; rfl)
  · exact (if_neg (fun hc => h ((coords0 t).symm.trans ((condA_iff _).1 hc)))).trans (beforeA_6_pos V n c t h d)
/-- A staged block's rows inside the array do not depend on what lies past the array's end. -/
theorem xB_rows (t : Fin cfg0.N) (d : S512x640.Idx → Elt F .f32) (j : S512x640.Idx) (h : 512 * ((grid0.coords t) 0).val + (j 0).val < 15625) :
    (win0_0.fill (grid0.coords t) d (((cfg0.win 0).blk t).view.read (Elt F) (at' V (arrRef spec0 0))) : Vec F S512x640 .f32) j = xB V t j := by
  have hm := (moved0 (grid0.coords t) j).2 h
  unfold xB Window.fill; rw [dif_pos hm, dif_pos hm]
theorem yB_rows (t : Fin cfg0.N) (d : S512x64.Idx → Elt F .f32) (j : S512x64.Idx) (h : 512 * ((grid0.coords t) 0).val + (j 0).val < 15625) :
    (win0_1.fill (grid0.coords t) d (((cfg0.win 1).blk t).view.read (Elt F) (at' V (arrRef spec0 1))) : Vec F S512x64 .f32) j = yB V t j := by
  have hm := (moved1 (grid0.coords t) j).2 h
  unfold yB Window.fill; rw [dif_pos hm, dif_pos hm]

set_option maxHeartbeats 1000000 in
theorem obligationA : BodyObligationLoose (datA V n c) (defs₀ (F := F)) 𝒱₀ none Set.univ := fun t => by
  rw [bigSep_W0, bigSep_W0]
  simp only
  rw [show (datA V n c).Φ t.succ = (datA V n c).Φ t.castSucc from rfl,
    show (datA V n c).owesAt none t.succ = (datA V n c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [beforeA_0 V n c t d0, beforeA_1 V n c t d1, beforeA_2 V n c t d2, beforeA_3 V n c t d3, beforeA_4 V n c t d4]
  have hX := pay2_congr (grid0.coords t) (xB_rows V t d0)
  have hY := pay3_congr (grid0.coords t) (yB_rows V t d1)
  iapply (bodyA (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (win0_0.fill (grid0.coords t) d0 (((cfg0.win 0).blk t).view.read (Elt F) (at' V (arrRef spec0 0))))
    (win0_1.fill (grid0.coords t) d1 (((cfg0.win 1).blk t).view.read (Elt F) (at' V (arrRef spec0 1))))
    (gB V t) (gtB V t) (cB V t) ((datA V n c).before (5 : Fin 7) t d5) ((datA V n c).before (6 : Fin 7) t d6) Set.univ _)
  rw [aAddr_congr (grid0.coords t) hX hY, aBl_congr (grid0.coords t) hX hY, accA_before V n c t d6, ← blN_succ V t]
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]
  · iexists d0
    rw [show (cfg0.win 0).cut (cfg0.grid.coords t) ((datA V n c).after 0 t) = ((cfg0.win 0).blk t).view.read (Elt F) (at' V (arrRef spec0 0)) from
      win0_0.cut_fill _ _ _]
    iexact H0
  isplitl [H1]
  · iexists d1
    rw [show (cfg0.win 1).cut (cfg0.grid.coords t) ((datA V n c).after 1 t) = ((cfg0.win 1).blk t).view.read (Elt F) (at' V (arrRef spec0 1)) from
      win0_1.cut_fill _ _ _]
    iexact H1
  isplitl [H2]; · iexact H2
  isplitl [H3]; · iexact H3
  isplitl [H4]; · iexact H4
  isplitl [H5]
  · iexists ((datA V n c).after 5 t)
    rw [show (cfg0.win 5).fill (cfg0.grid.coords t) ((datA V n c).after 5 t) ((cfg0.win 5).cut (cfg0.grid.coords t) ((datA V n c).after 5 t)) = (datA V n c).after 5 t from
      (cfg0.win 5).fill_cut _ _]
    iexact H5
  iexact H6

/-! ## The region -/

attribute [local irreducible] Pipeline.scopedRest

/-- Stage A's two results, as the write-backs leave them. -/
def codesOut (V : Valuation τ sig (Elt F)) : Buf (Elt F) ((cfg0.win 5).arr.view.loc ((0 : Dev nD).tc : Thread nD τ)) := (datA V 0 0).arrAt 5 cfg0.N
def blOut (V : Valuation τ sig (Elt F)) : Buf (Elt F) ((cfg0.win 6).arr.view.loc ((0 : Dev nD).tc : Thread nD τ)) := (datA V 0 0).arrAt 6 cfg0.N

/-- The valuation stage A leaves. -/
def afterA (V : Valuation τ sig (Elt F)) : Valuation τ sig (Elt F) :=
  Function.update (Function.update V (Proc.devRef .tc main_v16_0) (codesOut V)) (Proc.devRef .tc main_v16_1) (blOut V)

theorem afterA_1 : afterA V (Proc.devRef .tc main_v16_1) = blOut V := Function.update_self ..
theorem afterA_0 : afterA V (Proc.devRef .tc main_v16_0) = codesOut V :=
  (Function.update_of_ne (by decide) ..).trans (Function.update_self ..)
theorem afterA_ne {b : DevRef τ sig} (h0 : b ≠ Proc.devRef .tc main_v16_0) (h1 : b ≠ Proc.devRef .tc main_v16_1) : afterA V b = V b :=
  (Function.update_of_ne h1 ..).trans (Function.update_of_ne h0 ..)

/-- The proof data of both pipelines when stage A runs: stage C's is not used. -/
def pdA (V : Dev nD → Valuation τ sig (Elt F)) : (p : Fin 2) → (c : Dev nD) → Dat τ (Elt F) (HIx 1) ℕ UU ℕ (pin (pcfgs (F := F)) adm p) c
  | ⟨0, _⟩ => fun c => datA (V c) 0 c
  | ⟨1, _⟩ => fun _ => { A := fun _ _ => Classical.arbitrary _, after := fun _ _ _ => Classical.arbitrary _, Φ := fun _ => iprop(emp), q := fun _ => fullShare, owed := fun _ => 0 }

theorem arrAtA (w : Fin 7) : (datA V 0 c).arrAt w cfg0.N = afterA V (Proc.devRef .tc (arrRef spec0 w)) := by
  match w with
  | ⟨0, _⟩ => exact ((datA V 0 c).arrAt_in 0 rfl _).trans (afterA_ne V (by decide) (by decide)).symm
  | ⟨1, _⟩ => exact ((datA V 0 c).arrAt_in 1 rfl _).trans (afterA_ne V (by decide) (by decide)).symm
  | ⟨2, _⟩ => exact ((datA V 0 c).arrAt_in 2 rfl _).trans (afterA_ne V (by decide) (by decide)).symm
  | ⟨3, _⟩ => exact ((datA V 0 c).arrAt_in 3 rfl _).trans (afterA_ne V (by decide) (by decide)).symm
  | ⟨4, _⟩ => exact ((datA V 0 c).arrAt_in 4 rfl _).trans (afterA_ne V (by decide) (by decide)).symm
  | ⟨5, _⟩ => obtain rfl : c = 0 := Subsingleton.elim _ _; exact (afterA_0 V).symm
  | ⟨6, _⟩ => obtain rfl : c = 0 := Subsingleton.elim _ _; exact (afterA_1 V).symm

/-- Stage A as a region of @main. -/
def regionA (V : Dev nD → Valuation τ sig (Elt F)) :
    RegionSeg (pcfgs (F := F)) adm (pdA V) none (defs₀ (F := F)) 𝒱₀ (K (F := F)).L (K (F := F)).lev 0 :=
  region 0 (pdA V) 0 launch0.toP (fun c => obligationA (V c) 0 c) (fun _ _ => rfl) (fun _ _ => rfl) (fun c => (pdA V 0 c).share_full fun _ => rfl)
    (fun _ => Entails.refl _) (fun _ => Entails.refl _) V (fun c => afterA (V c)) (fun _ _ => rfl) (fun c w => arrAtA (V c) c w)

end Cert.Proof
-- ==== Proof.RegionC.lean ====
/-
  Stage C as a region of @main: the scratch buffer carries the sum of the tiles' histograms from point to point, and the
  last point writes the result.
-/
module

public import proofs.«01_k».proof.Proof.StageC
public import proofs.«01_k».proof.Proof.RegionA

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline

variable {F : FTy → Type} [FloatOps F] [Named F]

local notation "𝕄" => MT nD τ sig (HIx 1) (Elt F) ℕ UU ℕ

variable (V : Valuation τ sig (Elt F))

/-- The staged blocks at a point. -/
def hB (t : Fin cfg2.N) : Vec F S1288x16 .f32 := ((cfg2.win 0).blk t).view.read (Elt F) (at' V (arrRef spec2 0))
def pB (t : Fin cfg2.N) : Vec F S50x10 .f32 := ((cfg2.win 1).blk t).view.read (Elt F) (at' V (arrRef spec2 1))
def bB (t : Fin cfg2.N) : Vec F S1x1 .f32 := ((cfg2.win 2).blk t).view.read (Elt F) (at' V (arrRef spec2 2))

/-- The point of number `n`. -/
def tC (n : ℕ) : Fin cfg2.N := ⟨n % 32, (Nat.mod_lt _ (by decide)).trans_eq N_2.symm⟩

theorem tC_val (t : Fin cfg2.N) : tC t.val = t := Fin.ext (Nat.mod_eq_of_lt (lt_of_lt_of_eq t.isLt N_2))

/-- The scratch after point `n`: the sum of the histograms of points `0` to `n`. -/
def hN : ℕ → Vec F S1288x16 .f32
  | 0 => k2_pay1 (hB V (tC 0))
  | n + 1 => k2_pay2 (hN n) (hB V (tC (n + 1)))

theorem hN_succ (t : Fin cfg2.N) {k : ℕ} (h : t.val = k + 1) : hN V t.val = k2_pay2 (hN V k) (hB V t) := by
  rw [h]; show k2_pay2 (hN V k) (hB V (tC (k + 1))) = _
  rw [← h, tC_val]

theorem hN_zero (t : Fin cfg2.N) (h : t.val = 0) : hN V t.val = k2_pay1 (hB V t) := by
  rw [h]; show k2_pay1 (hB V (tC 0)) = _
  rw [← h, tC_val]

/-- A scoped buffer at some contents. -/
abbrev some' (c : Dev nD) (b : Ref sig .tc) : sProp 𝕄 :=
  iprop(∃ f : Buf (Elt F) ((c : Thread nD τ).loc b), ((c : Thread nD τ).loc b) ↦{fullShare} f)

/-- The scoped buffers of stage A, which stage C does not touch. -/
abbrev idleBufs (c : Dev nD) : sProp 𝕄 :=
  iprop(some' c cc0_stg0_0 ∗ some' c cc0_stg0_1 ∗ some' c cc0_stg1_0 ∗ some' c cc0_stg1_1 ∗ some' c cc0_stg2_0 ∗ some' c cc0_stg3_0
    ∗ some' c cc0_stg4_0 ∗ some' c cc0_stg5_0 ∗ some' c cc0_stg5_1 ∗ some' c cc0_stg6_0)

/-- The scratch before point `n`. -/
def scr (c : Dev nD) : ℕ → sProp 𝕄
  | 0 => iprop(∃ X, owns (c : Thread nD τ) (Memref.whole cc2_scratch0) fullShare X)
  | n + 1 => owns (c : Thread nD τ) (Memref.whole cc2_scratch0) fullShare (hN V n)

/-- The proof data of stage C at stage `n` of the launch protocol, from the valuation `V`. -/
def datC (n : ℕ) (c : Dev nD) : Dat τ (Elt F) (HIx 1) ℕ UU ℕ cfg2 c where
  A w := at' V (arrRef spec2 w)
  after w t := match w with
    | ⟨0, _⟩ => hB V t
    | ⟨1, _⟩ => pB V t
    | ⟨2, _⟩ => bB V t
    | ⟨3, _⟩ => cOut (hN V 31) (pB V t) (bB V t)
  Φ t := iprop(idleBufs c ∗ scr V c t.val)
  q _ := fullShare
  owed _ := (K (F := F)).Otc c n
  recorded _ := below (F := F) c n

variable (n : ℕ) (c : Dev nD)

theorem beforeC_0 (t : Fin cfg2.N) (d) : (datC V n c).before (0 : Fin 4) t d = hB V t := by
  unfold Dat.before; rw [if_pos (fetch2_0 t)]; rfl
theorem beforeC_1 (t : Fin cfg2.N) (d) : (datC V n c).before (1 : Fin 4) t d = pB V t :=
  (Dat.before_in_eq_fetched (datC V n c) 1 rfl (fun _ => rfl) (fun _ _ _ => rfl) (fun _ => rfl) t d).trans rfl
theorem beforeC_2 (t : Fin cfg2.N) (d) : (datC V n c).before (2 : Fin 4) t d = bB V t :=
  (Dat.before_in_eq_fetched (datC V n c) 2 rfl (fun _ => rfl) (fun _ _ _ => rfl) (fun _ => rfl) t d).trans rfl

theorem coords2 (t : Fin cfg2.N) : ((grid2.coords t) 0).val = t.val := by
  have h := Grid.coords_val (G := grid2) t 0 (S := 1) (B := 32) (by decide) rfl
  have hN : t.val < 32 := lt_of_lt_of_eq t.isLt N_2
  rw [h]; omega

theorem idleC (t : Fin cfg2.N) (h : t.val ≠ 31) : idle2 (3 : Fin 4) (grid2.coords t) = true := by
  have hc : ¬ k2_cond3 (grid2.coords t) = 1#1 := fun hc => h ((coords2 t).symm.trans ((condC3_iff _).1 hc))
  show (!(k2_cond3 (grid2.coords t) == 1#1)) = true
  rw [beq_eq_false_iff_ne.2 hc]; rfl
theorem liveC (t : Fin cfg2.N) (h : t.val = 31) : idle2 (3 : Fin 4) (grid2.coords t) = false := by
  have hc : k2_cond3 (grid2.coords t) = 1#1 := (condC3_iff _).2 ((coords2 t).trans h)
  show (!(k2_cond3 (grid2.coords t) == 1#1)) = false
  rw [hc]; rfl
theorem flushC (t : Fin cfg2.N) (h : t.val ≠ 31) : (cfg2.win (3 : Fin 4)).flush t = false := by
  have hN : t.val < 32 := lt_of_lt_of_eq t.isLt N_2
  rw [Bool.eq_false_iff]; intro hf; have := (flush2_3 _).1 hf; omega

set_option maxHeartbeats 1000000 in
theorem obligationC : BodyObligationLoose (datC V n c) (defs₀ (F := F)) 𝒱₀ none Set.univ := fun t => by
  rw [bigSep_W2, bigSep_W2]
  simp only
  rw [show (datC V n c).Φ t.succ = iprop(idleBufs c ∗ owns (c : Thread nD τ) (Memref.whole cc2_scratch0) fullShare (hN V t.val)) from rfl,
    show (datC V n c).Φ t.castSucc = iprop(idleBufs c ∗ scr V c t.val) from rfl,
    show (datC V n c).owesAt none t.succ = (datC V n c).owesAt none t.castSucc from rfl]
  have hi := coords2 t
  by_cases hl : t.val = 31
  · have hc1 : ¬ condC1 (grid2.coords t) = 1#1 := fun h => by have := (condC1_iff _).1 h; omega
    have hc2 : condC2 (grid2.coords t) = 1#1 := (condC2_iff _).2 (by omega)
    have hc3 : k2_cond3 (grid2.coords t) = 1#1 := (condC3_iff _).2 (by omega)
    simp only [liveC t hl]
    rw [show scr V c t.val = (owns (c : Thread nD τ) (Memref.whole cc2_scratch0) fullShare (hN V 30) : sProp 𝕄) from by rw [hl]; rfl]
    iintro ⟨⟨HΦ, HS⟩, Ho, ⟨%d0, H0⟩, ⟨%d1, H1⟩, ⟨%d2, H2⟩, ⟨%d3, H3⟩⟩
    rw [beforeC_0 V n c t d0, beforeC_1 V n c t d1, beforeC_2 V n c t d2]
    iapply (bodyC_last (F := F) c (grid2.coords t) (st2_0 t) (hstage2_0 ((cfg2.slots t 0).cast nbuf2_0)) (st2_1 t) (hstage2_1 ((cfg2.slots t 1).cast nbuf2_1))
      (st2_2 t) (hstage2_2 ((cfg2.slots t 2).cast nbuf2_2)) (st2_3 t) (hstage2_3 ((cfg2.slots t 3).cast nbuf2_3)) (Memref.whole cc2_scratch0) (Memref.isWhole_whole _)
      (hB V t) (pB V t) (bB V t) ((datC V n c).before (3 : Fin 4) t d3) (hN V 30) hc1 hc2 hc3 Set.univ _)
    isplitl [H0 H1 H2 H3 HS]
    · isplitl [H0]; · iexact H0
      isplitl [H1]; · iexact H1
      isplitl [H2]; · iexact H2
      isplitl [H3]; · iexact H3
      iexact HS
    rw [← hN_succ V t (k := 30) hl]
    iintro ⟨H0, H1, H2, H3, HS⟩
    isplitl [HΦ HS]
    · isplitl [HΦ]; · iexact HΦ
      iexact HS
    isplitl [Ho]; · iexact Ho
    isplitl [H0]; · iexact H0
    isplitl [H1]; · iexact H1
    isplitl [H2]; · iexact H2
    rw [hl]
    iexact H3
  · simp only [idleC t hl, flushC t hl]
    have hc3 : ¬ k2_cond3 (grid2.coords t) = 1#1 := fun h => hl (by have := (condC3_iff _).1 h; omega)
    by_cases h0 : t.val = 0
    · have hc1 : condC1 (grid2.coords t) = 1#1 := (condC1_iff _).2 (by omega)
      have hc2 : ¬ condC2 (grid2.coords t) = 1#1 := fun h => by have := (condC2_iff _).1 h; omega
      rw [show scr V c t.val = (iprop(∃ X, owns (c : Thread nD τ) (Memref.whole cc2_scratch0) fullShare X) : sProp 𝕄) from by rw [h0]; rfl]
      iintro ⟨⟨HΦ, HS⟩, Ho, ⟨%d0, H0⟩, ⟨%d1, H1⟩, ⟨%d2, H2⟩, ⟨%d3, H3⟩⟩
      rw [beforeC_0 V n c t d0, beforeC_1 V n c t d1, beforeC_2 V n c t d2]
      icases HS with ⟨%X, HS⟩
      iapply (bodyC_first (F := F) c (grid2.coords t) (st2_0 t) (hstage2_0 ((cfg2.slots t 0).cast nbuf2_0)) (st2_1 t) (hstage2_1 ((cfg2.slots t 1).cast nbuf2_1))
        (st2_2 t) (hstage2_2 ((cfg2.slots t 2).cast nbuf2_2)) (st2_3 t) (hstage2_3 ((cfg2.slots t 3).cast nbuf2_3)) (Memref.whole cc2_scratch0) (Memref.isWhole_whole _)
        (hB V t) (pB V t) (bB V t) ((datC V n c).before (3 : Fin 4) t d3) X hc1 hc2 hc3 Set.univ _)
      isplitl [H0 H1 H2 H3 HS]
      · isplitl [H0]; · iexact H0
        isplitl [H1]; · iexact H1
        isplitl [H2]; · iexact H2
        isplitl [H3]; · iexact H3
        iexact HS
      rw [← hN_zero V t h0]
      iintro ⟨H0, H1, H2, H3, HS⟩
      isplitl [HΦ HS]
      · isplitl [HΦ]; · iexact HΦ
        iexact HS
      isplitl [Ho]; · iexact Ho
      isplitl [H0]; · iexact H0
      isplitl [H1]; · iexact H1
      isplitl [H2]; · iexact H2
      iexists d3; iexact H3
    · obtain ⟨k, hk⟩ := Nat.exists_eq_succ_of_ne_zero h0
      have hc1 : ¬ condC1 (grid2.coords t) = 1#1 := fun h => by have := (condC1_iff _).1 h; omega
      have hc2 : condC2 (grid2.coords t) = 1#1 := (condC2_iff _).2 (by omega)
      rw [show scr V c t.val = (owns (c : Thread nD τ) (Memref.whole cc2_scratch0) fullShare (hN V k) : sProp 𝕄) from by rw [hk]; rfl]
      iintro ⟨⟨HΦ, HS⟩, Ho, ⟨%d0, H0⟩, ⟨%d1, H1⟩, ⟨%d2, H2⟩, ⟨%d3, H3⟩⟩
      rw [beforeC_0 V n c t d0, beforeC_1 V n c t d1, beforeC_2 V n c t d2]
      iapply (bodyC_mid (F := F) c (grid2.coords t) (st2_0 t) (hstage2_0 ((cfg2.slots t 0).cast nbuf2_0)) (st2_1 t) (hstage2_1 ((cfg2.slots t 1).cast nbuf2_1))
        (st2_2 t) (hstage2_2 ((cfg2.slots t 2).cast nbuf2_2)) (st2_3 t) (hstage2_3 ((cfg2.slots t 3).cast nbuf2_3)) (Memref.whole cc2_scratch0) (Memref.isWhole_whole _)
        (hB V t) (pB V t) (bB V t) ((datC V n c).before (3 : Fin 4) t d3) (hN V k) hc1 hc2 hc3 Set.univ _)
      isplitl [H0 H1 H2 H3 HS]
      · isplitl [H0]; · iexact H0
        isplitl [H1]; · iexact H1
        isplitl [H2]; · iexact H2
        isplitl [H3]; · iexact H3
        iexact HS
      rw [← hN_succ V t hk]
      iintro ⟨H0, H1, H2, H3, HS⟩
      isplitl [HΦ HS]
      · isplitl [HΦ]; · iexact HΦ
        iexact HS
      isplitl [Ho]; · iexact Ho
      isplitl [H0]; · iexact H0
      isplitl [H1]; · iexact H1
      isplitl [H2]; · iexact H2
      iexists d3; iexact H3

/-! ## The region -/

attribute [local irreducible] Pipeline.scopedRest

theorem inC (c : Dev nD) : (scopedRest (pin (pcfgs (F := F)) adm 1).spec c : sProp 𝕄) ⊢ iprop(idleBufs c ∗ scr V c 0) := by
  refine (Entails.of_eq (scopedRest2_eq c)).trans ?_
  unfold scr
  iintro ⟨H0, H1, H2, H3, H4, H5, H6, H7, H8, H9, ⟨%f, HS⟩⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexists f
  iapply (Entails.of_eq (owns_whole_eq _ _ _ _).symm)
  iexists f
  isplitr; · ipureintro; rfl
  iexact HS

theorem outC (c : Dev nD) (k : ℕ) : iprop(idleBufs c ∗ scr V c (k + 1)) ⊢ (scopedRest (pin (pcfgs (F := F)) adm 1).spec c : sProp 𝕄) := by
  refine BIBase.Entails.trans ?_ (Entails.of_eq (scopedRest2_eq c).symm)
  unfold scr
  iintro ⟨⟨H0, H1, H2, H3, H4, H5, H6, H7, H8, H9⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  ihave HS := (Entails.of_eq (owns_whole_eq _ _ _ _)) $$ HS
  icases HS with ⟨%f, -, HS⟩
  iexists f; iexact HS

/-- The result, as the write-back leaves it. -/
def resOut (V : Valuation τ sig (Elt F)) : Buf (Elt F) ((cfg2.win 3).arr.view.loc ((0 : Dev nD).tc : Thread nD τ)) := (datC V 1 0).arrAt 3 cfg2.N

/-- The valuation stage C leaves. -/
def afterC (V : Valuation τ sig (Elt F)) : Valuation τ sig (Elt F) := Function.update V (Proc.devRef .tc main_v20) (resOut V)

theorem afterC_0 : afterC V (Proc.devRef .tc main_v20) = resOut V := Function.update_self ..
theorem afterC_ne {b : DevRef τ sig} (h : b ≠ Proc.devRef .tc main_v20) : afterC V b = V b := Function.update_of_ne h ..

/-- The proof data of both pipelines when stage C runs: stage A's is not used. -/
def pdC (V : Dev nD → Valuation τ sig (Elt F)) : (p : Fin 2) → (c : Dev nD) → Dat τ (Elt F) (HIx 1) ℕ UU ℕ (pin (pcfgs (F := F)) adm p) c
  | ⟨0, _⟩ => fun _ => { A := fun _ _ => Classical.arbitrary _, after := fun _ _ _ => Classical.arbitrary _, Φ := fun _ => iprop(emp), q := fun _ => fullShare, owed := fun _ => 0 }
  | ⟨1, _⟩ => fun c => datC (V c) 1 c

theorem arrAtC (w : Fin 4) : (datC V 1 c).arrAt w cfg2.N = afterC V (Proc.devRef .tc (arrRef spec2 w)) := by
  match w with
  | ⟨0, _⟩ => exact ((datC V 1 c).arrAt_in 0 rfl _).trans (afterC_ne V (by decide)).symm
  | ⟨1, _⟩ => exact ((datC V 1 c).arrAt_in 1 rfl _).trans (afterC_ne V (by decide)).symm
  | ⟨2, _⟩ => exact ((datC V 1 c).arrAt_in 2 rfl _).trans (afterC_ne V (by decide)).symm
  | ⟨3, _⟩ => obtain rfl : c = 0 := Subsingleton.elim _ _; exact (afterC_0 V).symm

/-- Stage C as a region of @main. -/
def regionC (V : Dev nD → Valuation τ sig (Elt F)) :
    RegionSeg (pcfgs (F := F)) adm (pdC V) none (defs₀ (F := F)) 𝒱₀ (K (F := F)).L (K (F := F)).lev 1 :=
  region 1 (pdC V) 1 launch2.toP (fun c => obligationC (V c) 1 c) (fun _ _ => rfl) (fun _ _ => rfl) (fun c => (pdC V 1 c).share_full fun _ => rfl)
    (fun c => inC (V c) c) (fun c => outC (V c) c 31) V (fun c => afterC (V c)) (fun _ _ => rfl) (fun c w => arrAtC (V c) c w)

end Cert.Proof
-- ==== Proof.Tile.lean ====
/-
  One vector subcore's task of the SparseCore histogram call, at a symbolic SparseCore and tile: the task zeroes its
  histogram, then for every chunk of 8000 codes that is its own copies the chunk in and adds one at `code + lane` for
  each of its 500 groups of sixteen codes, and finally copies the histogram out to its own row of the result.

  The contents are carried exactly: after `n` groups the histogram is `histN g i n`, a fold over the groups. The
  module is written over the float instance `F`.
-/
module

public import proofs.«01_k».proof.Proof.Setup

@[expose] public section

noncomputable section

namespace Cert.Proof.Tile

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ
local notation "gW" => (Memref.whole Cert.KernelIdeal.main_v17_scv : Memref Cert.KernelIdeal.sig Kind.scVector Space.hbm Cert.KernelIdeal.S10000000 EltTy.i32)
local notation "oW" => (Memref.whole Cert.KernelIdeal.main_v18_scv : Memref Cert.KernelIdeal.sig Kind.scVector Space.hbm Cert.KernelIdeal.S32x20608 EltTy.f32)
local notation "cW" => (Memref.whole Cert.KernelIdeal.cc1_scratch0 : Memref Cert.KernelIdeal.sig Kind.scVector Space.vmem Cert.KernelIdeal.S8000 EltTy.i32)
local notation "hW" => (Memref.whole Cert.KernelIdeal.cc1_scratch1 : Memref Cert.KernelIdeal.sig Kind.scVector Space.vmem Cert.KernelIdeal.S20608 EltTy.f32)

abbrev gLoc (d : Dev nD) : Loc nD τ sig := (SparseCore.T d).loc main_v17
abbrev oLoc (d : Dev nD) : Loc nD τ sig := (SparseCore.T d).loc main_v18

/-! ## The value -/

/-- Element `n` of the array of codes. -/
abbrev pos (n : ℕ) : S10000000.Idx := fun a => ⟨n % 10000000, by fin_cases a; exact Nat.mod_lt _ (by norm_num)⟩

/-- The sixteen histogram indices of the group of codes that begins at `n`: code plus lane. -/
def lanes (g : IVec S10000000 32) (n : ℕ) : IVec S16 32 := fun x => g (pos (n + (x 0).val)) + BitVec.ofNat 32 (x 0).val

/-- One group added to the histogram. -/
def scat (v : IVec S16 32) (f : Vec F S20608 .f32) : Vec F S20608 .f32 :=
  if h : k1_chk1 v then storeIdx f ![v] (k1_pay2 (F := F)) (fun _ => 1#1) true (k1_idx1_inb v h) else f

/-- Where group `n` of task `i` begins. -/
def base (i : grid1.Coords) (n : ℕ) : ℕ := 16000 * (i 1).val + 8000 * (i 0).val + 256000 * (n / 500) + 16 * (n % 500)

/-- Task `i`'s histogram after `n` groups. -/
def histN (g : IVec S10000000 32) (i : grid1.Coords) : ℕ → Vec F S20608 .f32
  | 0 => fun _ => FloatOps.ofBits .f32 0x00000000#32
  | n + 1 => scat (lanes g (base i n)) (histN g i n)

theorem histN_succ (g : IVec S10000000 32) (i : grid1.Coords) (t n : ℕ) :
    histN (F := F) g i (500 * t + (n + 1)) = scat (lanes g (base i (500 * t + n))) (histN g i (500 * t + n)) := rfl

section Body

variable (d : Dev nD) (i : grid1.Coords) (g : IVec S10000000 32)

/-- The task's thread. -/
abbrev thr : Thread nD τ := V d ((i 0).castLE hcore1) ((i 1).castLE hsub1)

/-- Every index of a group lies in the histogram. -/
def InRange : Prop := ∀ n, k1_chk1 (lanes g n)

/-- The zeroing loop: the words below `16 n` are zero. -/
def inv1 (n : Nat) (_ : BitVec 32) : sProp 𝕄 :=
  iprop(∃ f : Vec F S20608 .f32, ⌜∀ j : S20608.Idx, (j 0).val < 16 * n → f j = FloatOps.ofBits .f32 0x00000000#32⌝
    ∗ (hW).view.loc (thr d i) ↦{fullShare} f)

theorem k1_t1_trips : k1_t1_loop.trips = 1288 := by decide

theorem zero_loop (k : BitVec 32 → Prog (TpuEff nD τ sig (Elt F) Λ₀ (thr d i).2) PUnit) (Q : PUnit → sProp 𝕄) (f : Vec F S20608 .f32) (s0 s1 s2 : DmaSems sig S_) :
    iprop(((hW).view.loc (thr d i) ↦{fullShare} f)
      ∗ (∀ v, ((hW).view.loc (thr d i) ↦{fullShare} (histN g i 0 : Vec F S20608 .f32)) -∗ wp frame (wpE (defs₀ (F := F)) 𝒱₀ (thr d i) none) Set.univ (k v) Q))
      ⊢ wp frame (wpE (defs₀ (F := F)) 𝒱₀ (thr d i) none) Set.univ
        (Scf.Loop.for k1_t1_loop k1_t1_ok 0#32 (k1_t1_body i gW (Memref.isWhole_whole _) oW (Memref.isWhole_whole _) cW (Memref.isWhole_whole _) hW (Memref.isWhole_whole _) s0 s1 s2) >>= k) Q := by
  iintro ⟨H, Hk⟩
  sl_for (inv1 d i) $$ [H]
  case region =>
    intro k _
    unfold inv1
    iintro ⟨%f, %hf, H⟩
    sl_exec
    sl_step
    iexists _
    isplitr
    rotate_left
    · iexact H
    ipureintro
    intro j hj
    show (hW).view.read (Elt F) ((hW).view.writes (Elt F) f [⟨Rect.unit (s := S20608) (k1_off1 k) S16.size (k1_off1_inb k), k1_pay1 (F := F)⟩]) j = _
    by_cases hlt : (j 0).val < 16 * k.val
    · rw [View.read_writes_cons_miss_of_axis _ _ _ _ _ 0 (16 * k.val) 16 (by show k1_off1 k 0 = _; rw [k1_off1_eq]; rfl) rfl rfl (Or.inl hlt)]
      exact hf j hlt
    · rw [View.read_writes_cons_hit_of_coords _ _ _ _ _ (ix1 ⟨(j 0).val - 16 * k.val, by omega⟩) j (by
        intro a; fin_cases a
        show (j 0).val = k1_off1 k 0 + 1 * ((j 0).val - 16 * k.val)
        rw [k1_off1_eq]; show (j 0).val = 16 * k.val + _; omega)]
      rfl
  · unfold inv1
    iexists f
    isplitr
    · ipureintro; intro j hj; omega
    · iexact H
  iintro %v HI
  unfold inv1
  icases HI with ⟨%f', %hf', H⟩
  have e : f' = histN g i 0 := by
    funext j
    exact hf' j (by have : (j 0).val < 20608 := (j 0).isLt; have h : Scf.trips k1_t1_loop.lb k1_t1_loop.ub k1_t1_loop.st = 1288 := k1_t1_trips; omega)
  subst e
  iapply Hk $$ %v
  iexact H

/-- The scatter of a group, as the store leaves it. -/
theorem scat_eq (v : IVec S16 32) (h : k1_chk1 v) (f : Vec F S20608 .f32) :
    ((hW).access (.whole S20608)).write (Elt F) f (storeIdx (((hW).access (.whole S20608)).read (Elt F) f) ![v] (k1_pay2 (F := F)) (fun _ => 1#1) true
      (k1_idx1_inb v h)) Finset.univ = scat v f := by
  unfold scat
  rw [dif_pos h]
  exact (Memref.write_access_whole_univ (Elt F) cc1_scratch1 _ _).trans (congrArg (fun w : Vec F S20608 .f32 => storeIdx w ![v] (k1_pay2 (F := F)) (fun _ => 1#1) true (k1_idx1_inb v h)) (Memref.read_access_whole (Elt F) cc1_scratch1 f))

theorem pts_hW (f : Vec F S20608 .f32) :
    (((hW).access (.whole S20608)).loc (thr d i) ↦[((hW).access (.whole S20608)).set]{fullShare} f : sProp 𝕄) = ((hW).view.loc (thr d i) ↦{fullShare} f) := by
  rw [show ((hW).access (.whole S20608)).set = Finset.univ from Memref.set_access_whole cc1_scratch1]

/-- The scatter-add of a group at the head of a program. -/
theorem wp_scat (v : IVec S16 32) (h : k1_chk1 v) (f : Vec F S20608 .f32) (hs : ((hW).access (.whole S20608)).Stores Finset.univ) {α : Type}
    (k : PUnit → Prog (TpuEff nD τ sig (Elt F) Λ₀ (thr d i).2) α) (Q : α → sProp 𝕄) :
    ((hW).view.loc (thr d i) ↦{fullShare} f)
      ⊢ iprop((((hW).view.loc (thr d i) ↦{fullShare} (scat v f)) -∗ wp frame (wpE (defs₀ (F := F)) 𝒱₀ (thr d i) none) Set.univ (k ⟨⟩) Q)
        -∗ wp frame (wpE (defs₀ (F := F)) 𝒱₀ (thr d i) none) Set.univ
          (SparseCore.vectorStoreIdx hW ![v] (k1_pay2 (F := F)) (fun _ => 1#1) true (k1_idx1_inb v h) hs >>= k) Q) := by
  refine (Entails.of_eq (pts_hW d i f).symm).trans ((SparseCore.wp_vectorStoreIdx (defs := defs₀ (F := F)) 𝒱₀ (thr d i) none Set.univ (base := hW) (v := k1_pay2 (F := F))
    (h := k1_idx1_inb v h) (hs := hs) (mask := fun _ => 1#1) (add := true) (k := k) (Q := Q)).trans ?_)
  iintro H Hk
  iapply H
  iintro H2
  iapply Hk
  iapply (Entails.of_eq ((pts_hW d i _).trans (congrArg (fun f => ((hW).view.loc (thr d i) ↦{fullShare} f : sProp 𝕄)) (scat_eq v h f)))) $$ H2

/-- A group of codes loaded from the chunk: the lanes of group `500 t + 4 k + u`. -/
theorem lanes_eq (t : ℕ) (c : IVec S8000 32) (hc : ∀ j : S8000.Idx, c j = g (pos (base i (500 * t) + (j 0).val)))
    (off : Fin 1 → ℕ) (inb : ∀ a, off a + S16.size a ≤ S8000.size a) (n : ℕ) (hn : n < 500) (ho : off = ![16 * n]) :
    addi ((cW).view.readAt (Elt F) (Rect.unit (s := S8000) off S16.size inb).toLoadRect c) (iota .scVector S16 32 [0] iota_S16_d0_w32_scVector)
      = lanes g (base i (500 * t + n)) := by
  subst ho
  funext x
  have hx : (x 0).val < 16 := (x 0).isLt
  have e : (cW).view.readAt (Elt F) (Rect.unit (s := S8000) ![16 * n] S16.size inb).toLoadRect c x = c (ix1 ⟨16 * n + (x 0).val, by omega⟩) := by
    rw [View.readAt_apply]
    exact congrArg c (funext fun a => Fin.ext (by
      fin_cases a
      show 16 * n + 1 * (x 0).val = 16 * n + (x 0).val
      omega))
  have e' : base i (500 * t) + (16 * n + (x 0).val) = base i (500 * t + n) + (x 0).val := by unfold base; omega
  show _ + iota .scVector S16 32 [0] iota_S16_d0_w32_scVector x = _
  rw [e, hc, show iota Kind.scVector S16 32 [0] iota_S16_d0_w32_scVector x = BitVec.ofNat 32 (x 0).val by
    show BitVec.ofNat 32 (0 * S16.size 0 + (x 0).val) = _
    rw [Nat.zero_mul, Nat.zero_add]]
  unfold lanes
  rw [← e']

/-- The counting loop of one chunk: after `n` trips, four groups each. -/
def inv3 (b : ℕ) (c : IVec S8000 32) (n : Nat) (_ : BitVec 32) : sProp 𝕄 :=
  iprop(((cW).view.loc (thr d i) ↦{fullShare} c)
    ∗ (hW).view.loc (thr d i) ↦{fullShare} (histN g i (b + (4 * n + 0)) : Vec F S20608 .f32))

theorem count_loop (hg : InRange g) (t : ℕ) (c : IVec S8000 32) (hc : ∀ j : S8000.Idx, c j = g (pos (base i (500 * t) + (j 0).val)))
    (k : BitVec 32 → Prog (TpuEff nD τ sig (Elt F) Λ₀ (thr d i).2) (BitVec 32)) (Q : BitVec 32 → sProp 𝕄) (s0 s1 s2 : DmaSems sig S_) :
    iprop(((cW).view.loc (thr d i) ↦{fullShare} c)
      ∗ ((hW).view.loc (thr d i) ↦{fullShare} (histN g i (500 * t) : Vec F S20608 .f32))
      ∗ (∀ v, (((cW).view.loc (thr d i) ↦{fullShare} c)
        ∗ ((hW).view.loc (thr d i) ↦{fullShare} (histN g i (500 * (t + 1)) : Vec F S20608 .f32))) -∗ wp frame (wpE (defs₀ (F := F)) 𝒱₀ (thr d i) none) Set.univ (k v) Q))
      ⊢ wp frame (wpE (defs₀ (F := F)) 𝒱₀ (thr d i) none) Set.univ
        (Scf.Loop.for k1_t3_loop k1_t3_ok 0#32 (k1_t3_body i gW (Memref.isWhole_whole _) oW (Memref.isWhole_whole _) cW (Memref.isWhole_whole _) hW (Memref.isWhole_whole _) s0 s1 s2 (iota .scVector S16 32 [0] iota_S16_d0_w32_scVector)) >>= k) Q := by
  iintro ⟨Hc, Hh, Hk⟩
  sl_for (inv3 d i g (500 * t) c) $$ [Hc Hh]
  case region =>
    intro k _
    unfold inv3
    iintro ⟨Hc, Hh⟩
    sl_exec
    have hk : k.val < 125 := by have h : k1_t3_loop.trips = 125 := by decide
                                exact h ▸ k.isLt
    have e1 : count_loop.sl.v26 (F := F) c k = lanes g (base i (500 * t + (4 * k.val + 0))) := by
      unfold count_loop.sl.v26
      exact lanes_eq i g t c hc _ _ _ (by omega) (by rw [k1_off3_eq]; funext a; fin_cases a; show 64 * k.val + 0 = 16 * (4 * k.val + 0); omega)
    rw [e1, wp_assume_of _ _ _ _ (show k1_chk1 (lanes g _) from hg _)]
    iapply (wp_scat d i _ (hg _) _ _ _ _) $$ [Hh]
    · iexact Hh
    rw [← histN_succ]
    iintro Hh
    sl_exec
    have e2 : count_loop.sl.v32 (F := F) c k = lanes g (base i (500 * t + (4 * k.val + 0 + 1))) := by
      unfold count_loop.sl.v32
      exact lanes_eq i g t c hc _ _ _ (by omega) (by rw [k1_off4_eq]; funext a; fin_cases a; show 64 * k.val + 16 = 16 * (4 * k.val + 0 + 1); omega)
    rw [e2, wp_assume_of _ _ _ _ (show k1_chk2 (lanes g _) from hg _)]
    iapply (wp_scat d i _ (hg _) _ _ _ _) $$ [Hh]
    · iexact Hh
    rw [← histN_succ]
    iintro Hh
    sl_exec
    have e3 : count_loop.sl.v38 (F := F) c k = lanes g (base i (500 * t + (4 * k.val + 0 + 1 + 1))) := by
      unfold count_loop.sl.v38
      exact lanes_eq i g t c hc _ _ _ (by omega) (by rw [k1_off5_eq]; funext a; fin_cases a; show 64 * k.val + 32 = 16 * (4 * k.val + 0 + 1 + 1); omega)
    rw [e3, wp_assume_of _ _ _ _ (show k1_chk3 (lanes g _) from hg _)]
    iapply (wp_scat d i _ (hg _) _ _ _ _) $$ [Hh]
    · iexact Hh
    rw [← histN_succ]
    iintro Hh
    sl_exec
    have e4 : count_loop.sl.v44 (F := F) c k = lanes g (base i (500 * t + (4 * k.val + 0 + 1 + 1 + 1))) := by
      unfold count_loop.sl.v44
      exact lanes_eq i g t c hc _ _ _ (by omega) (by rw [k1_off6_eq]; funext a; fin_cases a; show 64 * k.val + 48 = 16 * (4 * k.val + 0 + 1 + 1 + 1); omega)
    rw [e4, wp_assume_of _ _ _ _ (show k1_chk4 (lanes g _) from hg _)]
    iapply (wp_scat d i _ (hg _) _ _ _ _) $$ [Hh]
    · iexact Hh
    rw [← histN_succ]
    iintro Hh
    sl_exec
    sl_step
    isplitl [Hc]; · iexact Hc
    iexact Hh
  · unfold inv3
    isplitl [Hc]; · iexact Hc
    iexact Hh
  iintro %v HI
  unfold inv3
  iapply Hk $$ %v
  icases HI with ⟨Hc, Hh⟩
  isplitl [Hc]; · iexact Hc
  rw [show 500 * (t + 1) = 500 * t + (4 * Scf.trips k1_t3_loop.lb k1_t3_loop.ub k1_t3_loop.st + 0) from by
    have h : Scf.trips k1_t3_loop.lb k1_t3_loop.ub k1_t3_loop.st = 125 := by decide
    omega]
  iexact Hh

/-- The loop over the task's chunks: after `n` of them `500 n` groups are counted. The codes are held at a read share
    `q`, the chunk's buffer at any contents, the copy's semaphore at zero. -/
def inv2 (q : PosShare TreeShare) (O : CellTallies nD τ sig (HIx 1)) (W : Waits sig (HIx 1)) (n : Nat) (_ : BitVec 32) : sProp 𝕄 :=
  iprop(Transfers.MayWaits (thr d i) (none : HIx 1) O
    ∗ ((gW).view.loc (thr d i) ↦{q} g)
    ∗ (∃ c : IVec S8000 32, (cW).view.loc (thr d i) ↦{fullShare} c)
    ∗ ((hW).view.loc (thr d i) ↦{fullShare} (histN g i (500 * n) : Vec F S20608 .f32))
    ∗ semVal (thr d i, SemLoc.dma cc1_scoped0.sem) 0
    ∗ ∃ W', ⌜∀ p ∈ W', p ∈ W ∨ p.2 = none⌝ ∗ owes (thr d i) O W')

theorem chunk_loop (hg : InRange g) (q : PosShare TreeShare) (O : CellTallies nD τ sig (HIx 1)) (W : Waits sig (HIx 1)) (c : IVec S8000 32)
    (k : BitVec 32 → Prog (TpuEff nD τ sig (Elt F) Λ₀ (thr d i).2) PUnit) (Q : PUnit → sProp 𝕄) :
    iprop(Transfers.MayWaits (thr d i) (none : HIx 1) O
      ∗ ((gW).view.loc (thr d i) ↦{q} g)
      ∗ ((cW).view.loc (thr d i) ↦{fullShare} c)
      ∗ ((hW).view.loc (thr d i) ↦{fullShare} (histN g i 0 : Vec F S20608 .f32))
      ∗ semVal (thr d i, SemLoc.dma cc1_scoped0.sem) 0
      ∗ owes (thr d i) O W
      ∗ (∀ v, inv2 d i g q O W (k1_t2_loop i).trips v -∗ wp frame (wpE (defs₀ (F := F)) 𝒱₀ (thr d i) none) Set.univ (k v) Q))
      ⊢ wp frame (wpE (defs₀ (F := F)) 𝒱₀ (thr d i) none) Set.univ
        (Scf.Loop.for (k1_t2_loop i) (k1_t2_ok i) 0#32 (k1_t2_body i gW (Memref.isWhole_whole _) oW (Memref.isWhole_whole _) cW (Memref.isWhole_whole _) hW (Memref.isWhole_whole _) cc1_scoped0 cc1_scoped1 cc1_scoped2 (iota .scVector S16 32 [0] iota_S16_d0_w32_scVector)) >>= k) Q := by
  iintro ⟨Hmw, Hg, Hc, Hh, Hs, HO, Hk⟩
  sl_for (inv2 d i g q O W) $$ [Hmw Hg Hc Hh Hs HO]
  case region =>
    intro k _
    unfold inv2
    iintro ⟨Hmw, Hg, ⟨%c, Hc⟩, Hh, Hs, %W', %hW', HO⟩
    sl_exec (disch := exact View.amount_pos _ _ (show 0 < S8000.numel by decide))
    have hk : k.val < 40 := lt_of_lt_of_le k.isLt (k1_t2_abs i).2.1
    have hc : ∀ j : S8000.Idx, View.write (Elt F) (cW).view c (chunk_loop.sl.dma0 (F := F) i g k) Finset.univ j = g (pos (base i (500 * k.val) + (j 0).val)) := by
      intro j
      have hj : (j 0).val < 8000 := (j 0).isLt
      have h0 : (i 0).val < 2 := (i 0).isLt
      have h1 : (i 1).val < 16 := (i 1).isLt
      rw [show View.write (Elt F) (cW).view c (chunk_loop.sl.dma0 (F := F) i g k) Finset.univ = chunk_loop.sl.dma0 (F := F) i g k from View.write_whole_univ cc1_scratch0 _ _]
      unfold chunk_loop.sl.dma0
      refine congrArg g (funext fun a => Fin.ext ?_)
      fin_cases a
      have hin : k1_off2 i k 0 + 8000 ≤ 10000000 := k1_off2_inb i k 0
      show k1_off2 i k 0 + 1 * (j 0).val = (base i (500 * k.val) + (j 0).val) % 10000000
      rw [k1_off2_eq] at hin ⊢
      change 16000 * (i 1).val + 8000 * (i 0).val + 256000 * k.val + 8000 ≤ 10000000 at hin
      show 16000 * (i 1).val + 8000 * (i 0).val + 256000 * k.val + 1 * (j 0).val = _
      unfold base
      omega
    iapply (count_loop d i g hg k.val _ hc) $$ [-]
    isplitl [Hc]; · iexact Hc
    isplitl [Hh]; · iexact Hh
    iintro %v ⟨Hc, Hh⟩
    sl_step
    isplitl [Hmw]; · iexact Hmw
    isplitl [Hg]; · iexact Hg
    isplitl [Hc]; · iexists _; iexact Hc
    isplitl [Hh]; · iexact Hh
    isplitl [Hs]; · iexact Hs
    iexists (insert (SemLoc.dma cc1_scoped0.sem, (default : HIx 1)) W'); isplitr
    · ipureintro; intro p hp
      rcases Finset.mem_insert.mp hp with hp | hp
      · exact .inr (hp ▸ rfl)
      · exact hW' p hp
    · iexact HO
  · unfold inv2
    isplitl [Hmw]; · iexact Hmw
    isplitl [Hg]; · iexact Hg
    isplitl [Hc]; · iexists _; iexact Hc
    isplitl [Hh]; · iexact Hh
    isplitl [Hs]; · iexact Hs
    iexists W; isplitr
    · ipureintro; exact fun p hp => .inl hp
    · iexact HO
  iintro %v HI
  iapply Hk $$ %v
  iexact HI

/-- Row `2 s + c` of the result, as the task's copy addresses it. -/
abbrev rowK : Memref sig .scVector .hbm S20608 .f32 :=
  ((oW).slice (Rect.unit (s := S32x20608) (k1_off12 i) S1x20608.size (k1_off12_inb i)) (fun _ => rfl)).squeeze S20608 squeezes_S1x20608_S20608

/-- The task whole. -/
theorem body (hg : InRange g) (q : PosShare TreeShare) (O : CellTallies nD τ sig (HIx 1)) (W : Waits sig (HIx 1)) (hO : ∀ g, O g none = 0)
    (fo : Vec F S32x20608 .f32) (c : IVec S8000 32) (f : Vec F S20608 .f32) :
    (iprop(levAts (K (F := F)).L (K (F := F)).lev
      ∗ ((gW).view.loc (thr d i) ↦{q} g)
      ∗ ((rowK i).view.loc (thr d i) ↦[(rowK i).view.set]{fullShare} fo)
      ∗ ((cW).view.loc (thr d i) ↦{fullShare} c)
      ∗ ((hW).view.loc (thr d i) ↦{fullShare} f)
      ∗ semVal (thr d i, SemLoc.dma cc1_scoped0.sem) 0
      ∗ semVal (thr d i, SemLoc.dma cc1_scoped2.sem) 0
      ∗ owes (thr d i) O W) : sProp 𝕄)
    ⊢ wp frame (wpE (defs₀ (F := F)) 𝒱₀ (thr d i) none) Set.univ
        (cc1__sc_hist_body (F := F) i gW (Memref.isWhole_whole _) oW (Memref.isWhole_whole _) cW (Memref.isWhole_whole _) hW (Memref.isWhole_whole _) cc1_scoped0 cc1_scoped1 cc1_scoped2)
        fun _ => iprop(((gW).view.loc (thr d i) ↦{q} g)
          ∗ ((rowK i).view.loc (thr d i) ↦[(rowK i).view.set]{fullShare} (rowK i).view.write (Elt F) fo (histN g i (500 * (k1_t2_loop i).trips)) Finset.univ)
          ∗ (∃ c : IVec S8000 32, (cW).view.loc (thr d i) ↦{fullShare} c)
          ∗ (∃ f : Vec F S20608 .f32, (hW).view.loc (thr d i) ↦{fullShare} f)
          ∗ semVal (thr d i, SemLoc.dma cc1_scoped0.sem) 0
          ∗ semVal (thr d i, SemLoc.dma cc1_scoped2.sem) 0
          ∗ ∃ W', ⌜∀ p ∈ W', p ∈ W ∨ p.2 = none⌝ ∗ owes (thr d i) O W') := by
  rw [cc1__sc_hist_body_eq_skeleton]; unfold cc1__sc_hist_body_skel
  iintro ⟨#Hlv, Hg, Ho, Hc, Hh, Hs0, Hs2, HO⟩
  ihave Hmw := ((K (F := F)).mayWaits_none (thr := thr d i) hO) $$ Hlv
  iapply (zero_loop d i g) $$ [-]
  isplitl [Hh]; · iexact Hh
  iintro %_ Hh
  iapply (chunk_loop d i g hg q O W) $$ [-]
  isplitl [Hmw]; · iexact Hmw
  isplitl [Hg]; · iexact Hg
  isplitl [Hc]; · iexact Hc
  isplitl [Hh]; · iexact Hh
  isplitl [Hs0]; · iexact Hs0
  isplitl [HO]; · iexact HO
  iintro %v HI
  unfold inv2
  icases HI with ⟨Hmw, Hg, ⟨%c', Hc⟩, Hh, Hs0, %W', %hW', HO⟩
  sl_for (fun _ _ => (iprop(emp) : sProp 𝕄)) $$ []
  case region =>
    intro k _
    exact absurd k.isLt (Nat.not_lt.mpr (le_trans (k1_t4_abs i).2.1 (Nat.zero_le _)))
  · iempintro
  iintro %_ -
  sl_exec
  sl_step
  isplitl [Hg]; · iexact Hg
  isplitl [Ho]
  · rw [show (rowK i).view.write (Elt F) fo (histN g i (500 * (k1_t2_loop i).trips)) Finset.univ
        = (rowK i).view.writes (Elt F) fo [⟨Rect.whole S20608, body.sl.dma0 (F := F) i g⟩] from by
      rw [← View.write_univ_eq_writes_whole, View.writes_nil]; unfold body.sl.dma0; generalize histN (F := F) g i (500 * (k1_t2_loop i).trips) = h; rfl]
    iexact Ho
  isplitl [Hc]; · iexists _; iexact Hc
  isplitl [Hh]; · iexists _; iexact Hh
  isplitl [Hs0]; · iexact Hs0
  isplitl [Hs2]; · iexact Hs2
  iexists (insert (SemLoc.dma cc1_scoped2.sem, (default : HIx 1)) W'); isplitr
  · ipureintro; intro p hp
    rcases Finset.mem_insert.mp hp with hp | hp
    · exact .inr (hp ▸ rfl)
    · exact hW' p hp
  · iexact HO

end Body

end Cert.Proof.Tile
-- ==== Proof.Tasks.lean ====
/-
  The SparseCore call whole: what the TensorCore hands each SparseCore and each task (the codes at a share, the task's
  row of the result), what comes back (the row at the histogram of the task's codes), and the two obligations the
  launch theorem takes of the call.
-/
module

public import proofs.«01_k».proof.Proof.Tile
public import Idealize.ShloMosaic.Lib.ViewIndex

@[expose] public section

noncomputable section

namespace Cert.Proof.Tile

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (dealOf pointsTo_deal)

variable {F : FTy → Type} [FloatOps F] [Named F]

local notation "𝕄" => MT nD τ sig (HIx 1) (Elt F) ℕ UU ℕ
local notation "gW" => (Memref.whole Cert.KernelIdeal.main_v17_scv : Memref Cert.KernelIdeal.sig Kind.scVector Space.hbm Cert.KernelIdeal.S10000000 EltTy.i32)
local notation "oW" => (Memref.whole Cert.KernelIdeal.main_v18_scv : Memref Cert.KernelIdeal.sig Kind.scVector Space.hbm Cert.KernelIdeal.S32x20608 EltTy.f32)
local notation "cW" => (Memref.whole Cert.KernelIdeal.cc1_scratch0 : Memref Cert.KernelIdeal.sig Kind.scVector Space.vmem Cert.KernelIdeal.S8000 EltTy.i32)
local notation "hW" => (Memref.whole Cert.KernelIdeal.cc1_scratch1 : Memref Cert.KernelIdeal.sig Kind.scVector Space.vmem Cert.KernelIdeal.S20608 EltTy.f32)

/-! ## Tasks, rows and the result -/

attribute [local irreducible] histN

/-- The coordinates of task `(c, s)`. -/
def coordsV (c : Fin (grid1.bound 0)) (s : Fin (grid1.bound 1)) : grid1.Coords :=
  fun | 0 => c | 1 => s | ⟨_ + 2, h⟩ => absurd h (Nat.not_lt.2 (Nat.le_add_left _ _))

/-- Row `2 s + c`, task `(c, s)`'s. -/
def rowSet (c : Fin 2) (s : Fin 16) : Finset S32x20608.Idx := Finset.univ.filter fun j => (j 0).val = 2 * s.val + c.val
/-- The rows of a SparseCore's tasks. -/
def coreRows (c : Fin 2) : Finset S32x20608.Idx := Finset.univ.biUnion (rowSet c)

/-- The result: row `w` is the histogram of task `(w mod 2, w / 2)`. -/
def outV (g : IVec S10000000 32) : Vec F S32x20608 .f32 := fun j =>
  let i := coordsV ⟨(j 0).val % 2, Nat.mod_lt _ (by decide)⟩ ⟨(j 0).val / 2, by have h : (j 0).val < 32 := (j 0).isLt; show _ < 16; omega⟩
  histN g i (500 * (k1_t2_loop i).trips) (ix1 (j 1))

theorem rows_disjoint (c : Fin 2) : ∀ i ∈ (Finset.univ : Finset (Fin 16)), ∀ j ∈ (Finset.univ : Finset (Fin 16)), i ≠ j → Disjoint (rowSet c i) (rowSet c j) := by
  intro i _ j _ h
  rw [Finset.disjoint_left]
  intro x hx hy
  have h1 := (Finset.mem_filter.mp hx).2
  have h2 := (Finset.mem_filter.mp hy).2
  exact h (Fin.ext (by omega))

theorem cores_disjoint : ∀ i ∈ (Finset.univ : Finset (Fin 2)), ∀ j ∈ (Finset.univ : Finset (Fin 2)), i ≠ j → Disjoint (coreRows i) (coreRows j) := by
  intro i _ j _ h
  rw [Finset.disjoint_left]
  intro x hx hy
  obtain ⟨a, -, ha⟩ := Finset.mem_biUnion.mp hx
  obtain ⟨b, -, hb⟩ := Finset.mem_biUnion.mp hy
  have h1 := (Finset.mem_filter.mp ha).2
  have h2 := (Finset.mem_filter.mp hb).2
  exact h (Fin.ext (by omega))

theorem cores_cover : (Finset.univ : Finset (Fin 2)).biUnion coreRows = Finset.univ := by
  refine Finset.eq_univ_of_forall fun x => ?_
  have hx : (x 0).val < 32 := (x 0).isLt
  refine Finset.mem_biUnion.mpr ⟨⟨(x 0).val % 2, Nat.mod_lt _ (by decide)⟩, Finset.mem_univ _, Finset.mem_biUnion.mpr
    ⟨⟨(x 0).val / 2, by omega⟩, Finset.mem_univ _, Finset.mem_filter.mpr ⟨Finset.mem_univ _, ?_⟩⟩⟩
  show (x 0).val = 2 * ((x 0).val / 2) + (x 0).val % 2
  omega

theorem set_rowK (i : grid1.Coords) : (rowK i).view.set = rowSet (i 0) (i 1) := by
  show (((oW).view.slice (Rect.unit (s := S32x20608) (k1_off12 i) S1x20608.size (k1_off12_inb i))).reshape S20608 squeezes_S1x20608_S20608.numel_eq).set = _
  rw [View.set_reshape]
  refine (View.set_slice_whole main_v18_scv (Rect.unit (s := S32x20608) (k1_off12 i) S1x20608.size (k1_off12_inb i))).trans ?_
  ext x
  refine Rect.mem_set_unit.trans ?_
  rw [k1_off12_eq]
  refine Iff.trans Fin.forall_fin_two ?_
  refine Iff.trans ?_ (Finset.mem_filter (p := fun j : S32x20608.Idx => (j 0).val = 2 * (i 1).val + (i 0).val) (s := Finset.univ) (a := x)).symm
  show (2 * (i 1).val + (i 0).val ≤ (x 0).val ∧ (x 0).val < 2 * (i 1).val + (i 0).val + 1) ∧ (0 ≤ (x 1).val ∧ (x 1).val < 0 + 20608)
    ↔ x ∈ Finset.univ ∧ (x 0).val = 2 * (i 1).val + (i 0).val
  have hx : (x 1).val < 20608 := (x 1).isLt
  constructor
  · rintro ⟨⟨h1, h2⟩, -⟩; exact ⟨Finset.mem_univ _, by omega⟩
  · rintro ⟨-, h⟩; exact ⟨⟨by omega, by omega⟩, by omega, by omega⟩

theorem reshape_row (x : S20608.Idx) :
    Shape.reshapeEquiv (s' := S20608) (s := S1x20608) squeezes_S1x20608_S20608.numel_eq x = (ix2 0 (x 0) : S1x20608.Idx) :=
  Shape.reshapeEquiv_eq_of_rowMajor _ (by
    rw [Shape.rowMajor_val_two, Shape.rowMajor_val_one]
    show (0 : ℕ) * 20608 + (x 0).val = (x 0).val
    omega)

theorem emb_rowK (i : grid1.Coords) (x : S20608.Idx) :
    (rowK i).view.emb x = (ix2 ⟨2 * (i 1).val + (i 0).val, by
      have h0 : (i 0).val < 2 := (i 0).isLt
      have h1 : (i 1).val < 16 := (i 1).isLt
      omega⟩ (x 0) : S32x20608.Idx) := by
  show (Rect.unit (s := S32x20608) (k1_off12 i) S1x20608.size (k1_off12_inb i)).emb
    (Shape.reshapeEquiv (s' := S20608) (s := S1x20608) squeezes_S1x20608_S20608.numel_eq x) = _
  rw [reshape_row]
  funext a
  refine Fin.ext ?_
  rw [Rect.emb_apply]
  show (k1_off12 i) a + 1 * ((ix2 0 (x 0) : S1x20608.Idx) a).val = _
  rw [k1_off12_eq, Nat.one_mul]
  match a with
  | 0 => rfl
  | 1 => exact Nat.zero_add _

theorem write_rowK (g : IVec S10000000 32) (i : grid1.Coords) (fo : Vec F S32x20608 .f32) :
    ∀ j ∈ (rowK i).view.set, (rowK i).view.write (Elt F) fo (histN g i (500 * (k1_t2_loop i).trips)) Finset.univ j = outV g j := by
  intro j hj
  obtain ⟨x, -, rfl⟩ := Finset.mem_map.mp hj
  have h := View.read_write_of_mem (v := (rowK i).view) (Val := Elt F) fo (histN g i (500 * (k1_t2_loop i).trips)) (Finset.mem_univ x)
  refine View.eq_of_read_eq (h.trans ?_)
  rw [View.read_apply]
  refine Eq.trans ?_ (cast_eq _ _).symm
  rw [emb_rowK]
  have h0 : (i 0).val < 2 := (i 0).isLt
  have h1 : (i 1).val < 16 := (i 1).isLt
  have hi : coordsV ⟨(2 * (i 1).val + (i 0).val) % 2, Nat.mod_lt _ (by decide)⟩ ⟨(2 * (i 1).val + (i 0).val) / 2, by show _ < 16; omega⟩ = i := by
    funext a
    match a with
    | 0 => exact Fin.ext (by show (2 * (i 1).val + (i 0).val) % 2 = (i 0).val; omega)
    | 1 => exact Fin.ext (by show (2 * (i 1).val + (i 0).val) / 2 = (i 1).val; omega)
  show _ = histN g (coordsV ⟨(2 * (i 1).val + (i 0).val) % 2, _⟩ ⟨(2 * (i 1).val + (i 0).val) / 2, _⟩) (500 * (k1_t2_loop (coordsV ⟨(2 * (i 1).val + (i 0).val) % 2, _⟩ ⟨(2 * (i 1).val + (i 0).val) / 2, _⟩)).trips) (ix1 (x 0))
  rw [hi]
  exact congrArg _ (eq_ix1 (n := 20608) x)

/-! ## What the handshakes carry -/

/-- A SparseCore's share of the codes and a task's. -/
abbrev qC (c : Fin 2) : PosShare TreeShare := dealOf fullShare Finset.univ c
abbrev qT (c : Fin 2) (s : Fin 16) : PosShare TreeShare := dealOf (qC c) Finset.univ s

variable (g : Dev nD → IVec S10000000 32) (fo : Dev nD → Vec F S32x20608 .f32)

abbrev cc (c : Fin ((K (F := F)).nCore 0)) : Fin 2 := Fin.cast nCore_zero c
abbrev ss (s : Fin ((K (F := F)).nSub 0)) : Fin 16 := Fin.cast nSub_zero s

def P : (K (F := F)).Pay (nD := nD) (Val := Elt F) (Name := ℕ) (U := UU) where
  st := fun q d c => match q with
    | 0 => iprop((gLoc d ↦{qC (cc c)} g d) ∗ (oLoc d ↦[coreRows (cc c)]{fullShare} fo d))
  dn := fun q d c => match q with
    | 0 => iprop((gLoc d ↦{qC (cc c)} g d) ∗ (oLoc d ↦[coreRows (cc c)]{fullShare} (outV (g d) : Vec F S32x20608 .f32)))
  go := fun q d c s => match q with
    | 0 => iprop((gLoc d ↦{qT (cc c) (ss s)} g d) ∗ (oLoc d ↦[rowSet (cc c) (ss s)]{fullShare} fo d))
  td := fun q d c s => match q with
    | 0 => iprop((gLoc d ↦{qT (cc c) (ss s)} g d) ∗ (oLoc d ↦[rowSet (cc c) (ss s)]{fullShare} (outV (g d) : Vec F S32x20608 .f32)))
  x := fun _ _ => iprop(emp)

instance P_storable : (P g fo).IsStorable where
  st q d c := by match q with | 0 => (unfold P; dsimp only; infer_instance)
  dn q d c := by match q with | 0 => (unfold P; dsimp only; infer_instance)
  go q d c s := by match q with | 0 => (unfold P; dsimp only; infer_instance)
  td q d c s := by match q with | 0 => (unfold P; dsimp only; infer_instance)

theorem bigSep_tasks (Φ : Fin 16 → sProp 𝕄) :
    (bigSep Finset.univ fun i : Fin ((K (F := F)).nSub 0) => Φ (ss i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (cc i)) = bigSep Finset.univ Φ :=
  bigSep_congr fun _ _ => congrArg Φ (Fin.ext rfl)

/-- A SparseCore's operands are its tasks'. -/
theorem core_split (d : Dev nD) (c : Fin 2) (gd : IVec S10000000 32) (f : Vec F S32x20608 .f32) :
    (iprop((gLoc d ↦{qC c} gd) ∗ (oLoc d ↦[coreRows c]{fullShare} f)) : sProp 𝕄)
      = bigSep Finset.univ fun s : Fin 16 => iprop((gLoc d ↦{qT c s} gd) ∗ (oLoc d ↦[rowSet c s]{fullShare} f)) := by
  rw [bigSep_sep', ← pointsTo_deal Finset.univ Finset.univ_nonempty (qC c)]
  unfold coreRows
  rw [pointsTo_biUnion Finset.univ (ℓ := oLoc d) (rowSet c) (rows_disjoint c)]

/-- The call's operands are its SparseCores'. -/
theorem call_split (d : Dev nD) (gd : IVec S10000000 32) (f : Vec F S32x20608 .f32) :
    (iprop((gLoc d ↦{fullShare} gd) ∗ (oLoc d ↦{fullShare} f)) : sProp 𝕄)
      = bigSep Finset.univ fun c : Fin 2 => iprop((gLoc d ↦{qC c} gd) ∗ (oLoc d ↦[coreRows c]{fullShare} f)) := by
  rw [bigSep_sep', ← pointsTo_deal Finset.univ Finset.univ_nonempty fullShare,
    ← pointsTo_biUnion Finset.univ (ℓ := oLoc d) coreRows cores_disjoint, cores_cover]

theorem P_st (d) (c) : (P g fo).st 0 d c = iprop((gLoc d ↦{qC (cc c)} g d) ∗ (oLoc d ↦[coreRows (cc c)]{fullShare} fo d)) := rfl
theorem P_dn (d) (c) : (P g fo).dn 0 d c = iprop((gLoc d ↦{qC (cc c)} g d) ∗ (oLoc d ↦[coreRows (cc c)]{fullShare} (outV (g d) : Vec F S32x20608 .f32))) := rfl
theorem go_eq (d) (c) : (bigSep Finset.univ fun i => (P g fo).go 0 d c i)
    = bigSep Finset.univ fun i : Fin 16 => iprop((gLoc d ↦{qT (cc c) i} g d) ∗ (oLoc d ↦[rowSet (cc c) i]{fullShare} fo d)) :=
  (bigSep_congr fun _ _ => rfl).trans (bigSep_tasks (F := F) (fun i => iprop((gLoc d ↦{qT (cc c) i} g d) ∗ (oLoc d ↦[rowSet (cc c) i]{fullShare} fo d))))
theorem td_eq (d) (c) : (bigSep Finset.univ fun i => (P g fo).td 0 d c i)
    = bigSep Finset.univ fun i : Fin 16 => iprop((gLoc d ↦{qT (cc c) i} g d) ∗ (oLoc d ↦[rowSet (cc c) i]{fullShare} (outV (g d) : Vec F S32x20608 .f32))) :=
  (bigSep_congr fun _ _ => rfl).trans (bigSep_tasks (F := F) (fun i => iprop((gLoc d ↦{qT (cc c) i} g d) ∗ (oLoc d ↦[rowSet (cc c) i]{fullShare} (outV (g d) : Vec F S32x20608 .f32)))))

theorem vecSplit : (K (F := F)).VecSplit' (P g fo) 0 := by
  intro d c
  rw [P_st, P_dn, go_eq, td_eq, core_split, core_split]
  iintro H; imodintro
  isplitl [H]; · iexact H
  iintro H; iexact H

/-! ## The task's obligation -/

section Obl

variable (d : Dev nD) (i : grid1.Coords)

abbrev cA : GSem nD τ sig := (thr d i, SemLoc.dma cc1_scoped0.sem)
abbrev cB : GSem nD τ sig := (thr d i, SemLoc.dma cc1_scoped2.sem)

theorem ownSems0_V :
    (ownSems0 (thr d i) : sProp 𝕄)
      = iprop(semVal (cA d i) 0 ∗ semVal (cB d i) 0
          ∗ bigSep (((ownCells (thr d i)).erase (cA d i)).erase (cB d i)) fun g => semVal g 0) := by
  unfold SparseCore.Cfg.ownSems0
  rw [SparseCore.bigSep_erase' ((mem_ownCells (g := cA d i)).mpr ⟨rfl, by
      show (SemLoc.dma cc1_scoped0.sem : SemLoc sig).isScoped .scVector = true; decide⟩),
    SparseCore.bigSep_erase' (Finset.mem_erase.mpr ⟨by simp [cA, cB]; decide, (mem_ownCells (g := cB d i)).mpr ⟨rfl, by
      show (SemLoc.dma cc1_scoped2.sem : SemLoc sig).isScoped .scVector = true; decide⟩⟩)]

/-- The two scratch buffers are among the subcore's own: they are them, at some contents, and the rest. -/
theorem ownBufs_V :
    (ownBufs (thr d i) : sProp 𝕄)
      = iprop((∃ f, (thr d i).loc cc1_scratch0 ↦{fullShare} f) ∗ (∃ f, (thr d i).loc cc1_scratch1 ↦{fullShare} f)
          ∗ bigSep (((ownRefs (τ := τ) (thr d i).2).erase ((thr d i).2.devRef cc1_scratch0)).erase ((thr d i).2.devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d i).2) (b := (thr d i).2.devRef cc1_scratch1) rfl⟩)]

theorem pts_oW (f : Vec F S32x20608 .f32) :
    ((rowK i).view.loc (thr d i) ↦[(rowK i).view.set]{fullShare} f : sProp 𝕄) = oLoc d ↦[rowSet (i 0) (i 1)]{fullShare} f := by
  rw [set_rowK]

theorem tile_body (hg : InRange (g d)) (O : CellTallies nD τ sig (HIx 1)) (W : Waits sig (HIx 1)) (hO : ∀ g, O g none = 0) :
    (iprop(levAts (K (F := F)).L (K (F := F)).lev ∗ emp
        ∗ ((gLoc d ↦{qT (i 0) (i 1)} g d) ∗ (oLoc d ↦[rowSet (i 0) (i 1)]{fullShare} fo d))
        ∗ scopedBufs (thr d i) ∗ scopedSems0 (thr d i) ∗ owes (thr d i) O W) : sProp 𝕄)
      ⊢ wp frame (wpE (defs₀ (F := F)) 𝒱₀ (thr d i) none) Set.univ
          (cc1__sc_hist_body (F := F) i gW (Memref.isWhole_whole _) oW (Memref.isWhole_whole _) cW (Memref.isWhole_whole _) hW (Memref.isWhole_whole _) cc1_scoped0 cc1_scoped1 cc1_scoped2)
          fun _ => iprop(((gLoc d ↦{qT (i 0) (i 1)} g d) ∗ (oLoc d ↦[rowSet (i 0) (i 1)]{fullShare} (outV (g d) : Vec F S32x20608 .f32)))
            ∗ scopedBufs (thr d i) ∗ scopedSems0 (thr d i) ∗ ∃ W', ⌜∀ p ∈ W', p ∈ W ∨ p.2 = none⌝ ∗ owes (thr d i) O W') := by
  rw [(K (F := F)).scopedBufs_V facts d _ _, SparseCore.Cfg.scopedSems0_V, ownSems0_V, ownBufs_V]
  iintro ⟨#Hlv, -, ⟨Hg, Ho⟩, ⟨⟨%c, Hc⟩, ⟨%f, Hh⟩, Hbr⟩, ⟨Hs0, Hs2, Hsr⟩, HO⟩
  iapply (wp_wand_r frame _ _)
  isplitl [Hg Ho Hc Hh Hs0 Hs2 HO]
  · iapply (body d i (g d) hg (qT (i 0) (i 1)) O W hO (fo d) c f) $$ [-]
    isplitl []; · iexact Hlv
    isplitl [Hg]; · iexact Hg
    isplitl [Ho]; · rw [pts_oW]; iexact Ho
    isplitl [Hc]; · iexact Hc
    isplitl [Hh]; · iexact Hh
    isplitl [Hs0]; · iexact Hs0
    isplitl [Hs2]; · iexact Hs2
    iexact HO
  iintro %_ ⟨Hg, Ho, ⟨%c', Hc⟩, ⟨%f', Hh⟩, Hs0, Hs2, %W', %hW', HO⟩
  isplitl [Hg Ho]
  · isplitl [Hg]; · iexact Hg
    iapply (Entails.of_eq ((pointsTo_congr (write_rowK (g d) i (fo d))).trans (pts_oW d i _))) $$ Ho
  isplitl [Hc Hh Hbr]
  · isplitl [Hc]; · iexists _; iexact Hc
    isplitl [Hh]; · iexists _; iexact Hh
    iexact Hbr
  isplitl [Hs0 Hs2 Hsr]
  · isplitl [Hs0]; · iexact Hs0
    isplitl [Hs2]; · iexact Hs2
    iexact Hsr
  iexists W'; isplitr
  · ipureintro; exact hW'
  · iexact HO

end Obl

theorem defs₀_vector (c : Fin τ.nSC) (s : Fin τ.nSub) :
    defs₀ (F := F) (.scVector c s) 1 ()
      = SparseCore.onTile hcore1 hsub1 (fun c s => cc1__sc_hist_body (F := F) (coordsV c s)
          gW (Memref.isWhole_whole _) oW (Memref.isWhole_whole _) cW (Memref.isWhole_whole _) hW (Memref.isWhole_whole _) cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hg : ∀ d, InRange (g d)) : (K (F := F)).TileObl (D (F := F)) 𝒱 (P g fo) v₀ 0 := by
  intro d c i O W hO _ _
  simp only [show (P g fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body g fo d (coordsV ⟨_, hc.1⟩ ⟨_, hc.2⟩) (hg d) O W hO).trans (wp_mono frame _ _ fun _ => obl_post)

end Cert.Proof.Tile
-- ==== Proof.Run.lean ====
/-
  The launch: @main run from end to end (host operations, stage A, the SparseCore call, stage C, host operations), every
  buffer of the TensorCore followed as a valuation, and what the run leaves.
-/
module

public import proofs.«01_k».proof.Proof.RegionC
public import proofs.«01_k».proof.Proof.Tasks

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline

variable {F : FTy → Type} [FloatOps F] [Named F]

local notation "𝕄" => MT nD τ sig (HIx 1) (Elt F) ℕ UU ℕ

/-! ## @main as segments -/

/-- The host operations, part A. -/
def opsA : List (HloOp τ sig (Elt F)) :=
  [ StableHlo.reshape main_arg0 main_v0 (rfl : (.f32 : EltTy) = .f32) shapeCasts_S1000000x10_S15625x640
  , StableHlo.reshape main_arg1 main_v1 (rfl : (.f32 : EltTy) = .f32) shapeCasts_S1000000x1_S15625x64
  , StableHlo.nullary main_v2 (iotaInDim S640 32 0)
  , StableHlo.nullary main_c (constantI S_ 32 10#32)
  , StableHlo.TRef.unary (.of main_c) main_call0.v0 id
  , StableHlo.TRef.unary main_call0.v0 main_call0.v1 (broadcastInDim S640 ![] bcast_S_S640)
  , StableHlo.TRef.binary (.of main_v2) main_call0.v1 main_call0.v2 Host.divsi
  , StableHlo.TRef.unary (.of main_v2) main_call0.v3 signi
  , StableHlo.TRef.unary main_call0.v0 main_call0.v4 signi
  , StableHlo.TRef.unary main_call0.v4 main_call0.v5 (broadcastInDim S640 ![] bcast_S_S640)
  , StableHlo.TRef.binary main_call0.v3 main_call0.v5 main_call0.v6 (cmpi .ne)
  , StableHlo.TRef.unary main_call0.v0 main_call0.v7 (broadcastInDim S640 ![] bcast_S_S640)
  , StableHlo.TRef.binary (.of main_v2) main_call0.v7 main_call0.v8 Host.remsi
  , StableHlo.TRef.nullary main_call0.c (constantI S_ 32 0#32)
  , StableHlo.TRef.unary main_call0.c main_call0.v9 (broadcastInDim S640 ![] bcast_S_S640)
  , StableHlo.TRef.binary main_call0.v8 main_call0.v9 main_call0.v10 (cmpi .ne)
  , StableHlo.TRef.binary main_call0.v6 main_call0.v10 main_call0.v11 andi
  , StableHlo.TRef.nullary main_call0.c_0 (constantI S_ 32 1#32)
  , StableHlo.TRef.unary main_call0.c_0 main_call0.v12 (broadcastInDim S640 ![] bcast_S_S640)
  , StableHlo.TRef.binary main_call0.v2 main_call0.v12 main_call0.v13 subi
  , StableHlo.TRef.ternary main_call0.v11 main_call0.v13 main_call0.v2 main_call0.call0.v0 select
  , StableHlo.unary main_v3 main_v4 (broadcastInDim S640x1 ![0] bcast_S640_S640x1_0 : (⟨S640, .i32⟩ : BufTy).Contents (Elt F) → (⟨S640x1, .i32⟩ : BufTy).Contents (Elt F))
  , StableHlo.nullary main_v5 (iotaInDim S64 32 0)
  , StableHlo.unary main_v5 main_v6 (broadcastInDim S1x64 ![1] bcast_S64_S1x64_1 : (⟨S64, .i32⟩ : BufTy).Contents (Elt F) → (⟨S1x64, .i32⟩ : BufTy).Contents (Elt F))
  , StableHlo.unary main_v4 main_v7 (broadcastInDim S640x64 ![0, 1] bcast_S640x1_S640x64_0_1 : (⟨S640x1, .i32⟩ : BufTy).Contents (Elt F) → (⟨S640x64, .i32⟩ : BufTy).Contents (Elt F))
  , StableHlo.unary main_v6 main_v8 (broadcastInDim S640x64 ![0, 1] bcast_S1x64_S640x64_0_1 : (⟨S1x64, .i32⟩ : BufTy).Contents (Elt F) → (⟨S640x64, .i32⟩ : BufTy).Contents (Elt F))
  , StableHlo.binary main_v7 main_v8 main_v9 (cmpi .eq : (⟨S640x64, .i32⟩ : BufTy).Contents (Elt F) → (⟨S640x64, .i32⟩ : BufTy).Contents (Elt F) → (⟨S640x64, .i1⟩ : BufTy).Contents (Elt F))
  , StableHlo.unary main_v9 main_v10 (uitofp .f32 : (⟨S640x64, .i1⟩ : BufTy).Contents (Elt F) → (⟨S640x64, .f32⟩ : BufTy).Contents (Elt F))
  , StableHlo.unary main_v10 main_v11 ((transpose S64x640 [1, 0] · transposes_S640x64_S64x640_1_0) : (⟨S640x64, .f32⟩ : BufTy).Contents (Elt F) → (⟨S64x640, .f32⟩ : BufTy).Contents (Elt F))
  , StableHlo.nullary main_v12 (iotaInDim S640 32 0)
  , StableHlo.nullary main_c_0 (constantI S_ 32 10#32)
  , StableHlo.TRef.unary (.of main_c_0) main_call1.v0 id
  , StableHlo.TRef.nullary main_call1.c (constantI S_ 32 0#32)
  , StableHlo.TRef.binary main_call1.v0 main_call1.c main_call1.v1 (cmpi .eq)
  , StableHlo.TRef.nullary main_call1.c_0 (constantI S_ 32 1#32)
  , StableHlo.TRef.ternary main_call1.v1 main_call1.c_0 main_call1.v0 main_call1.call0.v0 select
  , StableHlo.TRef.unary main_call1.call0.v0 main_call1.v3 (broadcastInDim S640 ![] bcast_S_S640)
  , StableHlo.TRef.binary (.of main_v12) main_call1.v3 main_call1.v4 Host.remsi
  , StableHlo.TRef.nullary main_call1.c_1 (constantI S_ 32 0#32)
  , StableHlo.TRef.unary main_call1.c_1 main_call1.v5 (broadcastInDim S640 ![] bcast_S_S640)
  , StableHlo.TRef.binary main_call1.v4 main_call1.v5 main_call1.v6 (cmpi .ne)
  , StableHlo.TRef.nullary main_call1.c_2 (constantI S_ 32 0#32)
  , StableHlo.TRef.unary main_call1.c_2 main_call1.v7 (broadcastInDim S640 ![] bcast_S_S640)
  , StableHlo.TRef.binary main_call1.v4 main_call1.v7 main_call1.v8 (cmpi .slt)
  , StableHlo.TRef.nullary main_call1.c_3 (constantI S_ 32 0#32)
  , StableHlo.TRef.binary main_call1.call0.v0 main_call1.c_3 main_call1.v9 (cmpi .slt)
  , StableHlo.TRef.unary main_call1.v9 main_call1.v10 (broadcastInDim S640 ![] bcast_S_S640)
  , StableHlo.TRef.binary main_call1.v8 main_call1.v10 main_call1.v11 (cmpi .ne)
  , StableHlo.TRef.binary main_call1.v11 main_call1.v6 main_call1.v12 andi
  , StableHlo.TRef.unary main_call1.call0.v0 main_call1.v13 (broadcastInDim S640 ![] bcast_S_S640)
  , StableHlo.TRef.binary main_call1.v4 main_call1.v13 main_call1.v14 addi
  , StableHlo.TRef.ternary main_call1.v12 main_call1.v14 main_call1.v4 main_call1.v15 select
  , StableHlo.unary main_v13 main_v14 (sitofp .f32 : (⟨S640, .i32⟩ : BufTy).Contents (Elt F) → (⟨S640, .f32⟩ : BufTy).Contents (Elt F))
  , StableHlo.unary main_v14 main_v15 (broadcastInDim S1x640 ![1] bcast_S640_S1x640_1 : (⟨S640, .f32⟩ : BufTy).Contents (Elt F) → (⟨S1x640, .f32⟩ : BufTy).Contents (Elt F)) ]

/-- The host operations, part B. -/
def opsB : List (HloOp τ sig (Elt F)) :=
  [ StableHlo.reshape main_v16_0 main_v17 (rfl : (.i32 : EltTy) = .i32) shapeCasts_S15625x640_S10000000 ]

/-- The host operations, part C. -/
def opsC : List (HloOp τ sig (Elt F)) :=
  [ StableHlo.reshape main_v18 main_v19 (rfl : (.f32 : EltTy) = .f32) shapeCasts_S32x20608_S41216x16 ]

/-- The host operations, part D. -/
def opsD : List (HloOp τ sig (Elt F)) :=
  [ StableHlo.reshape main_v20 main_v21 (rfl : (.f32 : EltTy) = .f32) shapeCasts_S1x1_S_ ]

theorem opsA_sub : ∀ op ∈ (opsA : List (HloOp τ sig (Elt F))), op.bufs ⊆ ucRefs τ sig := fun op h =>
  sub_ucRefs op (List.forall_iff_forall_mem.1 (show (opsA : List (HloOp τ sig (Elt F))).Forall fun op => op.bufs ⊆ tcRefs τ sig from
    ⟨reshape_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., unary_bufs_sub .., binary_bufs_sub .., unary_bufs_sub .., unary_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub ..⟩) op h)
theorem opsA_fresh : ∀ op ∈ (opsA : List (HloOp τ sig (Elt F))), op.fresh = ∅ :=
  List.forall_iff_forall_mem.1 (show (opsA : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem opsB_sub : ∀ op ∈ (opsB : List (HloOp τ sig (Elt F))), op.bufs ⊆ ucRefs τ sig := fun op h =>
  sub_ucRefs op (List.forall_iff_forall_mem.1 (show (opsB : List (HloOp τ sig (Elt F))).Forall fun op => op.bufs ⊆ tcRefs τ sig from
    reshape_bufs_sub ..) op h)
theorem opsB_fresh : ∀ op ∈ (opsB : List (HloOp τ sig (Elt F))), op.fresh = ∅ :=
  List.forall_iff_forall_mem.1 (show (opsB : List (HloOp τ sig (Elt F))).Forall fun op => op.fresh = ∅ from
    rfl)

theorem opsC_sub : ∀ op ∈ (opsC : List (HloOp τ sig (Elt F))), op.bufs ⊆ ucRefs τ sig := fun op h =>
  sub_ucRefs op (List.forall_iff_forall_mem.1 (show (opsC : List (HloOp τ sig (Elt F))).Forall fun op => op.bufs ⊆ tcRefs τ sig from
    reshape_bufs_sub ..) op h)
theorem opsC_fresh : ∀ op ∈ (opsC : List (HloOp τ sig (Elt F))), op.fresh = ∅ :=
  List.forall_iff_forall_mem.1 (show (opsC : List (HloOp τ sig (Elt F))).Forall fun op => op.fresh = ∅ from
    rfl)

theorem opsD_sub : ∀ op ∈ (opsD : List (HloOp τ sig (Elt F))), op.bufs ⊆ ucRefs τ sig := fun op h =>
  sub_ucRefs op (List.forall_iff_forall_mem.1 (show (opsD : List (HloOp τ sig (Elt F))).Forall fun op => op.bufs ⊆ tcRefs τ sig from
    reshape_bufs_sub ..) op h)
theorem opsD_fresh : ∀ op ∈ (opsD : List (HloOp τ sig (Elt F))), op.fresh = ∅ :=
  List.forall_iff_forall_mem.1 (show (opsD : List (HloOp τ sig (Elt F))).Forall fun op => op.fresh = ∅ from
    rfl)

/-- The call of pipeline `p`. -/
abbrev callP (p : Fin 2) : Prog (TpuEff nD τ sig (Elt F) (SparseCore.Sig (ΛP (F := F)) 1) .tc) PUnit :=
  Prog.lift (.customCall (SparseCore.inner (Pipeline.entry p)) ())

theorem main_eq (d : Dev nD) : main (F := F) d
    = (seq opsA >>= fun _ => callP 0 >>= fun _ => seq opsB >>= fun _ => sc.run d 0 >>= fun _ =>
        seq opsC >>= fun _ => callP 1 >>= fun _ => seq opsD >>= fun _ => pure ⟨⟩) := by
  rw [seq_bind_seqK, seq_bind_seqK, seq_bind_seqK, seq_bind_seqK]
  rfl

/-! ## The TensorCore's buffers from step to step -/

variable (m : (ℓ : Loc nD τ sig) → Buf (Elt F) ℓ) (ρ : Dev nD → PrngReg)

/-- What device `d`'s buffers hold before stage A, -/
def V1 (d : Dev nD) : Valuation τ sig (Elt F) := after opsA (launchContents m d)
/-- after stage A and the reshape of the codes, -/
def V2 (d : Dev nD) : Valuation τ sig (Elt F) := after opsB (afterA (V1 m d))
/-- the codes, -/
def codes (d : Dev nD) : IVec S10000000 32 := V2 m d (Proc.devRef .tc main_v17)
/-- after the SparseCore call, -/
def V3 (d : Dev nD) : Valuation τ sig (Elt F) := Function.update (V2 m d) (Proc.devRef .tc main_v18) (Tile.outV (codes m d) : Vec F S32x20608 .f32)
/-- after the reshape of its result, -/
def V4 (d : Dev nD) : Valuation τ sig (Elt F) := after opsC (V3 m d)
/-- and at the end. -/
def V5 (d : Dev nD) : Valuation τ sig (Elt F) := after opsD (afterC (V4 m d))

/-- What the SparseCore call is handed. -/
abbrev PP : (K (F := F)).Pay (nD := nD) (Val := Elt F) (Name := ℕ) (U := UU) :=
  Tile.P (codes m) (fun d => V2 m d (Proc.devRef .tc main_v18))

/-! ## The ghost state at launch -/

theorem hinj : Function.Injective (Pipeline.cellOf (nD := nD) (τ := τ) (pin (pcfgs (F := F)) adm)) := cellOf_inj

/-- The pipelines' ghost state. -/
abbrev GP (d : Dev nD) : sProp 𝕄 :=
  iprop((bigSep Finset.univ fun p => cellsGhost (pin (pcfgs (F := F)) adm) EP p d) ∗ bigSep Finset.univ fun p => toksInit (pin (pcfgs (F := F)) adm) EP p d)

def u₀ : UU := (initOf (K (F := F)).hsCells (K (F := F)).hsToks, (initOf (cells (pin (pcfgs (F := F)) adm) hinj) (launchToks (pin (pcfgs (F := F)) adm) hinj), 1))

theorem Px_emp : (bigSep Finset.univ fun thr : Thread nD τ => bigSep Finset.univ fun q : Fin 1 => (PP m).x q thr) = (iprop(emp) : sProp 𝕄) :=
  (bigSep_congr fun _ _ => bigSep_univ_of_subsingleton (0 : Fin 1)).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (PP m).x q thr) := by
  unfold u₀
  rw [Px_emp]
  iintro Hu
  ihave H := (ownU_split _ _) $$ Hu
  icases H with ⟨HH, HP⟩
  imod (Pipeline.fund_ghost (pin (pcfgs (F := F)) adm) EP hinj) $$ HP with ⟨Hc, Ht⟩
  imodintro
  isplitl [HH]; · iexact HH
  isplitl [Hc Ht]
  · rw [bigSep_sep']
    isplitl [Hc]; · iexact Hc
    iexact Ht
  iempintro

/-! ## The steps -/

theorem unscopedBufs_held (d : Dev nD) (W : Valuation τ sig (Elt F)) :
    (unscopedBufs d (fun b => W b) : sProp 𝕄) = held (d : Thread nD τ) (ucRefs τ sig) W := by
  unfold unscopedBufs held ucRefs tcRefs
  rw [Finset.filter_map, bigSep_map]; rfl

/-- A straight line of host operations. -/
theorem wp_ops (d : Dev nD) (ops : List (HloOp τ sig (Elt F))) (hS : ∀ op ∈ ops, op.bufs ⊆ ucRefs τ sig) (hf : ∀ op ∈ ops, op.fresh = ∅)
    (V : Valuation τ sig (Elt F)) (k : PUnit → Prog (TpuEff nD τ sig (Elt F) (SparseCore.Sig (ΛP (F := F)) 1) .tc) PUnit) (Φ : PUnit → sProp 𝕄) :
    iprop(boundary (d.tc : Thread nD τ) ∗ held (d.tc : Thread nD τ) (ucRefs τ sig) V
        ∗ ((boundary (d.tc : Thread nD τ) ∗ held (d.tc : Thread nD τ) (ucRefs τ sig) (after ops V)) -∗
            wp frame (wpE ((K (F := F)).defs (D (F := F))) 𝒱 (d.tc : Thread nD τ) none) Set.univ (k ⟨⟩) Φ))
      ⊢ wp frame (wpE ((K (F := F)).defs (D (F := F))) 𝒱 (d.tc : Thread nD τ) none) Set.univ (seq ops >>= k) Φ := by
  iintro ⟨Hb, HV, Hk⟩
  iapply (wp_seq (defs := (K (F := F)).defs (D (F := F))) 𝒱 none Set.univ d (ucRefs τ sig) k ops hS hf V) $$ [Hb HV]
  · isplitl [Hb]; · iexact Hb
    iexact HV
  iexact Hk

/-- A region's run, over the pipelines' own labels. -/
theorem wp_region (d : Dev nD) (p : Fin 2) {pdats} (R : RegionSeg (pcfgs (F := F)) adm pdats none (defs₀ (F := F)) 𝒱₀ (K (F := F)).L (K (F := F)).lev p)
    (Φ : PUnit → sProp 𝕄) :
    iprop((iprop(boundary (d.tc : Thread nD τ) ∗ R.post d) -∗ wp frame (wpE (D (F := F)) 𝒱 (d.tc : Thread nD τ) none) Set.univ (.ret ⟨⟩) Φ)
        ∗ boundary (d.tc : Thread nD τ) ∗ R.pre d ∗ levAts (K (F := F)).L (K (F := F)).lev
        ∗ cellsGhost (pin (pcfgs (F := F)) adm) EP p d ∗ toksInit (pin (pcfgs (F := F)) adm) EP p d)
      ⊢ wp frame (wpE (D (F := F)) 𝒱 (d.tc : Thread nD τ) none) Set.univ (.op (.customCall (Pipeline.entry p) ()) fun _ => .ret ⟨⟩) Φ := by
  have i1 : (EP : Emb UR 𝕄).LandsIn (upEmb : UEmb _ 𝕄) := EP_landsIn
  have i2 : ∀ e, Nonempty (Elt F e) := inferInstance
  have hn : ∀ u ∈ (none : Option (𝒱).V), (𝒱).lt (.inr ((pin (pcfgs (F := F)) adm p).tripCount + 1)) u := fun _ h => nomatch h
  have h := RegionSeg.wp (pcs := pcfgs (F := F)) (a := adm) (pdats := pdats) (ι := none) (EP := EP) (phinj := hinj) (defs₀ := defs₀ (F := F)) (𝒱₀ := 𝒱₀) (L := (K (F := F)).L)
    (lv := (K (F := F)).lev) (p := p) (α := PUnit) R d none hn
  exact h (fun _ => .ret ⟨⟩) Φ

/-- A pipeline's call, run as a region: its arrays go from `V` to `V'`, which agrees with `V` off them. -/
theorem wp_callP (d : Dev nD) (p : Fin 2) {pdats} (R : RegionSeg (pcfgs (F := F)) adm pdats none (defs₀ (F := F)) 𝒱₀ (K (F := F)).L (K (F := F)).lev p)
    (n : ℕ) (V V' : Valuation τ sig (Elt F))
    (hpre : R.pre d = iprop(held (d.tc : Thread nD τ) (arrRefs (pcfgs (F := F) p).spec) V ∗ owesSt (F := F) d n))
    (hpost : R.post d = iprop(held (d.tc : Thread nD τ) (arrRefs (pcfgs (F := F) p).spec) V' ∗ owesSt (F := F) d n))
    (hsub : arrRefs (τ := τ) (pcfgs (F := F) p).spec ⊆ ucRefs τ sig)
    (hV : ∀ b ∉ arrRefs (τ := τ) (pcfgs (F := F) p).spec, V' b = V b)
    (Φ : PUnit → sProp 𝕄) :
    iprop(boundary (d.tc : Thread nD τ) ∗ held (d.tc : Thread nD τ) (ucRefs τ sig) V ∗ owesSt (F := F) d n ∗ levAts (K (F := F)).L (K (F := F)).lev
        ∗ cellsGhost (pin (pcfgs (F := F)) adm) EP p d ∗ toksInit (pin (pcfgs (F := F)) adm) EP p d
        ∗ ((boundary (d.tc : Thread nD τ) ∗ held (d.tc : Thread nD τ) (ucRefs τ sig) V' ∗ owesSt (F := F) d n) -∗ Φ ⟨⟩))
      ⊢ wp frame (wpE ((K (F := F)).defs (D (F := F))) 𝒱 (d.tc : Thread nD τ) none) Set.univ (callP p) Φ := by
  rw [held_sub_split (d.tc : Thread nD τ) hsub V, held_sub_split (d.tc : Thread nD τ) hsub V',
    held_congr (d.tc : Thread nD τ) (S := ucRefs τ sig \ _) (V := V') (V' := V) (fun b hb => hV b (Finset.mem_sdiff.1 hb).2)]
  have e : (callP p : Prog (TpuEff nD τ sig (Elt F) (SparseCore.Sig (ΛP (F := F)) 1) .tc) PUnit)
      = SparseCore.liftProg (.op (.customCall (Pipeline.entry p) ()) fun _ => .ret ⟨⟩ : Prog (TpuEff nD τ sig (Elt F) (ΛP (F := F)) .tc) PUnit) := rfl
  rw [e]
  refine BIBase.Entails.trans ?_ ((K (F := F)).wp_liftProg (D (F := F)) 𝒱 (d.tc : Thread nD τ) Set.univ none
    (.op (.customCall (Pipeline.entry p) ()) fun _ => .ret ⟨⟩ : Prog (TpuEff nD τ sig (Elt F) (ΛP (F := F)) .tc) PUnit) Φ)
  refine BIBase.Entails.trans ?_ (wp_region d p R Φ)
  rw [hpre, hpost]
  iintro ⟨Hb, ⟨Ha, Hr⟩, Ho, Hl, Hg, Ht, Hk⟩
  isplitl [Hk Hr]
  · iintro ⟨Hb, Ha, Ho⟩
    rw [wp_ret]; imodintro
    iapply Hk
    isplitl [Hb]; · iexact Hb
    isplitl [Ha Hr]
    · isplitl [Ha]; · iexact Ha
      iexact Hr
    iexact Ho
  isplitl [Hb]; · iexact Hb
  isplitl [Ha Ho]
  · isplitl [Ha]; · iexact Ha
    iexact Ho
  isplitl [Hl]; · iexact Hl
  isplitl [Hg]; · iexact Hg
  iexact Ht

/-- The SparseCore call: from the codes and the result's buffer to the result. -/
theorem wp_sc (κ : GSem nD τ sig → ℕ) (d : Dev nD) (Φ : PUnit → sProp 𝕄) :
    iprop((K (F := F)).ctx EH (PP m) κ ∗ (K (F := F)).tcSt EH d 0 ∗ held (d.tc : Thread nD τ) (ucRefs τ sig) (V2 m d)
        ∗ (((K (F := F)).tcSt EH d 1 ∗ held (d.tc : Thread nD τ) (ucRefs τ sig) (V3 m d)) -∗ Φ ⟨⟩))
      ⊢ wp frame (wpE ((K (F := F)).defs (D (F := F))) 𝒱 (d.tc : Thread nD τ) none) Set.univ ((K (F := F)).run d 0) Φ := by
  have hsub : ({Proc.devRef .tc main_v17, Proc.devRef .tc main_v18} : Finset (DevRef τ sig)) ⊆ ucRefs τ sig := by
    intro b hb
    rcases Finset.mem_insert.1 hb with rfl | hb
    · exact Finset.mem_filter.2 ⟨devRef_mem_tcRefs _, by decide⟩
    · rw [Finset.mem_singleton.1 hb]; exact Finset.mem_filter.2 ⟨devRef_mem_tcRefs _, by decide⟩
  have hd : (Proc.devRef .tc main_v17 : DevRef τ sig) ∉ ({Proc.devRef .tc main_v18} : Finset (DevRef τ sig)) := by decide
  have h2 (W : Valuation τ sig (Elt F)) : (held (d.tc : Thread nD τ) {Proc.devRef .tc main_v17, Proc.devRef .tc main_v18} W : sProp 𝕄)
      = iprop((Tile.gLoc d ↦{fullShare} W (Proc.devRef .tc main_v17)) ∗ (Tile.oLoc d ↦{fullShare} W (Proc.devRef .tc main_v18))) := by
    unfold held; rw [SparseCore.bigSep_insert' hd, bigSep_singleton]
  rw [held_sub_split (d.tc : Thread nD τ) hsub (V2 m d), held_sub_split (d.tc : Thread nD τ) hsub (V3 m d),
    held_congr (d.tc : Thread nD τ) (S := ucRefs τ sig \ _) (V := V3 m d) (V' := V2 m d) (fun b hb =>
      Function.update_of_ne (fun e => (Finset.mem_sdiff.1 hb).2 (by rw [e]; exact Finset.mem_insert_of_mem (Finset.mem_singleton_self _))) ..), h2, h2]
  have e17 : V3 m d (Proc.devRef .tc main_v17) = codes m d := Function.update_of_ne (by decide) ..
  have e18 : V3 m d (Proc.devRef .tc main_v18) = (Tile.outV (codes m d) : Vec F S32x20608 .f32) := Function.update_self ..
  rw [e17, e18]
  have hst : _ = (bigSep Finset.univ fun c => (PP m).st 0 d c : sProp 𝕄) := (Tile.call_split d (codes m d) (V2 m d (Proc.devRef .tc main_v18))).trans
    (Tile.bigSep_cores (F := F) (fun c => iprop((Tile.gLoc d ↦{Tile.qC c} codes m d) ∗ (Tile.oLoc d ↦[Tile.coreRows c]{fullShare} V2 m d (Proc.devRef .tc main_v18))))).symm
  have hdn : _ = (bigSep Finset.univ fun c => (PP m).dn 0 d c : sProp 𝕄) := (Tile.call_split d (codes m d) (Tile.outV (codes m d) : Vec F S32x20608 .f32)).trans
    (Tile.bigSep_cores (F := F) (fun c => iprop((Tile.gLoc d ↦{Tile.qC c} codes m d) ∗ (Tile.oLoc d ↦[Tile.coreRows c]{fullShare} (Tile.outV (codes m d) : Vec F S32x20608 .f32))))).symm
  refine BIBase.Entails.trans ?_ ((K (F := F)).wp_run (D (F := F)) 𝒱 (EH := EH) (P := PP m) κ d 0)
  iintro ⟨Hctx, Hst, ⟨⟨Hg, Ho⟩, Hr⟩, Hk⟩
  isplitl [Hctx]; · iexact Hctx
  isplitl [Hst]; · iexact Hst
  isplitl [Hg Ho]
  · iapply (Entails.of_eq hst)
    isplitl [Hg]; · iexact Hg
    iexact Ho
  iintro ⟨Hst, Hdn⟩
  ihave Hdn := (Entails.of_eq hdn.symm) $$ Hdn
  icases Hdn with ⟨Hg, Ho⟩
  iapply Hk
  isplitl [Hst]; · iexact Hst
  isplitl [Hg Ho]
  · isplitl [Hg]; · iexact Hg
    iexact Ho
  iexact Hr

theorem bigSep_two (Φ : Fin 2 → sProp 𝕄) : (bigSep Finset.univ Φ) = iprop(Φ 0 ∗ Φ 1) := by
  rw [show (Finset.univ : Finset (Fin 2)) = {0, 1} by decide, SparseCore.bigSep_insert' (by decide), bigSep_singleton]

theorem arr0_sub : arrRefs (τ := τ) (pcfgs (F := F) 0).spec ⊆ ucRefs τ sig :=
  arrRefs_sub_ucRefs _ (show ∀ w : Fin 7, (arrRef spec0 w).isScoped = false by decide)
theorem arr2_sub : arrRefs (τ := τ) (pcfgs (F := F) 1).spec ⊆ ucRefs τ sig :=
  arrRefs_sub_ucRefs _ (show ∀ w : Fin 4, (arrRef spec2 w).isScoped = false by decide)

theorem mem_arrRefs (p : Fin 2) (w) : Proc.devRef .tc (arrRef (pcfgs (F := F) p).spec w) ∈ arrRefs (τ := τ) (pcfgs (F := F) p).spec :=
  Finset.mem_map.2 ⟨_, Finset.mem_image.2 ⟨w, Finset.mem_univ _, rfl⟩, rfl⟩

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ held (d.tc : Thread nD τ) (ucRefs τ sig) (V5 m d) ∗ (K (F := F)).tcEnd d) := by
  unfold SparseCore.Cfg.tcRes SparseCore.Cfg.tcEnd
  rw [show (unscopedBufs d fun b => m ((d.tc : Thread nD τ).loc b) : sProp 𝕄) = held (d : Thread nD τ) (ucRefs τ sig) (launchContents m d) from unscopedBufs_held d (launchContents m d),
    show (GP d : sProp 𝕄) = iprop((cellsGhost (pin (pcfgs (F := F)) adm) EP 0 d ∗ cellsGhost (pin (pcfgs (F := F)) adm) EP 1 d)
      ∗ toksInit (pin (pcfgs (F := F)) adm) EP 0 d ∗ toksInit (pin (pcfgs (F := F)) adm) EP 1 d) from by unfold GP; rw [bigSep_two, bigSep_two], main_eq]
  iintro ⟨#Hctx, Hst, ⟨Hb, HV, Hts, -⟩, ⟨Hg0, Hg1⟩, ⟨Ht0, Ht1⟩⟩
  ihave #Hlev := (SparseCore.Cfg.ctx_levAts (K := K (F := F)) κ) $$ Hctx
  iapply (wp_ops d opsA opsA_sub opsA_fresh (launchContents m d))
  isplitl [Hb]; · iexact Hb
  isplitl [HV]; · iexact HV
  iintro ⟨Hb, HV⟩
  rw [wp_bind]
  unfold SparseCore.Cfg.tcSt
  icases Hst with ⟨Ho, Hrest⟩
  iapply (wp_callP d 0 (regionA (V1 m)) 0 (V1 m d) (afterA (V1 m d)) rfl rfl arr0_sub
    (fun b hb => afterA_ne _ (fun e => hb (e ▸ mem_arrRefs 0 5)) (fun e => hb (e ▸ mem_arrRefs 0 6))))
  isplitl [Hb]; · iexact Hb
  isplitl [HV]; · iexact HV
  isplitl [Ho]; · iexact Ho
  isplitr; · iexact Hlev
  isplitl [Hg0]; · iexact Hg0
  isplitl [Ht0]; · iexact Ht0
  iintro ⟨Hb, HV, Ho⟩
  iapply (wp_ops d opsB opsB_sub opsB_fresh (afterA (V1 m d)))
  isplitl [Hb]; · iexact Hb
  isplitl [HV]; · iexact HV
  iintro ⟨Hb, HV⟩
  rw [wp_bind]
  iapply (wp_sc m κ d)
  isplitr; · iexact Hctx
  isplitl [Ho Hrest]
  · unfold SparseCore.Cfg.tcSt
    isplitl [Ho]; · iexact Ho
    iexact Hrest
  isplitl [HV]; · iexact HV
  iintro ⟨Hst, HV⟩
  iapply (wp_ops d opsC opsC_sub opsC_fresh (V3 m d))
  isplitl [Hb]; · iexact Hb
  isplitl [HV]; · iexact HV
  iintro ⟨Hb, HV⟩
  rw [wp_bind]
  unfold SparseCore.Cfg.tcSt
  icases Hst with ⟨Ho, Hrest⟩
  iapply (wp_callP d 1 (regionC (V4 m)) 1 (V4 m d) (afterC (V4 m d)) rfl rfl arr2_sub
    (fun b hb => afterC_ne _ (fun e => hb (e ▸ mem_arrRefs 1 3))))
  isplitl [Hb]; · iexact Hb
  isplitl [HV]; · iexact HV
  isplitl [Ho]; · iexact Ho
  isplitr; · iexact Hlev
  isplitl [Hg1]; · iexact Hg1
  isplitl [Ht1]; · iexact Ht1
  iintro ⟨Hb, HV, Ho⟩
  iapply (wp_ops d opsD opsD_sub opsD_fresh (afterC (V4 m d)))
  isplitl [Hb]; · iexact Hb
  isplitl [HV]; · iexact HV
  iintro ⟨Hb, HV⟩
  rw [wp_pure]; imodintro
  isplitl [Ho Hrest]
  · isplitl [Ho]; · iexact Ho
    iexact Hrest
  isplitl [HV]; · iexact HV
  isplitl [Hb]; · iexact Hb
  iexact Hts

/-! ## The run -/

/-- What the run leaves on a device: every buffer of the TensorCore at the last valuation. -/
def fq (d : Dev nD) (s' : Phys nD τ sig (Elt F)) : Prop := ∀ b ∈ ucRefs τ sig, s'.mem.mem (d, b) = V5 m d b

theorem hfin (d : Dev nD) (s' : Phys nD τ sig (Elt F)) :
    iprop(held (d.tc : Thread nD τ) (ucRefs τ sig) (V5 m d) ∗ SI s') ⊢ (⌜fq m d s'⌝ : sProp 𝕄) := by
  unfold held fq
  iintro ⟨H, HSI⟩
  ihave %h := (SI_pointsTo_bufs_agree (qs := fun _ => fullShare) (ucRefs τ sig)) $$ [HSI H]
  · isplitl [HSI]; · iexact HSI
    iexact H
  ipureintro
  exact h

/-- Where the codes are in range, the program runs to its end from any memory, every buffer at the last valuation and every semaphore at zero. -/
theorem run_main (hg : ∀ d, Tile.InRange (codes m d)) :
    θ_run (Cert.KernelIdeal.defs (F := F)) (Cert.KernelIdeal.threads (F := F)) ⟨m, fun _ => 0, ρ⟩
      (fun r => (∀ d : Dev nD, ∀ b ∈ ucRefs τ sig, r.2.mem (d, b) = V5 m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => Tile.tileObl _ _ hg)
    (fun q _ => match q with | 0 => SparseCore.Cfg.VecSplit.of_plain (Tile.vecSplit _ _))
    m ρ main (GP (F := F)) (fun d => held (d.tc : Thread nD τ) (ucRefs τ sig) (V5 m d)) (u₀ (F := F)) (sep_elim_left.trans (hu₀ m)) (hmain m ρ) (fq m) (hfin m)
    (fun r => (∀ d : Dev nD, ∀ b ∈ ucRefs τ sig, r.2.mem (d, b) = V5 m d b) ∧ r.2.sem = fun _ => 0) (fun _ h hz => ⟨h, hz⟩)

end Cert.Proof
-- ==== Proof.Host.lean ====
/-
  What the host hands the kernels: the two arrays reshaped, the matrix that gathers ten neighbouring columns, its
  transpose, and the class of each column.
-/
module

public import proofs.«01_k».proof.Proof.Run
public import proofs.«01_k».proof.Proof.Words
public import Idealize.ShloMosaic.Lib.StableHlo.RunRead

@[expose] public section

noncomputable section

namespace Cert.Proof

open Cert.KernelIdeal Cert.KernelIdeal.Gen

open Idealize.ShloMosaic Idealize.ShloMosaic.StableHlo
open Idealize.ShloMosaic.TcCoe
open Idealize.ShloMosaic.ValueIdx

variable (m : (l : Loc nD τ sig) → Buf (Elt Ideal) l) (d : Dev nD)

/-- A column's number divided by ten, as the host computes it. -/
def quoV : IVec S640 32 :=
  select (andi (cmpi .ne (signi (iotaInDim S640 32 0)) (broadcastInDim S640 ![] bcast_S_S640 (signi (constantI S_ 32 10#32))))
      (cmpi .ne (Host.remsi (iotaInDim S640 32 0) (broadcastInDim S640 ![] bcast_S_S640 (constantI S_ 32 10#32)))
        (broadcastInDim S640 ![] bcast_S_S640 (constantI S_ 32 0#32))))
    (subi (Host.divsi (iotaInDim S640 32 0) (broadcastInDim S640 ![] bcast_S_S640 (constantI S_ 32 10#32)))
      (broadcastInDim S640 ![] bcast_S_S640 (constantI S_ 32 1#32)))
    (Host.divsi (iotaInDim S640 32 0) (broadcastInDim S640 ![] bcast_S_S640 (constantI S_ 32 10#32)))

/-- Ten, as the host's remainder guards it. -/
def tenV : IVec S_ 32 := select (cmpi .eq (constantI S_ 32 10#32) (constantI S_ 32 0#32)) (constantI S_ 32 1#32) (constantI S_ 32 10#32)

/-- A column's number modulo ten before the sign is mended, -/
def remV : IVec S640 32 := Host.remsi (iotaInDim S640 32 0) (broadcastInDim S640 ![] bcast_S_S640 tenV)

/-- and after. -/
def modV : IVec S640 32 :=
  select (andi (cmpi .ne (cmpi .slt remV (broadcastInDim S640 ![] bcast_S_S640 (constantI S_ 32 0#32)))
        (broadcastInDim S640 ![] bcast_S_S640 (cmpi .slt tenV (constantI S_ 32 0#32))))
      (cmpi .ne remV (broadcastInDim S640 ![] bcast_S_S640 (constantI S_ 32 0#32))))
    (addi remV (broadcastInDim S640 ![] bcast_S_S640 tenV)) remV

set_option maxRecDepth 100000 in
theorem quoV_eq : ∀ j : Fin 640, quoV (ix1 j) = BitVec.ofNat 32 (j.val / 10) := by decide +kernel
set_option maxRecDepth 100000 in
theorem modV_eq : ∀ j : Fin 640, modV (ix1 j) = BitVec.ofNat 32 (j.val % 10) := by decide +kernel

theorem V1_v0 : V1 m d (Proc.devRef .tc main_v0) = shapeCast S15625x640 (m ((d : Thread nD τ).loc main_arg0)) shapeCasts_S1000000x10_S15625x640 := by
  unfold V1 opsA
  after_results_simp
  rfl

theorem V1_v1 : V1 m d (Proc.devRef .tc main_v1) = shapeCast S15625x64 (m ((d : Thread nD τ).loc main_arg1)) shapeCasts_S1000000x1_S15625x64 := by
  unfold V1 opsA
  after_results_simp
  rfl

theorem V1_v3 : (V1 m d (Proc.devRef .tc main_v3) : IVec S640 32) = quoV := by
  unfold V1 opsA
  after_reads_simp
  rfl

theorem V1_v13 : (V1 m d (Proc.devRef .tc main_v13) : IVec S640 32) = modV := by
  unfold V1 opsA
  after_reads_simp
  rfl

/-- The gathering matrix, over the quotients. -/
def gatherV (q : IVec S640 32) : FVec Ideal S640x64 .f32 :=
  uitofp .f32 (cmpi .eq (broadcastInDim S640x64 ![0, 1] bcast_S640x1_S640x64_0_1 (broadcastInDim S640x1 ![0] bcast_S640_S640x1_0 q))
    (broadcastInDim S640x64 ![0, 1] bcast_S1x64_S640x64_0_1 (broadcastInDim S1x64 ![1] bcast_S64_S1x64_1 (iotaInDim S64 32 0))))

theorem V1_v10 : (V1 m d (Proc.devRef .tc main_v10) : FVec Ideal S640x64 .f32) = gatherV (V1 m d (Proc.devRef .tc main_v3)) := by
  unfold V1 opsA gatherV
  after_reads_simp

theorem V1_v11 : (V1 m d (Proc.devRef .tc main_v11) : FVec Ideal S64x640 .f32)
    = transpose S64x640 [1, 0] (V1 m d (Proc.devRef .tc main_v10) : FVec Ideal S640x64 .f32) transposes_S640x64_S64x640_1_0 := by
  unfold V1 opsA
  after_reads_simp

theorem V1_v15 : (V1 m d (Proc.devRef .tc main_v15) : FVec Ideal S1x640 .f32)
    = broadcastInDim S1x640 ![1] bcast_S640_S1x640_1 (sitofp .f32 (V1 m d (Proc.devRef .tc main_v13) : IVec S640 32) : FVec Ideal S640 .f32) := by
  unfold V1 opsA
  after_reads_simp

end Cert.Proof
-- ==== Proof.Rows.lean ====
/-
  Stage A's block, element by element at the extended reals: with the gathering matrix in place, the probability of an
  element is the softmax of its ten neighbours and its code the code word of that probability.
-/
module

public import proofs.«01_k».proof.Proof.Host
public import Idealize.ShloMosaic.Lib.MatmulPlain
public import Idealize.ShloMosaic.Lib.IdealHost
public import Idealize.ShloMosaic.Lib.ValueLayout

@[expose] public section

noncomputable section

namespace Cert.Proof

open Cert.KernelIdeal Cert.KernelIdeal.Gen

open Idealize.ShloMosaic
open Idealize.ShloMosaic.ValueIdx
open Words

/-! ## Indicator sums -/

theorem sum_gather (f : Fin 640 → EReal) (a : Fin 64) :
    (∑ k : Fin 640, f k * (if k.val / 10 = a.val then (1 : EReal) else 0)) = ∑ c : Fin 10, f ⟨10 * a.val + c.val, by omega⟩ := by
  rw [← Equiv.sum_comp (finProdFinEquiv (m := 64) (n := 10)), Fintype.sum_prod_type, Finset.sum_eq_single a]
  · refine Finset.sum_congr rfl fun c _ => ?_
    have h : (finProdFinEquiv (a, c) : Fin (64 * 10)).val = c.val + 10 * a.val := rfl
    have h2 : (finProdFinEquiv (a, c) : Fin (64 * 10)).val / 10 = a.val := by omega
    rw [if_pos h2, mul_one]
    exact congrArg f (Fin.ext (by rw [h]; exact Nat.add_comm _ _))
  · intro b _ hb
    refine Finset.sum_eq_zero fun c _ => ?_
    have h : (finProdFinEquiv (b, c) : Fin (64 * 10)).val = c.val + 10 * b.val := rfl
    have h2 : ¬ (finProdFinEquiv (b, c) : Fin (64 * 10)).val / 10 = a.val := by
      intro e; apply hb; apply Fin.ext; omega
    rw [if_neg h2, mul_zero]
  · intro h; exact absurd (Finset.mem_univ a) h

theorem sum_spread (f : Fin 64 → EReal) (j : Fin 640) :
    (∑ a : Fin 64, f a * (if j.val / 10 = a.val then (1 : EReal) else 0)) = f ⟨j.val / 10, by omega⟩ := by
  rw [Finset.sum_eq_single (⟨j.val / 10, by omega⟩ : Fin 64)]
  · rw [if_pos rfl, mul_one]
  · intro b _ hb
    rw [if_neg (fun e => hb (Fin.ext e.symm)), mul_zero]
  · intro h; exact absurd (Finset.mem_univ _) h

/-! ## The products -/

theorem mm_gather (A : FVec Ideal S512x640 .f32) (B : FVec Ideal S640x64 .f32) (acc : FVec Ideal S512x64 .f32) (r : Fin 512) (c : Fin 64) :
    matmul dot_S512x640_S640x64_S512x64_1_0_0_1_n_n (some .fp32) A B acc (ix2 r c) = acc (ix2 r c) + ∑ k : Fin 640, A (ix2 r k) * B (ix2 k c) :=
  Ideal.matmul_plain_apply (M := 512) (K := 640) (N := 64) (some .fp32) A B acc r c

theorem mm_spread (A : FVec Ideal S512x64 .f32) (B : FVec Ideal S64x640 .f32) (acc : FVec Ideal S512x640 .f32) (r : Fin 512) (c : Fin 640) :
    matmul dot_S512x64_S64x640_S512x640_1_0_0_1_n_n (some .fp32) A B acc (ix2 r c) = acc (ix2 r c) + ∑ k : Fin 64, A (ix2 r k) * B (ix2 k c) :=
  Ideal.matmul_plain_apply (M := 512) (K := 64) (N := 640) (some .fp32) A B acc r c

/-! ## The block -/

/-- The matrices a block is computed with. -/
structure Mats (G : Vec Ideal S640x64 .f32) (GT : Vec Ideal S64x640 .f32) (C : Vec Ideal S1x640 .f32) : Prop where
  g : ∀ (j : Fin 640) (a : Fin 64), G (ix2 j a) = if j.val / 10 = a.val then (1 : EReal) else 0
  gt : ∀ (a : Fin 64) (j : Fin 640), GT (ix2 a j) = if j.val / 10 = a.val then (1 : EReal) else 0
  c : ∀ j : Fin 640, C (ix2 (0 : Fin 1) j) = (((j.val % 10 : ℕ) : ℝ) : EReal)

variable {G : Vec Ideal S640x64 .f32} {GT : Vec Ideal S64x640 .f32} {C : Vec Ideal S1x640 .f32} (hM : Mats G GT C)
variable (i : grid0.Coords) (X : Vec Ideal S512x640 .f32) (Y : Vec Ideal S512x64 .f32)

/-- An element of the masked block. -/
theorem pay2_at (r : Fin 512) (j : Fin 640) :
    k0_pay2 i X (ix2 r j) = if 512 * (i 0).val + r.val < 15625 then X (ix2 r j) else 0 := by
  show Scalar.select (broadcastTo ⟨2, ![512, 640]⟩ (shapeCast S512x1 (k0_pay1 i) shapeCasts_S512x1_S512x1) _ (ix2 r j)) (shapeCast S512x640 X _ (ix2 r j))
    (Ideal.ofBits .f32 0x00000000#32) = _
  rw [mask_at, shapeCast_self, w0]
  unfold Scalar.select
  by_cases hm : k0_pay1 i (ix2 (ix2 r j 0 : Fin 512) (0 : Fin 1)) = 1
  · rw [if_pos hm, if_pos ((pay1_iff i _).1 hm)]
  · rw [if_neg hm, if_neg (fun h => hm ((pay1_iff i _).2 h))]

include hM in
/-- The target of an element's row. -/
theorem pay3_at (r : Fin 512) (j : Fin 640) (h : 512 * (i 0).val + r.val < 15625) :
    k0_pay3 i Y GT (ix2 r j) = Y (ix2 r (⟨j.val / 10, by omega⟩ : Fin 64)) := by
  unfold k0_pay3
  simp only [shapeCast_self]
  rw [mm_spread]
  simp only [hM.gt]
  rw [sum_spread]
  show Ideal.ofBits .f32 0x00000000#32 + Scalar.select (broadcastTo ⟨2, ![512, 64]⟩ (k0_pay1 i) _ (ix2 r _)) (Y (ix2 r _)) _ = _
  rw [w0, zero_add]
  have hb := mask_at (n := 64) i broadcasts_S512x1_S512x64 (ix2 r (⟨j.val / 10, by omega⟩ : Fin 64))
  rw [shapeCast_self] at hb
  rw [hb]
  unfold Scalar.select
  exact if_pos ((pay1_iff i _).2 h)

include hM in
/-- The probability of an element. -/
theorem pay4_at (r : Fin 512) (j : Fin 640) :
    k0_pay4 i X G GT (ix2 r j)
      = pr (fun c => k0_pay2 i X (ix2 r (⟨10 * (j.val / 10) + c.val, by omega⟩ : Fin 640))) ⟨j.val % 10, Nat.mod_lt _ (by norm_num)⟩ := by
  unfold k0_pay4
  simp only [shapeCast_self]
  show Ideal.exp (k0_pay2 i X (ix2 r j)) * matmul (F := Ideal) dot_S512x64_S64x640_S512x640_1_0_0_1_n_n (some .fp32) _ _ _ (ix2 r j) = _
  rw [mm_spread]
  simp only [hM.gt]
  rw [sum_spread]
  show _ * (Ideal.ofBits .f32 0x00000000#32 + Ideal.div (Ideal.ofBits .f32 0x3F800000#32) (matmul (F := Ideal) dot_S512x640_S640x64_S512x64_1_0_0_1_n_n (some .fp32) _ _ _ (ix2 r _))) = _
  rw [mm_gather]
  simp only [hM.g]
  have hs : (∑ x : Fin 640, exp (k0_pay2 i X) (ix2 r x) * (if x.val / 10 = j.val / 10 then (1 : EReal) else 0)) = _ :=
    sum_gather (fun x => exp (k0_pay2 i X) (ix2 r x)) (⟨j.val / 10, by omega⟩ : Fin 64)
  rw [hs, w0, w1, zero_add]
  show _ * Ideal.div 1 (Ideal.ofBits .f32 0x00000000#32 + _) = _
  rw [w0, zero_add]
  unfold pr
  refine congrArg₂ (· * ·) ?_ rfl
  exact congrArg (fun k : Fin 640 => Ideal.exp (k0_pay2 i X (ix2 r k))) (Fin.ext (by show j.val = 10 * (j.val / 10) + j.val % 10; omega))

theorem bin_width : (Named.named (F := Ideal) κ "bin_width" (φ := .f32) 0x3CA3D70A#32 : EReal) = ((1 / 50 : ℝ) : EReal) :=
  IdealRules.named_const.ideal_named_scalar _ _ _ _ rfl

include hM in
/-- The code of an element. -/
theorem aAddr_at (r : Fin 512) (j : Fin 640) (h : 512 * (i 0).val + r.val < 15625) :
    aAddr i X Y G GT C (ix2 r j)
      = kcode (pr (fun c => X (ix2 r (⟨10 * (j.val / 10) + c.val, by omega⟩ : Fin 640))) ⟨j.val % 10, Nat.mod_lt _ (by norm_num)⟩)
          (((j.val % 10 : ℕ) : ℝ) : EReal)
          (Ideal.cmp .oeq (Y (ix2 r (⟨j.val / 10, by omega⟩ : Fin 64))) (((j.val % 10 : ℕ) : ℝ) : EReal)) := by
  have e4 := pay4_at hM i X r j
  simp only [pay2_at, if_pos h] at e4
  have hc : ∀ (v : FVec Ideal S1x640 .f32), broadcastTo S512x640 v broadcasts_S1x640_S512x640 (ix2 r j) = v (ix2 (0 : Fin 1) j) := fun v =>
    broadcastTo_1b_ab_apply v _ r j
  have e5 : k0_pay5 i X G GT (ix2 r j) = Ideal.liftRound Int.floor (k0_pay4 i X G GT (ix2 r j) * ((50 : ℝ) : EReal)) := by
    rw [← w50]; rfl
  have e6 : k0_pay6 i X G GT (ix2 r j) = k0_pay5 i X G GT (ix2 r j) * ((1 / 50 : ℝ) : EReal) := by rw [← bin_width]; rfl
  have e7 : k0_pay7 i X G GT (ix2 r j) = k0_pay5 i X G GT (ix2 r j) + 1 := by rw [← w1]; rfl
  have hsel : ∀ v : FVec Ideal S512x640 .f32, ∀ z, select (broadcastTo S512x640 (k0_pay1 i) broadcasts_S512x1_S512x640) v z (ix2 r j) = v (ix2 r j) := by
    intro v z
    have hb := mask_at (n := 640) i broadcasts_S512x1_S512x640 (ix2 r j)
    rw [shapeCast_self] at hb
    show Scalar.select (broadcastTo ⟨2, ![512, 640]⟩ (k0_pay1 i) broadcasts_S512x1_S512x640 (ix2 r j)) _ _ = _
    rw [hb]
    unfold Scalar.select
    exact if_pos ((pay1_iff i _).2 h)
  unfold aAddr k0_pay8
  simp only [shapeCast_self]
  show Ideal.fptosi 32 (select _ _ _ (ix2 r j) * Ideal.ofBits .f32 0x41800000#32) = _
  rw [hsel]
  show Ideal.fptosi 32 (((broadcastTo S512x640 _ broadcasts_S1x640_S512x640 (ix2 r j)
      + ((k0_pay5 i X G GT (ix2 r j) + bitE (Ideal.cmp .oge (k0_pay4 i X G GT (ix2 r j)) (k0_pay7 i X G GT (ix2 r j) * (Named.named (F := Ideal) κ "bin_width" (φ := .f32) 0x3CA3D70A#32 : EReal))))
        - bitE (Ideal.cmp .olt (k0_pay4 i X G GT (ix2 r j)) (k0_pay6 i X G GT (ix2 r j)))))
      + bitE (Ideal.cmp .oeq (k0_pay3 i Y GT (ix2 r j)) (broadcastTo S512x640 C broadcasts_S1x640_S512x640 (ix2 r j))) * Ideal.ofBits .f32 0x44200000#32)
    * Ideal.ofBits .f32 0x41800000#32) = _
  rw [hc, hc]
  show Ideal.fptosi 32 ((((C (ix2 (0 : Fin 1) j) * Ideal.ofBits .f32 0x42800000#32) + _) + _ * _) * _) = _
  rw [bin_width, e7, e6, e5, e4, pay3_at hM i Y r j h, hM.c, w64, w640, w16]
  rfl

end Cert.Proof
-- ==== Proof.Codes.lean ====
/-
  What stage A leaves: the code word of every pair of a sample and a class.
-/
module

public import proofs.«01_k».proof.Proof.Rows
public import Idealize.ShloMosaic.Lib.Pipeline.ValueKit.Geometry

@[expose] public section

noncomputable section

namespace Cert.Proof

open Cert.KernelIdeal Cert.KernelIdeal.Gen

open Idealize.ShloMosaic Idealize.ShloMosaic.StableHlo
open Idealize.ShloMosaic.Pipeline (Dat Window)
open Idealize.ShloMosaic.TcCoe
open Idealize.ShloMosaic.ValueIdx
open Words

/-! ## The mathematics of a code -/

section Math

variable (x : FVec Ideal S1000000x10 .f32) (y : FVec Ideal S1000000x1 .f32)

/-- Class `c`'s probability for sample `s`. -/
def prob (s : Fin 1000000) (c : Fin 10) : EReal := pr (fun c' => x (ix2 s c')) c

/-- Whether sample `s` is of class `c`. -/
def hit (s : Fin 1000000) (c : ℕ) : BitVec 1 := Ideal.cmp .oeq (y (ix2 s (0 : Fin 1))) (((c : ℕ) : ℝ) : EReal)

/-- The histogram row a sample counts in for a class. -/
def codeN (s : Fin 1000000) (c : Fin 10) : ℕ := 64 * c.val + slot (prob x s c) + 640 * (hit y s c.val).toNat

theorem codeN_lt (s : Fin 1000000) (c : Fin 10) : codeN x y s c < 1288 := by
  have h1 : slot (prob x s c) ≤ 50 := slot_le _ _
  have h2 : (hit y s c.val).toNat < 2 := (hit y s c.val).isLt
  have h3 := c.isLt
  unfold codeN; omega

theorem kcode_prob (s : Fin 1000000) (c : Fin 10) :
    kcode (prob x s c) (((c.val : ℕ) : ℝ) : EReal) (hit y s c.val) = BitVec.ofNat 32 (16 * codeN x y s c) := by
  obtain ⟨r, h0, h1, hp⟩ := pr_real (fun c' => x (ix2 s c')) c
  exact kcode_eq _ r h0 h1 hp c.val c.isLt _

/-- The codes as an array of 15625 rows of 640. -/
def codeA : IVec S15625x640 32 := fun q =>
  BitVec.ofNat 32 (16 * codeN x y ⟨64 * (q 0).val + (q 1).val / 10, by have h0 : (q 0).val < 15625 := (q 0).isLt; have h1 : (q 1).val < 640 := (q 1).isLt; omega⟩
    ⟨(q 1).val % 10, Nat.mod_lt _ (by norm_num)⟩)

end Math

/-! ## The host's matrices -/

variable (m : (l : Loc nD τ sig) → Buf (Elt Ideal) l) (d : Dev nD)

/-- The two arguments the codes depend on. -/
abbrev argX : FVec Ideal S1000000x10 .f32 := m ((d : Thread nD τ).loc main_arg0)
abbrev argY : FVec Ideal S1000000x1 .f32 := m ((d : Thread nD τ).loc main_arg1)

theorem bc_row (q : IVec S640 32) (j : Fin 640) (a : Fin 64) :
    broadcastInDim S640x64 ![0, 1] bcast_S640x1_S640x64_0_1 (broadcastInDim S640x1 ![0] bcast_S640_S640x1_0 q) (ix2 j a) = q (ix1 j) := by
  rw [broadcastInDim_apply ![0, 1] bcast_S640x1_S640x64_0_1 _ (ix2 j a) (ix2 j (0 : Fin 1)) (by intro b; match b with | ⟨0, _⟩ => rfl | ⟨1, _⟩ => rfl),
    broadcastInDim_apply ![0] bcast_S640_S640x1_0 _ (ix2 j (0 : Fin 1)) (ix1 j) (by intro b; match b with | ⟨0, _⟩ => rfl)]

theorem bc_col (q : IVec S64 32) (j : Fin 640) (a : Fin 64) :
    broadcastInDim S640x64 ![0, 1] bcast_S1x64_S640x64_0_1 (broadcastInDim S1x64 ![1] bcast_S64_S1x64_1 q) (ix2 j a) = q (ix1 a) := by
  rw [broadcastInDim_apply ![0, 1] bcast_S1x64_S640x64_0_1 _ (ix2 j a) (ix2 (0 : Fin 1) a) (by intro b; match b with | ⟨0, _⟩ => rfl | ⟨1, _⟩ => rfl),
    broadcastInDim_apply ![1] bcast_S64_S1x64_1 _ (ix2 (0 : Fin 1) a) (ix1 a) (by intro b; match b with | ⟨0, _⟩ => rfl)]

theorem gather_at (j : Fin 640) (a : Fin 64) : gatherV quoV (ix2 j a) = if j.val / 10 = a.val then (1 : EReal) else 0 := by
  show (((Scalar.cmpi .eq (broadcastInDim S640x64 ![0, 1] bcast_S640x1_S640x64_0_1 (broadcastInDim S640x1 ![0] bcast_S640_S640x1_0 quoV) (ix2 j a))
    (broadcastInDim S640x64 ![0, 1] bcast_S1x64_S640x64_0_1 (broadcastInDim S1x64 ![1] bcast_S64_S1x64_1 (iotaInDim S64 32 0)) (ix2 j a))).toNat : ℝ) : EReal) = _
  rw [bc_row, bc_col, quoV_eq]
  show (((BitVec.ofBool (BitVec.ofNat 32 (j.val / 10) == BitVec.ofNat 32 a.val)).toNat : ℝ) : EReal) = _
  by_cases h : j.val / 10 = a.val
  · rw [if_pos h, h]; simp
  · rw [if_neg h]
    have hne : BitVec.ofNat 32 (j.val / 10) ≠ BitVec.ofNat 32 a.val := by
      intro e
      have e' := congrArg BitVec.toNat e
      rw [BitVec.toNat_ofNat, BitVec.toNat_ofNat] at e'
      have := j.isLt; have := a.isLt
      omega
    rw [beq_eq_false_iff_ne.2 hne]; simp

theorem class_at (j : Fin 640) : (V1 m d (Proc.devRef .tc main_v15) : FVec Ideal S1x640 .f32) (ix2 (0 : Fin 1) j) = (((j.val % 10 : ℕ) : ℝ) : EReal) := by
  rw [V1_v15, broadcastInDim_apply ![1] bcast_S640_S1x640_1 _ (ix2 (0 : Fin 1) j) (ix1 j) (by intro b; match b with | ⟨0, _⟩ => rfl), V1_v13]
  show ((((modV (ix1 j)).toInt : ℤ) : ℝ) : EReal) = _
  rw [modV_eq, BitVec.toInt_eq_toNat_of_lt (by rw [BitVec.toNat_ofNat]; omega), BitVec.toNat_ofNat, Nat.mod_eq_of_lt (by omega)]
  norm_cast

/-! ## The staged blocks -/

theorem gB_eq (t : Fin cfg0.N) : gB (V1 m d) t = (V1 m d (Proc.devRef .tc main_v10) : FVec Ideal S640x64 .f32) := by
  funext j
  show (V1 m d (Proc.devRef .tc main_v10) : FVec Ideal S640x64 .f32) (((cfg0.win 2).rect t).emb j) = _
  exact congrArg _ (funext fun a => Fin.ext (by
    match a with
    | ⟨0, _⟩ => exact Window.rect_emb_val_of_index_zero (cfg0.win 2) t 0 rfl j
    | ⟨1, _⟩ => exact Window.rect_emb_val_of_index_zero (cfg0.win 2) t 1 rfl j))

theorem gtB_eq (t : Fin cfg0.N) : gtB (V1 m d) t = (V1 m d (Proc.devRef .tc main_v11) : FVec Ideal S64x640 .f32) := by
  funext j
  show (V1 m d (Proc.devRef .tc main_v11) : FVec Ideal S64x640 .f32) (((cfg0.win 3).rect t).emb j) = _
  exact congrArg _ (funext fun a => Fin.ext (by
    match a with
    | ⟨0, _⟩ => exact Window.rect_emb_val_of_index_zero (cfg0.win 3) t 0 rfl j
    | ⟨1, _⟩ => exact Window.rect_emb_val_of_index_zero (cfg0.win 3) t 1 rfl j))

theorem cB_eq (t : Fin cfg0.N) : cB (V1 m d) t = (V1 m d (Proc.devRef .tc main_v15) : FVec Ideal S1x640 .f32) := by
  funext j
  show (V1 m d (Proc.devRef .tc main_v15) : FVec Ideal S1x640 .f32) (((cfg0.win 4).rect t).emb j) = _
  exact congrArg _ (funext fun a => Fin.ext (by
    match a with
    | ⟨0, _⟩ => exact Window.rect_emb_val_of_index_zero (cfg0.win 4) t 0 rfl j
    | ⟨1, _⟩ => exact Window.rect_emb_val_of_index_zero (cfg0.win 4) t 1 rfl j))

theorem mats (t : Fin cfg0.N) : Mats (gB (V1 m d) t) (gtB (V1 m d) t) (cB (V1 m d) t) where
  g j a := by rw [gB_eq, V1_v10, V1_v3, gather_at]
  gt a j := by
    rw [gtB_eq, V1_v11, V1_v10, V1_v3,
      transpose_apply [1, 0] _ transposes_S640x64_S64x640_1_0 (ix2 a j) (ix2 j a) (by intro b; match b with | ⟨0, _⟩ => rfl | ⟨1, _⟩ => rfl), gather_at]
  c j := by rw [cB_eq, class_at]

theorem xB_at (t : Fin cfg0.N) (r : Fin 512) (j : Fin 640) (h : 512 * t.val + r.val < 15625) :
    xB (V1 m d) t (ix2 r j) = argX m d (ix2 (⟨64 * (512 * t.val + r.val) + j.val / 10, by omega⟩ : Fin 1000000) (⟨j.val % 10, Nat.mod_lt _ (by norm_num)⟩ : Fin 10)) := by
  have hm := (moved0 (grid0.coords t) (ix2 r j)).2 (by rw [coords0]; exact h)
  unfold xB Window.fill
  rw [dif_pos hm]
  show (V1 m d (Proc.devRef .tc main_v0) : FVec Ideal S15625x640 .f32) (((cfg0.win 0).rect t).emb _) = _
  rw [V1_v0]
  refine shapeCast_apply (s := S1000000x10) (t := S15625x640) (argX m d) shapeCasts_S1000000x10_S15625x640 _ _ ?_
  rw [Shape.rowMajor_val_two, Shape.rowMajor_val_two, Window.rect_emb_val (cfg0.win 0) t, Window.rect_emb_val (cfg0.win 0) t]
  show (64 * (512 * t.val + r.val) + j.val / 10) * 10 + j.val % 10 = ((BitVec.ofNat 32 ((grid0.coords t) 0).val).toNat * 512 + r.val) * 640 + (0 * 640 + j.val)
  rw [row_ofNat, coords0]
  omega

theorem yB_at (t : Fin cfg0.N) (r : Fin 512) (a : Fin 64) (h : 512 * t.val + r.val < 15625) :
    yB (V1 m d) t (ix2 r a) = argY m d (ix2 (⟨64 * (512 * t.val + r.val) + a.val, by omega⟩ : Fin 1000000) (0 : Fin 1)) := by
  have hm := (moved1 (grid0.coords t) (ix2 r a)).2 (by rw [coords0]; exact h)
  unfold yB Window.fill
  rw [dif_pos hm]
  show (V1 m d (Proc.devRef .tc main_v1) : FVec Ideal S15625x64 .f32) (((cfg0.win 1).rect t).emb _) = _
  rw [V1_v1]
  refine shapeCast_apply (s := S1000000x1) (t := S15625x64) (argY m d) shapeCasts_S1000000x1_S15625x64 _ _ ?_
  rw [Shape.rowMajor_val_two, Shape.rowMajor_val_two, Window.rect_emb_val (cfg0.win 1) t, Window.rect_emb_val (cfg0.win 1) t]
  show (64 * (512 * t.val + r.val) + a.val) * 1 + 0 = ((BitVec.ofNat 32 ((grid0.coords t) 0).val).toNat * 512 + r.val) * 64 + (0 * 64 + a.val)
  rw [row_ofNat, coords0]
  omega

/-! ## The codes -/

theorem addr_at (t : Fin cfg0.N) (r : Fin 512) (j : Fin 640) (h : 512 * t.val + r.val < 15625) :
    aAddr (grid0.coords t) (xB (V1 m d) t) (yB (V1 m d) t) (gB (V1 m d) t) (gtB (V1 m d) t) (cB (V1 m d) t) (ix2 r j)
      = codeA (argX m d) (argY m d) (ix2 (⟨512 * t.val + r.val, h⟩ : Fin 15625) j) := by
  rw [aAddr_at (mats m d t) _ _ _ r j (by rw [coords0]; exact h), yB_at m d t r _ h]
  refine Eq.trans ?_ (kcode_prob (argX m d) (argY m d) (⟨64 * (512 * t.val + r.val) + j.val / 10, by omega⟩ : Fin 1000000) (⟨j.val % 10, Nat.mod_lt _ (by norm_num)⟩ : Fin 10))
  refine congrArg (fun e : Fin 10 → EReal => kcode (pr e _) _ _) (funext fun c => ?_)
  rw [xB_at m d t r _ h]
  have := c.isLt
  refine congrArg (argX m d) (funext fun a => Fin.ext ?_)
  match a with
  | ⟨0, _⟩ => show 64 * (512 * t.val + r.val) + (10 * (j.val / 10) + c.val) / 10 = 64 * (512 * t.val + r.val) + j.val / 10; omega
  | ⟨1, _⟩ => show (10 * (j.val / 10) + c.val) % 10 = c.val; omega

theorem codesOut_eq : codesOut (V1 m d) = codeA (argX m d) (argY m d) := by
  unfold codesOut
  refine Dat.arrAt_eq_of_covers _ 5 _ (by decide +kernel) (fun t _ y => ?_)
  have hy0 : (y 0).val < (cfg0.win 5).xsize (grid0.coords t) 0 := (y 0).isLt
  have hy1 : (y 1).val < (cfg0.win 5).xsize (grid0.coords t) 1 := (y 1).isLt
  have hm := (moved0 (grid0.coords t) ((cfg0.win 5).xinj (grid0.coords t) y)).1 ((cfg0.win 5).moved_xinj (grid0.coords t) y)
  rw [coords0] at hm
  show aAddr (grid0.coords t) (xB (V1 m d) t) (yB (V1 m d) t) (gB (V1 m d) t) (gtB (V1 m d) t) (cB (V1 m d) t) ((cfg0.win 5).xinj (grid0.coords t) y) = _
  have e := addr_at m d t ((cfg0.win 5).xinj (grid0.coords t) y 0) ((cfg0.win 5).xinj (grid0.coords t) y 1) hm
  refine Eq.trans (congrArg _ (eq_ix2 _)) (e.trans ?_)
  refine congrArg (codeA (argX m d) (argY m d)) (funext fun a => Fin.ext ?_)
  match a with
  | ⟨0, _⟩ =>
    refine Eq.symm ((Window.rect_emb_val (cfg0.win 5) t y 0).trans ?_)
    show (BitVec.ofNat 32 ((grid0.coords t) 0).val).toNat * 512 + (y 0).val = 512 * t.val + (y 0).val
    rw [row_ofNat, coords0]; omega
  | ⟨1, _⟩ =>
    refine Eq.symm ((Window.rect_emb_val (cfg0.win 5) t y 1).trans ?_)
    show 0 * 640 + (y 1).val = (y 1).val
    omega

/-- The codes the SparseCore call is handed. -/
theorem codes_eq : codes m d = fun q => BitVec.ofNat 32 (16 * codeN (argX m d) (argY m d)
    ⟨(q 0).val / 10, by have h : (q 0).val < 10000000 := (q 0).isLt; omega⟩ ⟨(q 0).val % 10, Nat.mod_lt _ (by norm_num)⟩) := by
  have e : codes m d = shapeCast S10000000 (afterA (V1 m d) (Proc.devRef .tc main_v16_0) : IVec S15625x640 32) shapeCasts_S15625x640_S10000000 := by
    unfold codes V2 opsB
    after_results_simp
    rfl
  rw [e, afterA_0, codesOut_eq]
  funext q
  have hq : (q 0).val < 10000000 := (q 0).isLt
  rw [shapeCast_apply _ shapeCasts_S15625x640_S10000000 q (ix2 (⟨(q 0).val / 640, by omega⟩ : Fin 15625) (⟨(q 0).val % 640, Nat.mod_lt _ (by norm_num)⟩ : Fin 640)) (by
    rw [Shape.rowMajor_val_two, Shape.rowMajor_val_one]; show (q 0).val / 640 * 640 + (q 0).val % 640 = (q 0).val; omega)]
  unfold codeA
  have h1 : 64 * ((q 0).val / 640) + (q 0).val % 640 / 10 = (q 0).val / 10 := by omega
  have h2 : (q 0).val % 640 % 10 = (q 0).val % 10 := by omega
  refine congrArg₂ (fun (s : Fin 1000000) (c : Fin 10) => BitVec.ofNat 32 (16 * codeN (argX m d) (argY m d) s c)) (Fin.ext h1) (Fin.ext h2)

/-- Every code word, with its lane, is an address of the histogram. -/
theorem inRange : Tile.InRange (codes m d) := by
  intro n a x
  match a with
  | ⟨0, _⟩ =>
    show (codes m d (Tile.pos (n + (x 0).val)) + BitVec.ofNat 32 (x 0).val).toNat < 20608
    have hx : (x 0).val < 16 := (x 0).isLt
    rw [codes_eq]
    have := codeN_lt (argX m d) (argY m d) ⟨(n + (x 0).val) % 10000000 / 10, by omega⟩ ⟨(n + (x 0).val) % 10000000 % 10, by omega⟩
    show (BitVec.ofNat 32 (16 * codeN (argX m d) (argY m d) ⟨(n + (x 0).val) % 10000000 / 10, _⟩ ⟨(n + (x 0).val) % 10000000 % 10, _⟩) + BitVec.ofNat 32 (x 0).val).toNat < 20608
    rw [BitVec.toNat_add, BitVec.toNat_ofNat, BitVec.toNat_ofNat]
    omega

end Cert.Proof
-- ==== Proof.Hist.lean ====
/-
  The SparseCore call's histograms at the extended reals: a task's row of the result counts the codes of its chunks, and
  the 32 rows together count every code once.
-/
module

public import proofs.«01_k».proof.Proof.Codes

@[expose] public section

noncomputable section

namespace Cert.Proof

open Cert.KernelIdeal Cert.KernelIdeal.Gen

open Idealize.ShloMosaic
open Idealize.ShloMosaic.TcCoe
open Idealize.ShloMosaic.ValueIdx
open Words

/-! ## A group of sixteen added -/

/-- A fold of steps that each add to the entry at `q`. -/
theorem foldl_add {α β : Type} (step : (β → EReal) → α → β → EReal) (q : β) (c : α → EReal) (hs : ∀ g k, step g k q = g q + c k) :
    ∀ (L : List α) (f : β → EReal), L.foldl step f q = f q + (L.map c).sum
  | [], f => by simp
  | k :: L, f => by rw [List.foldl_cons, foldl_add step q c hs L, hs, List.map_cons, List.sum_cons, add_assoc]

theorem lane_step (v : IVec S16 32) (h : ∀ a x, ((![v] : Fin S20608.rank → IVec S16 32) a x).toNat < S20608.size a) (q : S20608.Idx)
    (g : S20608.Idx → EReal) (k : Fin 16) :
    (if (∀ a, (q a).val = (idxAt ![v] h (Shape.ofLane (d := ![16]) k) a).val) then g (idxAt ![v] h (Shape.ofLane (d := ![16]) k)) + (1 : EReal) else g q)
      = g q + if (q 0).val = (v (ix1 k)).toNat then (1 : EReal) else 0 := by
  have hk : (Shape.ofLane (d := ![16]) k : S16.Idx) = ix1 k := funext fun a => by match a with | ⟨0, _⟩ => rfl
  rw [hk]
  by_cases hq : (q 0).val = (v (ix1 k)).toNat
  · have hall : ∀ a, (q a).val = (idxAt ![v] h (ix1 k) a).val := fun a => by match a with | ⟨0, _⟩ => exact hq
    rw [if_pos hall, if_pos hq, show idxAt ![v] h (ix1 k) = q from funext fun a => Fin.ext (hall a).symm]
  · rw [if_neg (fun hall => hq (hall 0)), if_neg hq, add_zero]

theorem scat_at (v : IVec S16 32) (hv : k1_chk1 v) (f : Vec Ideal S20608 .f32) (q : S20608.Idx) :
    (Tile.scat v f q : EReal) = f q + ∑ k : Fin 16, if (q 0).val = (v (ix1 k)).toNat then (1 : EReal) else 0 := by
  unfold Tile.scat
  rw [dif_pos hv, Fin.sum_univ_def]
  unfold storeIdx
  refine foldl_add (α := Fin 16) (β := S20608.Idx) _ q (fun k => if (q 0).val = (v (ix1 k)).toNat then (1 : EReal) else 0) (fun g k => ?_) (List.finRange 16) f
  refine Eq.trans ?_ (lane_step v (k1_idx1_inb v hv) q g k)
  rw [← w1]
  refine (congrFun (if_pos rfl) q).trans ?_
  by_cases hall : ∀ a, (q a).val = (idxAt ![v] (k1_idx1_inb v hv) (Shape.ofLane (d := ![16]) k) a).val
  · exact (if_pos hall).trans (if_pos hall).symm
  · exact (if_neg hall).trans (if_neg hall).symm

/-! ## A task's histogram -/

section Count

variable (g : IVec S10000000 32) (C : ℕ → ℕ) (hC : ∀ n, C n < 1288) (hg : ∀ n, g (Tile.pos n) = BitVec.ofNat 32 (16 * C n))

include hC hg in
theorem lane_toNat (n : ℕ) (k : Fin 16) : (Tile.lanes g n (ix1 k)).toNat = 16 * C (n + k.val) + k.val := by
  have h := hC (n + k.val)
  have hk := k.isLt
  show (g (Tile.pos (n + k.val)) + BitVec.ofNat 32 k.val).toNat = _
  rw [hg, BitVec.toNat_add, BitVec.toNat_ofNat, BitVec.toNat_ofNat]
  omega

include hC hg in
theorem histN_at (hr : Tile.InRange g) (i : grid1.Coords) (s : ℕ) (l : Fin 16) (hq : 16 * s + l.val < 20608) (N : ℕ) :
    (Tile.histN (F := Ideal) g i N (ix1 (⟨16 * s + l.val, hq⟩ : Fin 20608)) : EReal)
      = ((∑ n ∈ Finset.range N, if C (Tile.base i n + l.val) = s then 1 else 0 : ℕ) : EReal) := by
  induction N with
  | zero =>
    show Ideal.ofBits .f32 0x00000000#32 = _
    rw [w0]; simp
  | succ N ih =>
    show (Tile.scat (Tile.lanes g (Tile.base i N)) (Tile.histN (F := Ideal) g i N) (ix1 (⟨16 * s + l.val, hq⟩ : Fin 20608)) : EReal) = _
    rw [scat_at _ (hr _), ih, Finset.sum_range_succ, Nat.cast_add, Finset.sum_eq_single l]
    · refine congrArg (_ + ·) ?_
      rw [lane_toNat g C hC hg]
      show (if 16 * s + l.val = 16 * C (Tile.base i N + l.val) + l.val then (1 : EReal) else 0) = _
      by_cases h : C (Tile.base i N + l.val) = s
      · rw [if_pos h, if_pos (by omega)]; simp
      · rw [if_neg h, if_neg (by omega)]; simp
    · intro k _ hk
      rw [lane_toNat g C hC hg]
      refine if_neg ?_
      show ¬ 16 * s + l.val = 16 * C (Tile.base i N + k.val) + k.val
      intro e
      apply hk; apply Fin.ext
      have := k.isLt; have := l.isLt
      omega
    · intro h; exact absurd (Finset.mem_univ _) h

end Count

/-! ## Every code is counted once -/

theorem sum_range_mul {M : Type} [AddCommMonoid M] (f : ℕ → M) (b : ℕ) : ∀ a, ∑ k ∈ Finset.range (a * b), f k = ∑ i ∈ Finset.range a, ∑ j ∈ Finset.range b, f (b * i + j)
  | 0 => by simp
  | a + 1 => by
    rw [Finset.sum_range_succ, ← sum_range_mul f b a, Nat.succ_mul, Finset.sum_range_add]
    refine congrArg (_ + ·) (Finset.sum_congr rfl fun j _ => ?_)
    rw [Nat.mul_comm a b]

theorem trips_eq : ∀ (c : Fin 2) (s : Fin 16), (k1_t2_loop (Tile.coordsV c s)).trips = if 2 * s.val + c.val < 2 then 40 else 39 := by decide

/-- The chunks' partition: chunk `w + 32 t` is task `w`'s. -/
theorem sum_tasks (G : ℕ → ℕ) :
    (∑ w ∈ Finset.range 32, ∑ t ∈ Finset.range (if w < 2 then 40 else 39), G (32 * t + w)) = ∑ n ∈ Finset.range 1250, G n := by
  have h : ∀ w ∈ Finset.range 32, (∑ t ∈ Finset.range (if w < 2 then 40 else 39), G (32 * t + w))
      = (∑ t ∈ Finset.range 39, G (32 * t + w)) + if w < 2 then G (1248 + w) else 0 := by
    intro w _
    by_cases hw : w < 2
    · rw [if_pos hw, if_pos hw, Finset.sum_range_succ]
    · rw [if_neg hw, if_neg hw, add_zero]
  rw [Finset.sum_congr rfl h, Finset.sum_add_distrib, Finset.sum_comm, ← sum_range_mul G 32 39,
    show (1250 : ℕ) = 39 * 32 + 2 from rfl, Finset.sum_range_add]
  refine congrArg (_ + ·) ?_
  rw [← Finset.sum_filter, show (Finset.range 32).filter (· < 2) = Finset.range 2 from by decide]

/-- What task `(w % 2, w / 2)` counts in its groups. -/
theorem task_sum (I : ℕ → ℕ) (w : Fin 32) (T : ℕ) :
    (∑ l : Fin 16, ∑ n ∈ Finset.range (500 * T), I (Tile.base (Tile.coordsV ⟨w.val % 2, Nat.mod_lt _ (by decide)⟩ ⟨w.val / 2, by show _ < 16; omega⟩) n + l.val))
      = ∑ t ∈ Finset.range T, ∑ r ∈ Finset.range 8000, I (8000 * (32 * t + w.val) + r) := by
  rw [Finset.sum_comm, Nat.mul_comm 500 T, sum_range_mul]
  refine Finset.sum_congr rfl fun t _ => ?_
  rw [show (8000 : ℕ) = 500 * 16 from rfl, sum_range_mul]
  refine Finset.sum_congr rfl fun u hu => ?_
  have hu' := Finset.mem_range.1 hu
  rw [Finset.sum_range]
  refine Finset.sum_congr rfl fun l _ => congrArg I ?_
  show 16000 * (w.val / 2) + 8000 * (w.val % 2) + 256000 * ((500 * t + u) / 500) + 16 * ((500 * t + u) % 500) + l.val = _
  omega

/-- The 32 histograms, summed over the lanes of a row. -/
theorem outV_sum (g : IVec S10000000 32) (C : ℕ → ℕ) (hC : ∀ n, C n < 1288) (hg : ∀ n, g (Tile.pos n) = BitVec.ofNat 32 (16 * C n))
    (hr : Tile.InRange g) (s : Fin 1288) :
    (∑ w : Fin 32, ∑ l : Fin 16, (Tile.outV (F := Ideal) g (ix2 w (⟨16 * s.val + l.val, by omega⟩ : Fin 20608)) : EReal))
      = ((∑ n ∈ Finset.range 10000000, if C n = s.val then 1 else 0 : ℕ) : EReal) := by
  have e1 : ∀ w : Fin 32, (∑ l : Fin 16, (Tile.outV (F := Ideal) g (ix2 w (⟨16 * s.val + l.val, by omega⟩ : Fin 20608)) : EReal))
      = ((∑ t ∈ Finset.range (if w.val < 2 then 40 else 39), ∑ r ∈ Finset.range 8000, (if C (8000 * (32 * t + w.val) + r) = s.val then 1 else 0) : ℕ) : EReal) := by
    intro w
    have hw := w.isLt
    rw [← task_sum (fun n => if C n = s.val then 1 else 0) w, Nat.cast_sum]
    refine Finset.sum_congr rfl fun l _ => ?_
    refine (histN_at g C hC hg hr _ s.val l (by omega) _).trans ?_
    rw [show (k1_t2_loop (Tile.coordsV ⟨w.val % 2, Nat.mod_lt _ (by decide)⟩ ⟨w.val / 2, by show _ < 16; omega⟩)).trips = if w.val < 2 then 40 else 39 from
      (trips_eq ⟨w.val % 2, Nat.mod_lt _ (by decide)⟩ ⟨w.val / 2, by omega⟩).trans (if_congr (by show 2 * (w.val / 2) + w.val % 2 < 2 ↔ _; omega) rfl rfl)]
  rw [Finset.sum_congr rfl fun w _ => e1 w, ← Nat.cast_sum,
    ← Finset.sum_range (fun w => ∑ t ∈ Finset.range (if w < 2 then 40 else 39), ∑ r ∈ Finset.range 8000, (if C (8000 * (32 * t + w) + r) = s.val then 1 else 0)),
    sum_tasks (fun k => ∑ r ∈ Finset.range 8000, (if C (8000 * k + r) = s.val then 1 else 0)),
    ← sum_range_mul (fun n => if C n = s.val then 1 else 0) 8000 1250]

end Cert.Proof
-- ==== Proof.Loss.lean ====
/-
  Stage A's second result: the sum over all samples and classes of the squared difference of an entry and its target.
-/
module

public import proofs.«01_k».proof.Proof.Hist

@[expose] public section

noncomputable section

namespace Cert.Proof

open Cert.KernelIdeal Cert.KernelIdeal.Gen

open Idealize.ShloMosaic
open Idealize.ShloMosaic.Pipeline (Dat Window)
open Idealize.ShloMosaic.TcCoe
open Idealize.ShloMosaic.ValueIdx
open Words

/-- A reshape does not change the sum of an array. -/
theorem sum_shapeCast {s t : Shape} (w : s.Idx → EReal) (h : s.ShapeCasts t) : ∑ i : t.Idx, shapeCast t w h i = ∑ i : s.Idx, w i :=
  Equiv.sum_comp (Shape.reshapeEquiv h) w

theorem extract_at (v : FVec Ideal S1 .f32) : extractAt ![0, 0, 0] (shapeCast S1x1x1 v shapeCasts_S1_S1x1x1) inpos_S1x1x1_p0_0_0 = v (ix1 (0 : Fin 1)) := by
  show shapeCast S1x1x1 v shapeCasts_S1_S1x1x1 _ = _
  exact shapeCast_apply v shapeCasts_S1_S1x1x1 _ (ix1 (0 : Fin 1)) (by rfl)

theorem sum_block (w : FVec Ideal S512x640 .f32) :
    (multiReduction (F := Ideal) .add [1, 2] S1 (shapeCast S1x512x640 w shapeCasts_S512x640_S1x512x640) 0x00000000#32 reduces_S1x512x640_S1 (.inl rfl) rfl (ix1 (0 : Fin 1)) : EReal)
      = ∑ r : Fin 512, ∑ k : Fin 640, (w (ix2 r k) : EReal) :=
  (Ideal.multiReduction_add_total _ _ reduces_S1x512x640_S1 (by intro b; match b with | ⟨0, _⟩ => rfl) (.inl rfl) rfl _).trans
    ((sum_shapeCast w shapeCasts_S512x640_S1x512x640).trans (sum_idx2 _))

theorem pay10_at (a b : FVec Ideal S512x640 .f32) (acc : Vec Ideal S1x1 .f32) (j : S1x1.Idx) :
    (k0_pay10 a b acc j : EReal)
      = acc j + ∑ r : Fin 512, ∑ k : Fin 640, ((a (ix2 r k) : EReal) - b (ix2 r k)) * ((a (ix2 r k) : EReal) - b (ix2 r k)) := by
  have e : k0_pay10 a b acc = addf acc (broadcast S1x1 (extractAt ![0, 0, 0] (shapeCast S1x1x1 (multiReduction (F := Ideal) .add [1, 2] S1
      (shapeCast S1x512x640 (mulf (subf a b) (subf a b)) shapeCasts_S512x640_S1x512x640) 0x00000000#32 reduces_S1x512x640_S1 (.inl rfl) rfl) shapeCasts_S1_S1x1x1) inpos_S1x1x1_p0_0_0)) := by
    unfold k0_pay10
    simp only [shapeCast_self]
  rw [e, extract_at, sum_block]
  rfl

section Block

variable {G : Vec Ideal S640x64 .f32} {GT : Vec Ideal S64x640 .f32} {C : Vec Ideal S1x640 .f32} (hM : Mats G GT C)
variable (i : grid0.Coords) (Y : Vec Ideal S512x64 .f32)

include hM in
/-- Past the array's end the target is zero. -/
theorem pay3_past (r : Fin 512) (j : Fin 640) (h : ¬ 512 * (i 0).val + r.val < 15625) : (k0_pay3 i Y GT (ix2 r j) : EReal) = 0 := by
  unfold k0_pay3
  simp only [shapeCast_self]
  rw [mm_spread]
  simp only [hM.gt]
  rw [sum_spread]
  show Ideal.ofBits .f32 0x00000000#32 + Scalar.select (broadcastTo ⟨2, ![512, 64]⟩ (k0_pay1 i) _ (ix2 r _)) (Y (ix2 r _)) (Ideal.ofBits .f32 0x00000000#32) = _
  rw [w0, zero_add]
  have hb := mask_at (n := 64) i broadcasts_S512x1_S512x64 (ix2 r (⟨j.val / 10, by omega⟩ : Fin 64))
  rw [shapeCast_self] at hb
  rw [hb]
  unfold Scalar.select
  exact if_neg (fun h' => h ((pay1_iff i _).1 h'))

end Block

variable (m : (l : Loc nD τ sig) → Buf (Elt Ideal) l) (d : Dev nD)

/-- The squared difference of entry `n` of the flat array and its target. -/
def sqN (x : FVec Ideal S1000000x10 .f32) (y : FVec Ideal S1000000x1 .f32) (s : Fin 1000000) (c : Fin 10) : EReal :=
  (x (ix2 s c) - y (ix2 s (0 : Fin 1))) * (x (ix2 s c) - y (ix2 s (0 : Fin 1)))

/-- The same by the entry's number. -/
def sqFlat (x : FVec Ideal S1000000x10 .f32) (y : FVec Ideal S1000000x1 .f32) (n : ℕ) : EReal :=
  sqN x y ⟨n % 10000000 / 10, by omega⟩ ⟨n % 10, Nat.mod_lt _ (by norm_num)⟩

theorem block_term (t : Fin cfg0.N) (r : Fin 512) (j : Fin 640) :
    ((k0_pay2 (grid0.coords t) (xB (V1 m d) t) (ix2 r j) : EReal) - k0_pay3 (grid0.coords t) (yB (V1 m d) t) (gtB (V1 m d) t) (ix2 r j))
      * ((k0_pay2 (grid0.coords t) (xB (V1 m d) t) (ix2 r j) : EReal) - k0_pay3 (grid0.coords t) (yB (V1 m d) t) (gtB (V1 m d) t) (ix2 r j))
      = if 512 * t.val + r.val < 15625 then sqFlat (argX m d) (argY m d) (640 * (512 * t.val + r.val) + j.val) else 0 := by
  by_cases h : 512 * t.val + r.val < 15625
  · rw [if_pos h, pay2_at, if_pos (by rw [coords0]; exact h), pay3_at (mats m d t) _ _ r j (by rw [coords0]; exact h), xB_at m d t r j h, yB_at m d t r _ h]
    have h1 : 64 * (512 * t.val + r.val) + j.val / 10 = (640 * (512 * t.val + r.val) + j.val) % 10000000 / 10 := by omega
    have h2 : j.val % 10 = (640 * (512 * t.val + r.val) + j.val) % 10 := by omega
    exact congrArg₂ (fun (s : Fin 1000000) (c : Fin 10) => sqN (argX m d) (argY m d) s c) (Fin.ext h1) (Fin.ext h2)
  · rw [if_neg h, pay2_at, if_neg (by rw [coords0]; exact h), pay3_past (mats m d t) _ _ r j (by rw [coords0]; exact h)]
    simp

theorem blN_at (j : S1x1.Idx) : ∀ n : ℕ, n ≤ 31 → (blN (V1 m d) n j : EReal)
    = ∑ t ∈ Finset.range n, ∑ r ∈ Finset.range 512, ∑ k ∈ Finset.range 640,
        if 512 * t + r < 15625 then sqFlat (argX m d) (argY m d) (640 * (512 * t + r) + k) else 0
  | 0, _ => by
    show Ideal.ofBits .f32 0x00000000#32 = _
    rw [w0]; simp
  | n + 1, h => by
    rw [Finset.sum_range_succ, ← blN_at j n (by omega)]
    show (k0_pay10 _ _ (blN (V1 m d) n) j : EReal) = _
    rw [pay10_at]
    refine congrArg (_ + ·) ?_
    rw [Finset.sum_range]
    refine Finset.sum_congr rfl fun r _ => ?_
    rw [Finset.sum_range]
    refine Finset.sum_congr rfl fun k _ => ?_
    refine (block_term m d (tA n) r k).trans ?_
    rw [show (tA n).val = n from Nat.mod_eq_of_lt (by omega)]

/-- All squared differences. -/
def loss (x : FVec Ideal S1000000x10 .f32) (y : FVec Ideal S1000000x1 .f32) : EReal := ∑ s : Fin 1000000, ∑ c : Fin 10, sqN x y s c

theorem sum_blocks (T : ℕ → EReal) :
    (∑ t ∈ Finset.range 31, ∑ r ∈ Finset.range 512, ∑ k ∈ Finset.range 640, if 512 * t + r < 15625 then T (640 * (512 * t + r) + k) else 0)
      = ∑ n ∈ Finset.range 10000000, T n := by
  rw [← sum_range_mul (fun R => ∑ k ∈ Finset.range 640, if R < 15625 then T (640 * R + k) else 0) 512 31,
    show 31 * 512 = 15625 + 247 from rfl, Finset.sum_range_add]
  rw [Finset.sum_eq_zero (s := Finset.range 247) (fun u _ => Finset.sum_eq_zero fun k _ => if_neg (by omega)), add_zero,
    show (10000000 : ℕ) = 15625 * 640 from rfl, sum_range_mul]
  refine Finset.sum_congr rfl fun R hR => Finset.sum_congr rfl fun k _ => ?_
  exact if_pos (Finset.mem_range.1 hR)

/-- A sum over all entries by sample and class. -/
theorem sum_flat {M : Type} [AddCommMonoid M] (f : Fin 1000000 → Fin 10 → M) :
    (∑ n ∈ Finset.range 10000000, f ⟨n % 10000000 / 10, by omega⟩ ⟨n % 10, Nat.mod_lt _ (by norm_num)⟩) = ∑ s : Fin 1000000, ∑ c : Fin 10, f s c := by
  rw [show Finset.range 10000000 = Finset.range (1000000 * 10) from rfl, sum_range_mul, Finset.sum_range]
  refine Finset.sum_congr rfl fun s _ => ?_
  rw [Finset.sum_range]
  refine Finset.sum_congr rfl fun c _ => ?_
  have hs := s.isLt
  have hc := c.isLt
  have h1 : (10 * s.val + c.val) % 10000000 / 10 = s.val := by omega
  have h2 : (10 * s.val + c.val) % 10 = c.val := by omega
  exact congrArg₂ f (Fin.ext h1) (Fin.ext h2)

theorem blOut_eq : blOut (V1 m d) = fun _ : S1x1.Idx => loss (argX m d) (argY m d) := by
  unfold blOut
  refine Dat.arrAt_eq_of_after_last _ 6 (tA 30) (by decide +kernel) _ (fun j => ?_)
  show (blN (V1 m d) ((tA 30).val + 1) _ : EReal) = loss (argX m d) (argY m d)
  rw [show (tA 30).val + 1 = 31 from rfl, blN_at m d _ 31 (le_refl _), sum_blocks]
  exact sum_flat (sqN (argX m d) (argY m d))

end Cert.Proof
-- ==== Proof.Final.lean ====
/-
  Stage C at the extended reals: the summed histogram read as counts of samples, and the result as the mean squared
  difference plus the eight classes' calibration errors.
-/
module

public import proofs.«01_k».proof.Proof.Loss

@[expose] public section

noncomputable section

namespace Cert.Proof

open Cert.KernelIdeal Cert.KernelIdeal.Gen

open Idealize.ShloMosaic Idealize.ShloMosaic.StableHlo
open Idealize.ShloMosaic.Pipeline (Dat Window)
open Idealize.ShloMosaic.TcCoe
open Idealize.ShloMosaic.ValueIdx
open Words

/-! ## One class -/

/-- The logistic function. -/
def sg (z : EReal) : EReal := Ideal.div 1 (1 + Ideal.exp (0 - z))

/-- The logistic function of a column. -/
def sgV (v : FVec Ideal S50x1 .f32) : FVec Ideal S50x1 .f32 :=
  divf (broadcast S50x1 (Scalar.ofBits .f32 0x3F800000#32))
    (addf (broadcast S50x1 (Scalar.ofBits .f32 0x3F800000#32)) (exp (subf (broadcast S50x1 (Scalar.ofBits .f32 0x00000000#32)) v)))

theorem sgV_at (v : FVec Ideal S50x1 .f32) (j : S50x1.Idx) : sgV v j = sg (v j) := by
  show Ideal.div (Ideal.ofBits .f32 0x3F800000#32) (Ideal.ofBits .f32 0x3F800000#32 + Ideal.exp (Ideal.ofBits .f32 0x00000000#32 - v j)) = _
  rw [w1, w0]; rfl

/-- A class's difference of calibration and ratio. -/
def diffV (t o p : FVec Ideal S50x1 .f32) : FVec Ideal S50x1 .f32 := subf (sgV p) (divf (sgV t) (sgV (addf t o)))

/-- A class added to the sum. -/
def clsK (acc : Ideal .f32) (t o p : FVec Ideal S50x1 .f32) : Ideal .f32 :=
  Scalar.addf acc (Scalar.mulf (extractAt ![0, 0, 0] (shapeCast S1x1x1 (multiReduction (F := Ideal) .add [1, 2] S1
    (shapeCast S1x50x1 (mulf (diffV t o p) (diffV t o p)) shapeCasts_S50x1_S1x50x1) 0x00000000#32 reduces_S1x50x1_S1 (.inl rfl) rfl) shapeCasts_S1_S1x1x1) inpos_S1x1x1_p0_0_0)
    (Named.named κ "bin_width" 0x3CA3D70A#32))

theorem cOut_eq (H : Vec Ideal S1288x16 .f32) (P : Vec Ideal S50x10 .f32) (B : Vec Ideal S1x1 .f32) :
    cOut H P B = addf (mulf (shapeCast S1x1 B shapeCasts_S1x1_S1x1) (broadcast S1x1 (Named.named κ "inv_count" 0x33D6BF95#32)))
      (broadcast S1x1 (clsK (clsK (clsK (clsK (clsK (clsK (clsK (clsK (FloatOps.ofBits .f32 0x00000000#32 : Ideal .f32) (extractStridedSlice S50x1 ![704, 0] (k2_pay4 H) slices_S1288x1_o704_0_S50x1) (extractStridedSlice S50x1 ![64, 0] (k2_pay4 H) slices_S1288x1_o64_0_S50x1)
        (VecWindow.window P ![0, 1] S50x1.size inb_S50x10_S50x1_0_1)) (extractStridedSlice S50x1 ![768, 0] (k2_pay4 H) slices_S1288x1_o768_0_S50x1) (extractStridedSlice S50x1 ![128, 0] (k2_pay4 H) slices_S1288x1_o128_0_S50x1)
        (VecWindow.window P ![0, 2] S50x1.size inb_S50x10_S50x1_0_2)) (extractStridedSlice S50x1 ![832, 0] (k2_pay4 H) slices_S1288x1_o832_0_S50x1) (extractStridedSlice S50x1 ![192, 0] (k2_pay4 H) slices_S1288x1_o192_0_S50x1)
        (VecWindow.window P ![0, 3] S50x1.size inb_S50x10_S50x1_0_3)) (extractStridedSlice S50x1 ![896, 0] (k2_pay4 H) slices_S1288x1_o896_0_S50x1) (extractStridedSlice S50x1 ![256, 0] (k2_pay4 H) slices_S1288x1_o256_0_S50x1)
        (VecWindow.window P ![0, 4] S50x1.size inb_S50x10_S50x1_0_4)) (extractStridedSlice S50x1 ![960, 0] (k2_pay4 H) slices_S1288x1_o960_0_S50x1) (extractStridedSlice S50x1 ![320, 0] (k2_pay4 H) slices_S1288x1_o320_0_S50x1)
        (VecWindow.window P ![0, 5] S50x1.size inb_S50x10_S50x1_0_5)) (extractStridedSlice S50x1 ![1024, 0] (k2_pay4 H) slices_S1288x1_o1024_0_S50x1) (extractStridedSlice S50x1 ![384, 0] (k2_pay4 H) slices_S1288x1_o384_0_S50x1)
        (VecWindow.window P ![0, 6] S50x1.size inb_S50x10_S50x1_0_6)) (extractStridedSlice S50x1 ![1088, 0] (k2_pay4 H) slices_S1288x1_o1088_0_S50x1) (extractStridedSlice S50x1 ![448, 0] (k2_pay4 H) slices_S1288x1_o448_0_S50x1)
        (VecWindow.window P ![0, 7] S50x1.size inb_S50x10_S50x1_0_7)) (extractStridedSlice S50x1 ![1152, 0] (k2_pay4 H) slices_S1288x1_o1152_0_S50x1) (extractStridedSlice S50x1 ![512, 0] (k2_pay4 H) slices_S1288x1_o512_0_S50x1)
        (VecWindow.window P ![0, 8] S50x1.size inb_S50x10_S50x1_0_8))) := rfl

theorem sum_col (w : FVec Ideal S50x1 .f32) :
    (multiReduction (F := Ideal) .add [1, 2] S1 (shapeCast S1x50x1 w shapeCasts_S50x1_S1x50x1) 0x00000000#32 reduces_S1x50x1_S1 (.inl rfl) rfl (ix1 (0 : Fin 1)) : EReal)
      = ∑ k : Fin 50, (w (ix2 k (0 : Fin 1)) : EReal) :=
  (Ideal.multiReduction_add_total _ _ reduces_S1x50x1_S1 (by intro b; match b with | ⟨0, _⟩ => rfl) (.inl rfl) rfl _).trans
    ((sum_shapeCast w shapeCasts_S50x1_S1x50x1).trans ((sum_idx2 _).trans (Finset.sum_congr rfl fun k _ => Fin.sum_univ_one _)))

/-- A class's calibration error from its counts. -/
def eceF (t a p : Fin 50 → EReal) : EReal :=
  (∑ k : Fin 50, (sg (p k) - Ideal.div (sg (t k)) (sg (a k))) * (sg (p k) - Ideal.div (sg (t k)) (sg (a k)))) * ((1 / 50 : ℝ) : EReal)

theorem clsK_eq (acc : Ideal .f32) (t o p : FVec Ideal S50x1 .f32) :
    (clsK acc t o p : EReal) = acc + eceF (fun k => t (ix2 k (0 : Fin 1))) (fun k => (t (ix2 k (0 : Fin 1)) : EReal) + o (ix2 k (0 : Fin 1))) (fun k => p (ix2 k (0 : Fin 1))) := by
  unfold clsK
  rw [extract_at, sum_col]
  show (acc : EReal) + (∑ k : Fin 50, (diffV t o p (ix2 k (0 : Fin 1)) : EReal) * diffV t o p (ix2 k (0 : Fin 1))) * (Named.named (F := Ideal) κ "bin_width" (φ := .f32) 0x3CA3D70A#32 : EReal) = _
  rw [bin_width]
  unfold eceF
  have e : ∀ k : Fin 50, (diffV t o p (ix2 k (0 : Fin 1)) : EReal)
      = sg (p (ix2 k (0 : Fin 1))) - Ideal.div (sg (t (ix2 k (0 : Fin 1)))) (sg ((t (ix2 k (0 : Fin 1)) : EReal) + o (ix2 k (0 : Fin 1)))) := by
    intro k
    show (sgV p (ix2 k (0 : Fin 1)) : EReal) - Ideal.div (sgV t (ix2 k (0 : Fin 1))) (sgV (addf t o) (ix2 k (0 : Fin 1))) = _
    rw [sgV_at, sgV_at, sgV_at]; rfl
  simp only [e]

theorem inv_count : (Named.named (F := Ideal) κ "inv_count" (φ := .f32) 0x33D6BF95#32 : EReal) = ((1 / 10000000 : ℝ) : EReal) :=
  IdealRules.named_const.ideal_named_scalar _ _ _ _ rfl

/-! ## The summed histogram -/

theorem lane_sum (H : Vec Ideal S1288x16 .f32) (s : Fin 1288) : (k2_pay4 H (ix2 s (0 : Fin 1)) : EReal) = ∑ l : Fin 16, (H (ix2 s l) : EReal) := by
  have e : k2_pay4 H = shapeCast S1288x1 (multiReduction (F := Ideal) .add [1] S1288 H 0x00000000#32 reduces_S1288x16_S1288 (.inl rfl) rfl) shapeCasts_S1288_S1288x1 := rfl
  rw [e, shapeCast_apply _ shapeCasts_S1288_S1288x1 (ix2 s (0 : Fin 1)) (ix1 s) (by
    rw [Shape.rowMajor_val_one, Shape.rowMajor_val_two]; show s.val = s.val * 1 + 0; omega)]
  refine (Ideal.multiReduction_add_single (a := 1) H _ reduces_S1288x16_S1288 (.inl rfl) rfl (ix1 s)).trans ?_
  refine Finset.sum_congr rfl fun l _ => congrArg H (funext fun a => Fin.ext ?_)
  match a with
  | ⟨0, _⟩ => rfl
  | ⟨1, _⟩ => rfl

variable (m : (l : Loc nD τ sig) → Buf (Elt Ideal) l) (d : Dev nD)

theorem V4_v19 : V4 m d (Proc.devRef .tc main_v19) = shapeCast S41216x16 (Tile.outV (F := Ideal) (codes m d) : Vec Ideal S32x20608 .f32) shapeCasts_S32x20608_S41216x16 := by
  unfold V4 opsC
  after_results_simp
  unfold V3
  rw [Function.update_self]
  rfl

theorem V4_arg2 : V4 m d (Proc.devRef .tc main_arg2) = m ((d : Thread nD τ).loc main_arg2) := by
  unfold V4 opsC
  after_results_simp
  unfold V3
  rw [Function.update_of_ne (by decide)]
  unfold V2 opsB
  after_results_simp
  rw [afterA_ne _ (by decide) (by decide)]
  unfold V1 opsA
  after_results_simp
  try rfl

theorem V4_bl : V4 m d (Proc.devRef .tc main_v16_1) = blOut (V1 m d) := by
  unfold V4 opsC
  after_results_simp
  unfold V3
  rw [Function.update_of_ne (by decide)]
  unfold V2 opsB
  after_results_simp
  exact afterA_1 _

/-- A tile's histogram as stage C is handed it. -/
theorem hB_at (w : ℕ) (hw : w < 32) (s : Fin 1288) (l : Fin 16) :
    (hB (V4 m d) (tC w) (ix2 s l) : EReal) = Tile.outV (F := Ideal) (codes m d) (ix2 (⟨w, hw⟩ : Fin 32) (⟨16 * s.val + l.val, by omega⟩ : Fin 20608)) := by
  show (V4 m d (Proc.devRef .tc main_v19) : Vec Ideal S41216x16 .f32) (((cfg2.win 0).rect (tC w)).emb _) = _
  rw [V4_v19]
  refine shapeCast_apply (s := S32x20608) (t := S41216x16) _ shapeCasts_S32x20608_S41216x16 _ _ ?_
  rw [Shape.rowMajor_val_two, Shape.rowMajor_val_two, Window.rect_emb_val (cfg2.win 0) (tC w), Window.rect_emb_val (cfg2.win 0) (tC w)]
  show w * 20608 + (16 * s.val + l.val) = ((BitVec.ofNat 32 ((grid2.coords (tC w)) 0).val).toNat * 1288 + s.val) * 16 + (0 * 16 + l.val)
  rw [coords2, show (tC w).val = w from Nat.mod_eq_of_lt hw, BitVec.toNat_ofNat, Nat.mod_eq_of_lt (by omega)]
  omega

theorem hN_at (s : Fin 1288) (l : Fin 16) : ∀ n : ℕ, (hN (V4 m d) n (ix2 s l) : EReal) = ∑ w ∈ Finset.range (n + 1), (hB (V4 m d) (tC w) (ix2 s l) : EReal)
  | 0 => by
    rw [Finset.sum_range_one]
    show (k2_pay1 (hB (V4 m d) (tC 0)) (ix2 s l) : EReal) = _
    unfold k2_pay1
    simp only [shapeCast_self]
  | n + 1 => by
    rw [Finset.sum_range_succ, ← hN_at s l n]
    show (k2_pay2 (hN (V4 m d) n) (hB (V4 m d) (tC (n + 1))) (ix2 s l) : EReal) = _
    unfold k2_pay2
    simp only [shapeCast_self]
    rfl

/-! ## Counts of samples -/

/-- How many samples fall in bin `k` of class `c` and are of that class, -/
def cntT (x : FVec Ideal S1000000x10 .f32) (y : FVec Ideal S1000000x1 .f32) (c : Fin 10) (k : ℕ) : ℕ :=
  ∑ s : Fin 1000000, if slot (prob x s c) = k ∧ hit y s c.val = 1#1 then 1 else 0
/-- and how many fall in it. -/
def cntA (x : FVec Ideal S1000000x10 .f32) (c : Fin 10) (k : ℕ) : ℕ := ∑ s : Fin 1000000, if slot (prob x s c) = k then 1 else 0
/-- Those not of the class. -/
def cntO (x : FVec Ideal S1000000x10 .f32) (y : FVec Ideal S1000000x1 .f32) (c : Fin 10) (k : ℕ) : ℕ :=
  ∑ s : Fin 1000000, if slot (prob x s c) = k ∧ hit y s c.val = 0#1 then 1 else 0

theorem cnt_add (x : FVec Ideal S1000000x10 .f32) (y : FVec Ideal S1000000x1 .f32) (c : Fin 10) (k : ℕ) : cntT x y c k + cntO x y c k = cntA x c k := by
  unfold cntT cntO cntA
  rw [← Finset.sum_add_distrib]
  refine Finset.sum_congr rfl fun s _ => ?_
  by_cases hs : slot (prob x s c) = k
  · rcases bit_cases (hit y s c.val) with h | h <;> simp [hs, h]
  · simp [hs]

variable (x : FVec Ideal S1000000x10 .f32) (y : FVec Ideal S1000000x1 .f32)

/-- Row `r` of the histogram counts the entries whose code is `r`. -/
def rowN (r : ℕ) : ℕ := ∑ n ∈ Finset.range 10000000,
  if codeN x y ⟨n % 10000000 / 10, by omega⟩ ⟨n % 10, Nat.mod_lt _ (by norm_num)⟩ = r then 1 else 0

theorem rowN_eq (r : ℕ) : rowN x y r = ∑ s : Fin 1000000, ∑ c : Fin 10, if codeN x y s c = r then 1 else 0 :=
  sum_flat (fun s c => if codeN x y s c = r then 1 else 0)

theorem codeN_hit (s : Fin 1000000) (c' c : Fin 10) (k : Fin 50) : codeN x y s c' = 640 + 64 * c.val + k.val ↔ c' = c ∧ slot (prob x s c') = k.val ∧ hit y s c'.val = 1#1 := by
  have h1 : slot (prob x s c') ≤ 50 := slot_le _ _
  have hc := c.isLt; have hc' := c'.isLt; have hk := k.isLt
  unfold codeN
  rw [Fin.ext_iff]
  rcases bit_cases (hit y s c'.val) with h | h <;> rw [h]
  · simp; omega
  · simp; omega

theorem codeN_miss (s : Fin 1000000) (c' c : Fin 10) (k : Fin 50) : codeN x y s c' = 64 * c.val + k.val ↔ c' = c ∧ slot (prob x s c') = k.val ∧ hit y s c'.val = 0#1 := by
  have h1 : slot (prob x s c') ≤ 50 := slot_le _ _
  have hc := c.isLt; have hc' := c'.isLt; have hk := k.isLt
  unfold codeN
  rw [Fin.ext_iff]
  rcases bit_cases (hit y s c'.val) with h | h <;> rw [h]
  · simp; omega
  · simp; omega

theorem rowN_hit (c : Fin 10) (k : Fin 50) : rowN x y (640 + 64 * c.val + k.val) = cntT x y c k.val := by
  rw [rowN_eq]
  refine Finset.sum_congr rfl fun s _ => ?_
  rw [Finset.sum_eq_single c]
  · exact if_congr ((codeN_hit x y s c c k).trans (and_iff_right rfl)) rfl rfl
  · intro b _ hb; exact if_neg (fun h => hb ((codeN_hit x y s b c k).1 h).1)
  · intro h; exact absurd (Finset.mem_univ _) h

theorem rowN_miss (c : Fin 10) (k : Fin 50) : rowN x y (64 * c.val + k.val) = cntO x y c k.val := by
  rw [rowN_eq]
  refine Finset.sum_congr rfl fun s _ => ?_
  rw [Finset.sum_eq_single c]
  · exact if_congr ((codeN_miss x y s c c k).trans (and_iff_right rfl)) rfl rfl
  · intro b _ hb; exact if_neg (fun h => hb ((codeN_miss x y s b c k).1 h).1)
  · intro h; exact absurd (Finset.mem_univ _) h

/-! ## The result -/

/-- The lane sums stage C works on. -/
theorem rows_at (s : Fin 1288) : (k2_pay4 (hN (V4 m d) 31) (ix2 s (0 : Fin 1)) : EReal) = ((rowN (argX m d) (argY m d) s.val : ℕ) : EReal) := by
  rw [lane_sum]
  have e : ∀ l : Fin 16, (hN (V4 m d) 31 (ix2 s l) : EReal) = ∑ w : Fin 32, (Tile.outV (F := Ideal) (codes m d) (ix2 w (⟨16 * s.val + l.val, by omega⟩ : Fin 20608)) : EReal) := by
    intro l
    rw [hN_at, Finset.sum_range]
    exact Finset.sum_congr rfl fun w _ => hB_at m d w.val w.isLt s l
  rw [Finset.sum_congr rfl fun l _ => e l, Finset.sum_comm]
  refine outV_sum (codes m d) (fun n => codeN (argX m d) (argY m d) ⟨n % 10000000 / 10, by omega⟩ ⟨n % 10, Nat.mod_lt _ (by norm_num)⟩)
    (fun n => codeN_lt _ _ _ _) (fun n => ?_) (inRange m d) s
  rw [codes_eq]
  have h2 : n % 10000000 % 10 = n % 10 := by omega
  exact congrArg (fun c : Fin 10 => BitVec.ofNat 32 (16 * codeN (argX m d) (argY m d) ⟨n % 10000000 / 10, by omega⟩ c)) (Fin.ext h2)

/-- A class's calibration error. -/
def ece (p : FVec Ideal S50x10 .f32) (c : Fin 10) : EReal :=
  eceF (fun k => ((cntT x y c k.val : ℕ) : EReal)) (fun k => ((cntA x c k.val : ℕ) : EReal)) (fun k => p (ix2 k c))

/-- What the kernel computes. -/
def value (p : FVec Ideal S50x10 .f32) : EReal :=
  loss x y * ((1 / 10000000 : ℝ) : EReal)
    + ((((((((0 + ece x y p 1) + ece x y p 2) + ece x y p 3) + ece x y p 4) + ece x y p 5) + ece x y p 6) + ece x y p 7) + ece x y p 8)

abbrev argP : FVec Ideal S50x10 .f32 := m ((d : Thread nD τ).loc main_arg2)

theorem slice_at (H : FVec Ideal S1288x1 .f32) (o : ℕ) (h : S1288x1.Slices ![o, 0] S50x1) (k : Fin 50) (ho : o + k.val < 1288) :
    extractStridedSlice S50x1 ![o, 0] H h (ix2 k (0 : Fin 1)) = H (ix2 (⟨o + k.val, ho⟩ : Fin 1288) (0 : Fin 1)) :=
  extractStridedSlice_apply ![o, 0] H h _ _ fun a => by match a with | ⟨0, _⟩ => rfl | ⟨1, _⟩ => rfl

theorem window_at (P : Vec Ideal S50x10 .f32) (c : Fin 10) (inb : ∀ a, (![0, c.val] : Fin 2 → ℕ) a + S50x1.size a ≤ S50x10.size a) (k : Fin 50) :
    VecWindow.window P ![0, c.val] S50x1.size inb (ix2 k (0 : Fin 1)) = P (ix2 k c) :=
  congrArg P (funext fun a => Fin.ext (by
    match a with
    | ⟨0, _⟩ => show 0 + 1 * k.val = k.val; omega
    | ⟨1, _⟩ => show c.val + 1 * 0 = c.val; omega))

/-- One class of stage C. -/
theorem cls_at (P : Vec Ideal S50x10 .f32) (acc : Ideal .f32) (c : Fin 10) (o1 o2 o3 : ℕ) (e1 : o1 = 640 + 64 * c.val) (e2 : o2 = 64 * c.val) (e3 : o3 = c.val)
    (h1 : S1288x1.Slices ![o1, 0] S50x1) (h2 : S1288x1.Slices ![o2, 0] S50x1) (inb : ∀ a, (![0, o3] : Fin 2 → ℕ) a + S50x1.size a ≤ S50x10.size a) :
    (clsK acc (extractStridedSlice S50x1 ![o1, 0] (k2_pay4 (hN (V4 m d) 31)) h1) (extractStridedSlice S50x1 ![o2, 0] (k2_pay4 (hN (V4 m d) 31)) h2)
      (VecWindow.window P ![0, o3] S50x1.size inb) : EReal) = acc + ece (argX m d) (argY m d) P c := by
  subst e1 e2 e3
  have hc := c.isLt
  rw [clsK_eq]
  refine congrArg (acc + ·) ?_
  unfold ece
  have t1 : ∀ k : Fin 50, (extractStridedSlice S50x1 ![640 + 64 * c.val, 0] (k2_pay4 (hN (V4 m d) 31)) h1 (ix2 k (0 : Fin 1)) : EReal) = ((cntT (argX m d) (argY m d) c k.val : ℕ) : EReal) := by
    intro k
    have hk := k.isLt
    rw [slice_at _ _ h1 k (by omega), rows_at, ← rowN_hit]
  have t2 : ∀ k : Fin 50, (extractStridedSlice S50x1 ![64 * c.val, 0] (k2_pay4 (hN (V4 m d) 31)) h2 (ix2 k (0 : Fin 1)) : EReal) = ((cntO (argX m d) (argY m d) c k.val : ℕ) : EReal) := by
    intro k
    have hk := k.isLt
    rw [slice_at _ _ h2 k (by omega), rows_at, ← rowN_miss]
  simp only [t1, t2, ← Nat.cast_add, cnt_add]
  exact congrArg (eceF _ _) (funext fun k => window_at P c inb k)

theorem pB_eq (t : Fin cfg2.N) : pB (V4 m d) t = argP m d := by
  have e : pB (V4 m d) t = (V4 m d (Proc.devRef .tc main_arg2) : Vec Ideal S50x10 .f32) := by
    funext j
    show (V4 m d (Proc.devRef .tc main_arg2) : Vec Ideal S50x10 .f32) (((cfg2.win 1).rect t).emb j) = _
    exact congrArg _ (funext fun a => Fin.ext (by
      match a with
      | ⟨0, _⟩ => exact Window.rect_emb_val_of_index_zero (cfg2.win 1) t 0 rfl j
      | ⟨1, _⟩ => exact Window.rect_emb_val_of_index_zero (cfg2.win 1) t 1 rfl j))
  rw [e, V4_arg2]

theorem bB_eq (t : Fin cfg2.N) : bB (V4 m d) t = fun _ => loss (argX m d) (argY m d) := by
  have e : bB (V4 m d) t = (V4 m d (Proc.devRef .tc main_v16_1) : Vec Ideal S1x1 .f32) := by
    funext j
    show (V4 m d (Proc.devRef .tc main_v16_1) : Vec Ideal S1x1 .f32) (((cfg2.win 2).rect t).emb j) = _
    exact congrArg _ (funext fun a => Fin.ext (by
      match a with
      | ⟨0, _⟩ => exact Window.rect_emb_val_of_index_zero (cfg2.win 2) t 0 rfl j
      | ⟨1, _⟩ => exact Window.rect_emb_val_of_index_zero (cfg2.win 2) t 1 rfl j))
  rw [e, V4_bl, blOut_eq]

theorem cOut_at (j : S1x1.Idx) : (cOut (hN (V4 m d) 31) (argP m d) (fun _ => loss (argX m d) (argY m d)) j : EReal) = value (argX m d) (argY m d) (argP m d) := by
  have hadd : ∀ a b : FVec Ideal S1x1 .f32, (addf a b j : EReal) = a j + b j := fun _ _ => rfl
  have hmul : ∀ a b : FVec Ideal S1x1 .f32, (mulf a b j : EReal) = a j * b j := fun _ _ => rfl
  have hbc : ∀ v : Ideal .f32, (broadcast S1x1 v j : EReal) = v := fun _ => rfl
  rw [cOut_eq, shapeCast_self, hadd, hmul, hbc, hbc, inv_count]
  unfold value
  rw [cls_at m d (argP m d) _ 8 1152 512 8 rfl rfl rfl]
  rw [cls_at m d (argP m d) _ 7 1088 448 7 rfl rfl rfl]
  rw [cls_at m d (argP m d) _ 6 1024 384 6 rfl rfl rfl]
  rw [cls_at m d (argP m d) _ 5 960 320 5 rfl rfl rfl]
  rw [cls_at m d (argP m d) _ 4 896 256 4 rfl rfl rfl]
  rw [cls_at m d (argP m d) _ 3 832 192 3 rfl rfl rfl]
  rw [cls_at m d (argP m d) _ 2 768 128 2 rfl rfl rfl]
  rw [cls_at m d (argP m d) _ 1 704 64 1 rfl rfl rfl]
  rw [show ((FloatOps.ofBits .f32 0x00000000#32 : Ideal .f32) : EReal) = 0 from w0]

theorem resOut_eq : resOut (V4 m d) = fun _ : S1x1.Idx => value (argX m d) (argY m d) (argP m d) := by
  unfold resOut
  refine Dat.arrAt_eq_of_after_last _ 3 (tC 31) (by decide +kernel) _ (fun j => ?_)
  show (cOut (hN (V4 m d) 31) (pB (V4 m d) (tC 31)) (bB (V4 m d) (tC 31)) _ : EReal) = value (argX m d) (argY m d) (argP m d)
  rw [pB_eq, bB_eq, cOut_at]

/-- The kernel's result. -/
theorem V5_v21 : V5 m d (Proc.devRef .tc main_v21) = fun _ : S_.Idx => value (argX m d) (argY m d) (argP m d) := by
  unfold V5 opsD
  after_results_simp
  rw [afterC_0, resOut_eq]
  rfl

theorem V5_arg (b : DevRef τ sig) (hb : b = Proc.devRef .tc main_arg0 ∨ b = Proc.devRef .tc main_arg1 ∨ b = Proc.devRef .tc main_arg2) :
    V5 m d b = launchContents m d b := by
  rcases hb with rfl | rfl | rfl <;>
  · unfold V5 opsD
    after_results_simp
    rw [afterC_ne _ (by decide)]
    unfold V4 opsC
    after_results_simp
    unfold V3
    rw [Function.update_of_ne (by decide)]
    unfold V2 opsB
    after_results_simp
    rw [afterA_ne _ (by decide) (by decide)]
    unfold V1 opsA
    after_results_simp

end Cert.Proof
-- ==== Proof.RefClass.lean ====
/-
  The reference, read as the mean squared difference plus the eight classes' calibration errors, each class one function
  of its column of probabilities, its match bits and its column of calibration values; and that function at the
  extended reals.
-/
module

public import proofs.«01_k».proof.Proof.RefBins
public import proofs.«01_k».proof.Proof.Final

@[expose] public section

noncomputable section

namespace Cert.Proof.Ref

open Cert.ReferenceIdeal Cert.ReferenceIdeal.Gen Cert.ReferenceIdeal.Read
open Idealize.ShloMosaic Idealize.ShloMosaic.StableHlo
open Idealize.ShloMosaic.TcCoe
open Idealize.ShloMosaic.ValueIdx
open Words

section Any

variable {F : FTy → Type} [FloatOps F]

/-- A column of the samples' array, -/
def colX (o : ℕ) (h : S1000000x10.Slices ![0, o] S1000000x1) (p : FVec F S1000000x10 .f32) : FVec F S1000000 .f32 :=
  shapeCast _ (extractStridedSlice S1000000x1 ![0, o] p h) shapeCasts_S1000000x1_S1000000
/-- of the calibration array, -/
def colC (o : ℕ) (h : S50x10.Slices ![0, o] S50x1) (p : FVec F S50x10 .f32) : FVec F S50 .f32 :=
  shapeCast _ (extractStridedSlice S50x1 ![0, o] p h) shapeCasts_S50x1_S50
/-- and the match bits of a class as floats. -/
def hitV (b : BitVec 32) (y : FVec F S1000000x1 .f32) : FVec F S1000000 .f32 :=
  uitofp .f32 (cmpf .oeq (val_main_v11 y) (broadcastInDim S1000000 ![] bcast_S_S1000000 (constant S_ .f32 b)))

/-- The logistic function as the reference spells it. -/
def sigV (z : FVec F S50 .f32) : FVec F S50 .f32 :=
  Host.divf (val_main_v20 (F := F)) (addf (val_main_v18 (F := F)) (Host.exp (Host.negf z)))

/-- The differences of a class. -/
def difV (p h : FVec F S1000000 .f32) (c : FVec F S50 .f32) : FVec F S50 .f32 :=
  subf (sigV c) (Host.divf (sigV (Host.scatterAdd scatter_S50_S1000000x1_S1000000_n_0_0_1 (val_main_v35 (F := F)) (bincol p) h))
    (sigV (Host.scatterAdd scatter_S50_S1000000x1_S1000000_n_0_0_1 (val_main_v39 (F := F)) (bincol p) (val_main_v38 (F := F)))))

/-- The mean of squares of fifty numbers. -/
def msV (D : FVec F S50 .f32) : FVec F S_ .f32 :=
  Host.divf (Host.reduceAdd (mulf D D) (val_main_cst_15 (F := F)) reducesTo_S50_S_d0 h_S_) (val_main_cst_16 (F := F))

variable (x0 : FVec F S1000000x10 .f32) (x1 : FVec F S1000000x1 .f32) (x2 : FVec F S50x10 .f32)

theorem cls1 : val_main_v58 x0 x1 x2 = msV (difV (colX 1 slices_S1000000x10_S1000000x1_0_1 (val_main_v10 x0)) (hitV 0x3F800000#32 x1) (colC 1 slices_S50x10_S50x1_0_1 x2)) := rfl

theorem cls2 : val_main_v106 x0 x1 x2 = msV (difV (colX 2 slices_S1000000x10_S1000000x1_0_2 (val_main_v10 x0)) (hitV 0x40000000#32 x1) (colC 2 slices_S50x10_S50x1_0_2 x2)) := rfl

theorem cls3 : val_main_v154 x0 x1 x2 = msV (difV (colX 3 slices_S1000000x10_S1000000x1_0_3 (val_main_v10 x0)) (hitV 0x40400000#32 x1) (colC 3 slices_S50x10_S50x1_0_3 x2)) := rfl

theorem cls4 : val_main_v202 x0 x1 x2 = msV (difV (colX 4 slices_S1000000x10_S1000000x1_0_4 (val_main_v10 x0)) (hitV 0x40800000#32 x1) (colC 4 slices_S50x10_S50x1_0_4 x2)) := rfl

theorem cls5 : val_main_v250 x0 x1 x2 = msV (difV (colX 5 slices_S1000000x10_S1000000x1_0_5 (val_main_v10 x0)) (hitV 0x40A00000#32 x1) (colC 5 slices_S50x10_S50x1_0_5 x2)) := rfl

theorem cls6 : val_main_v298 x0 x1 x2 = msV (difV (colX 6 slices_S1000000x10_S1000000x1_0_6 (val_main_v10 x0)) (hitV 0x40C00000#32 x1) (colC 6 slices_S50x10_S50x1_0_6 x2)) := rfl

theorem cls7 : val_main_v346 x0 x1 x2 = msV (difV (colX 7 slices_S1000000x10_S1000000x1_0_7 (val_main_v10 x0)) (hitV 0x40E00000#32 x1) (colC 7 slices_S50x10_S50x1_0_7 x2)) := rfl

theorem cls8 : val_main_v394 x0 x1 x2 = msV (difV (colX 8 slices_S1000000x10_S1000000x1_0_8 (val_main_v10 x0)) (hitV 0x41000000#32 x1) (colC 8 slices_S50x10_S50x1_0_8 x2)) := rfl

theorem res_eq : val_main_v401 x0 x1 x2 = addf (val_main_v400 x0 x1)
    (addf (addf (addf (addf (addf (addf (addf (addf (constant S_ .f32 0x00000000#32) (msV (difV (colX 1 slices_S1000000x10_S1000000x1_0_1 (val_main_v10 x0)) (hitV 0x3F800000#32 x1) (colC 1 slices_S50x10_S50x1_0_1 x2)))) (msV (difV (colX 2 slices_S1000000x10_S1000000x1_0_2 (val_main_v10 x0)) (hitV 0x40000000#32 x1) (colC 2 slices_S50x10_S50x1_0_2 x2)))) (msV (difV (colX 3 slices_S1000000x10_S1000000x1_0_3 (val_main_v10 x0)) (hitV 0x40400000#32 x1) (colC 3 slices_S50x10_S50x1_0_3 x2)))) (msV (difV (colX 4 slices_S1000000x10_S1000000x1_0_4 (val_main_v10 x0)) (hitV 0x40800000#32 x1) (colC 4 slices_S50x10_S50x1_0_4 x2)))) (msV (difV (colX 5 slices_S1000000x10_S1000000x1_0_5 (val_main_v10 x0)) (hitV 0x40A00000#32 x1) (colC 5 slices_S50x10_S50x1_0_5 x2)))) (msV (difV (colX 6 slices_S1000000x10_S1000000x1_0_6 (val_main_v10 x0)) (hitV 0x40C00000#32 x1) (colC 6 slices_S50x10_S50x1_0_6 x2)))) (msV (difV (colX 7 slices_S1000000x10_S1000000x1_0_7 (val_main_v10 x0)) (hitV 0x40E00000#32 x1) (colC 7 slices_S50x10_S50x1_0_7 x2)))) (msV (difV (colX 8 slices_S1000000x10_S1000000x1_0_8 (val_main_v10 x0)) (hitV 0x41000000#32 x1) (colC 8 slices_S50x10_S50x1_0_8 x2)))) := by
  unfold val_main_v401 val_main_v395 val_main_v347 val_main_v299 val_main_v251 val_main_v203 val_main_v155 val_main_v107 val_main_v59
  rw [cls1, cls2, cls3, cls4, cls5, cls6, cls7, cls8]
  rfl

end Any

end Cert.Proof.Ref
-- ==== Proof.RefValue.lean ====
/-
  The reference's value at the extended reals is the kernel's. Where every entry of the samples' array is a real number
  the two softmaxes agree, hence the bins and the counts. Where some entry is infinite the mean squared difference is
  infinite on both sides, and the classes' errors, which are not negative, do not change that.
-/
module

public import proofs.«01_k».proof.Proof.RefClass

@[expose] public section

noncomputable section

namespace Cert.Proof.Ref

open Cert.ReferenceIdeal Cert.ReferenceIdeal.Gen Cert.ReferenceIdeal.Read
open Idealize.ShloMosaic Idealize.ShloMosaic.StableHlo
open Idealize.ShloMosaic.TcCoe
open Idealize.ShloMosaic.ValueIdx
open Words
open Routing (shape1 shape2)

/-! ## One class -/

theorem sigV_at (z : FVec Ideal S50 .f32) (k : Fin 50) : (sigV z (ix1 k) : EReal) = sg (z (ix1 k)) := by
  show Ideal.div (Ideal.ofBits .f32 0x3F800000#32) (Ideal.ofBits .f32 0x3F800000#32 + Ideal.exp (-(z (ix1 k) : EReal))) = _
  rw [w1]
  unfold sg
  rw [zero_sub]

theorem colX_at (o : Fin 10) (h : S1000000x10.Slices ![0, o.val] S1000000x1) (p : FVec Ideal S1000000x10 .f32) (s : Fin 1000000) :
    colX o.val h p (ix1 s) = p (ix2 s o) :=
  (shapeCast_apply (extractStridedSlice S1000000x1 ![0, o.val] p h) shapeCasts_S1000000x1_S1000000 (ix1 s) (ix2 s (0 : Fin 1))
    (by rw [Shape.rowMajor_val_two, Shape.rowMajor_val_one]; show s.val * 1 + 0 = s.val; omega)).trans
  (extractStridedSlice_apply ![0, o.val] p h (ix2 s (0 : Fin 1)) (ix2 s o) (fun a => match a with
    | ⟨0, _⟩ => by show s.val = 0 + s.val; omega
    | ⟨1, _⟩ => by show o.val = o.val + 0; omega))

theorem colC_at (o : Fin 10) (h : S50x10.Slices ![0, o.val] S50x1) (p : FVec Ideal S50x10 .f32) (k : Fin 50) :
    colC o.val h p (ix1 k) = p (ix2 k o) :=
  (shapeCast_apply (extractStridedSlice S50x1 ![0, o.val] p h) shapeCasts_S50x1_S50 (ix1 k) (ix2 k (0 : Fin 1))
    (by rw [Shape.rowMajor_val_two, Shape.rowMajor_val_one]; show k.val * 1 + 0 = k.val; omega)).trans
  (extractStridedSlice_apply ![0, o.val] p h (ix2 k (0 : Fin 1)) (ix2 k o) (fun a => match a with
    | ⟨0, _⟩ => by show k.val = 0 + k.val; omega
    | ⟨1, _⟩ => by show o.val = o.val + 0; omega))

theorem hitV_at (b : BitVec 32) (c : ℕ) (hb : Ideal.ofBits .f32 b = (((c : ℕ) : ℝ) : EReal)) (y : FVec Ideal S1000000x1 .f32) (s : Fin 1000000) :
    (hitV b y (ix1 s) : EReal) = if hit y s c = 1#1 then 1 else 0 := by
  have e1 : (val_main_v11 (F := Ideal) y (ix1 s) : EReal) = y (ix2 s (0 : Fin 1)) := by
    rw [val_main_v11_apply]
    exact congrArg y (funext fun a => Fin.ext (by match a with | ⟨0, _⟩ => show s.val / 1 = s.val; omega | ⟨1, _⟩ => rfl))
  show ((((Ideal.cmp .oeq (val_main_v11 (F := Ideal) y (ix1 s)) (Ideal.ofBits .f32 b)).toNat : ℝ)) : EReal) = _
  rw [hb]
  have e2 : Ideal.cmp .oeq (val_main_v11 (F := Ideal) y (ix1 s)) (((c : ℕ) : ℝ) : EReal) = hit y s c := congrArg (Ideal.cmp .oeq · _) e1
  rw [e2]
  rcases bit_cases (hit y s c) with h | h <;> rw [h] <;> simp

theorem msV_at (D : FVec Ideal S50 .f32) (i : S_.Idx) :
    (msV D i : EReal) = (∑ k : Fin 50, (D (ix1 k) : EReal) * D (ix1 k)) * ((1 / 50 : ℝ) : EReal) := by
  have e : (Host.reduceAdd (mulf D D) (val_main_cst_15 (F := Ideal)) reducesTo_S50_S_d0 h_S_ i : EReal) = ∑ k : Fin 50, (D (ix1 k) : EReal) * D (ix1 k) := by
    refine (Ideal.hostReduceAdd_total reducesTo_S50_S_d0 (fun b => b.elim0) (mulf D D) _ i).trans ?_
    refine (congrArg₂ (· + ·) (show (val_main_cst_15 (F := Ideal) (Shape.Idx.first h_S_) : EReal) = 0 from w0) (sum_ix1 (n := 50) (mulf D D))).trans ?_
    exact zero_add _
  show Ideal.div (Host.reduceAdd (mulf D D) (val_main_cst_15 (F := Ideal)) reducesTo_S50_S_d0 h_S_ i : EReal) (Ideal.ofBits .f32 0x42480000#32) = _
  rw [e, w50, Ideal.div_coe (by norm_num), one_div]

theorem sq_nonneg' (z : EReal) : 0 ≤ z * z := by
  induction z with
  | bot => simp
  | top => simp
  | coe r => rw [← EReal.coe_mul]; exact_mod_cast mul_self_nonneg r

theorem ms_nonneg (f : Fin 50 → EReal) : 0 ≤ (∑ k : Fin 50, f k * f k) * ((1 / 50 : ℝ) : EReal) :=
  mul_nonneg (Finset.sum_nonneg fun k _ => sq_nonneg' _) (by exact_mod_cast (by norm_num : (0 : ℝ) ≤ 1 / 50))

theorem ones_at (s : Fin 1000000) : (val_main_v38 (F := Ideal) (ix1 s) : EReal) = 1 := by
  rw [val_main_v38_apply, val_main_cst_9_apply]
  exact w1

theorem difV_at (p h : FVec Ideal S1000000 .f32) (c : FVec Ideal S50 .f32)
    (hp : ∀ s, ∃ r : ℝ, 0 ≤ r ∧ r ≤ 1 ∧ (p (ix1 s) : EReal) = (r : EReal))
    (P : Fin 1000000 → Prop) [DecidablePred P] (hh : ∀ s, (h (ix1 s) : EReal) = if P s then 1 else 0) (k : Fin 50) :
    (difV p h c (ix1 k) : EReal) = sg (c (ix1 k))
      - Ideal.div (sg ((∑ s : Fin 1000000, if slot (p (ix1 s)) = k.val ∧ P s then 1 else 0 : ℕ) : EReal))
          (sg ((∑ s : Fin 1000000, if slot (p (ix1 s)) = k.val then 1 else 0 : ℕ) : EReal)) := by
  have e1 := bin_sum p hp (val_main_v35 (F := Ideal)) (fun k => w0) h P hh k
  have hT : ∀ s : Fin 1000000, (val_main_v38 (F := Ideal) (ix1 s) : EReal) = if (fun _ : Fin 1000000 => True) s then 1 else 0 := by
    intro s
    rw [if_pos trivial]
    exact ones_at s
  have e2 := bin_sum p hp (val_main_v39 (F := Ideal)) (fun k => w0) (val_main_v38 (F := Ideal)) (fun _ => True) hT k
  simp only [and_true] at e2
  have e : ∀ A B C : FVec Ideal S50 .f32, (subf A (Host.divf B C) (ix1 k) : EReal) = (A (ix1 k) : EReal) - Ideal.div (B (ix1 k)) (C (ix1 k)) := fun _ _ _ => rfl
  unfold difV
  rw [e, sigV_at, sigV_at, sigV_at, e1, e2]

/-! ## The softmax -/

theorem rowMax_real (x : FVec Ideal S1000000x10 .f32) (s : Fin 1000000) (a : Fin 10 → ℝ) (ha : ∀ c, (x (ix2 s c) : EReal) = (a c : EReal)) :
    ∃ M : ℝ, (val_main_v2 (F := Ideal) x (ix1 s) : EReal) = (M : EReal) := by
  have hr : S1000000x10.Reduces [1] S1000000 := by decide
  have e : (val_main_v2 (F := Ideal) x (ix1 s) : EReal) = max ⊥ ((Finset.univ : Finset (Fin 10)).fold max ⊥ (fun c => (x (ix2 s c) : EReal))) := by
    rw [val_main_v2_apply]
    have e0 : (val_main_v0 (F := Ideal) x (ix1 s) : EReal) = (Finset.univ : Finset (Fin 10)).fold max ⊥ (fun c => (x (ix2 s c) : EReal)) := by
      unfold val_main_v0
      refine (Host.reduce_eq_fold_single (max : EReal → EReal → EReal) x (val_main_cst (F := Ideal)) reducesTo_S1000000x10_S1000000_d1 hr h_S_ (ix1 s)).trans ?_
      refine congrArg₂ (fun (b : EReal) (f : Fin 10 → EReal) => (Finset.univ : Finset (Fin 10)).fold max b f) wBot (funext fun c => congrArg x (funext fun b => Fin.ext ?_))
      match b with
      | ⟨0, _⟩ => rfl
      | ⟨1, _⟩ => rfl
    have e1 : (val_main_v1 (F := Ideal) (ix1 s) : EReal) = ⊥ := wBot
    show max (val_main_v1 (F := Ideal) (ix1 s) : EReal) (val_main_v0 (F := Ideal) x (ix1 s) : EReal) = _
    rw [e0, e1]
  rw [e, max_eq_right bot_le]
  refine ⟨EReal.toReal _, (EReal.coe_toReal (ne_of_lt ?_) (ne_of_gt ?_)).symm⟩
  · rw [Finset.fold_max_lt]
    exact ⟨bot_lt_top, fun c _ => by rw [ha]; exact EReal.coe_lt_top _⟩
  · rw [Finset.lt_fold_max]
    exact .inr ⟨0, Finset.mem_univ _, by rw [ha]; exact EReal.bot_lt_coe _⟩

theorem soft_at (x : FVec Ideal S1000000x10 .f32) (s : Fin 1000000) (a : Fin 10 → ℝ) (ha : ∀ c, (x (ix2 s c) : EReal) = (a c : EReal)) (c : Fin 10) :
    (val_main_v10 (F := Ideal) x (ix2 s c) : EReal) = prob x s c := by
  obtain ⟨M, hM⟩ := rowMax_real x s a ha
  have e6 : ∀ c', (val_main_v6 (F := Ideal) x (ix2 s c') : EReal) = Ideal.exp ((x (ix2 s c') : EReal) - (M : EReal)) := fun c' => by
    rw [val_main_v6_apply, val_main_v5_apply, val_main_v4_apply, val_main_v3_apply]
    exact congrArg (fun z : EReal => Ideal.exp ((x (ix2 s c') : EReal) - z))
      ((congrArg (val_main_v2 (F := Ideal) x) (funext fun b => by match b with | ⟨0, _⟩ => rfl)).trans hM)
  have e9 : (val_main_v9 (F := Ideal) x (ix2 s c) : EReal) = 0 + ∑ c' : Fin 10, Ideal.exp ((x (ix2 s c') : EReal) - (M : EReal)) := by
    rw [val_main_v9_apply, val_main_v8_apply, val_main_v7_apply]
    refine congrArg₂ (· + ·) w0 (Finset.sum_congr rfl fun c' _ => ?_)
    refine Eq.trans (congrArg (val_main_v6 (F := Ideal) x) (funext fun b => ?_)) (e6 c')
    match b with
    | ⟨0, _⟩ => rfl
    | ⟨1, _⟩ => rfl
  rw [val_main_v10_apply]
  show Ideal.div (val_main_v6 (F := Ideal) x (ix2 s c) : EReal) (val_main_v9 (F := Ideal) x (ix2 s c) : EReal) = _
  rw [e6, e9]
  exact pr_shift (fun c' => x (ix2 s c')) a ha M c

/-! ## The classes, where every entry is real -/

variable (x0 : FVec Ideal S1000000x10 .f32) (x1 : FVec Ideal S1000000x1 .f32) (x2 : FVec Ideal S50x10 .f32)

theorem class_at (hx : ∀ s c, ∃ r : ℝ, (x0 (ix2 s c) : EReal) = (r : EReal)) (c : Fin 10) (b : BitVec 32)
    (hb : Ideal.ofBits .f32 b = (((c.val : ℕ) : ℝ) : EReal))
    (h1 : S1000000x10.Slices ![0, c.val] S1000000x1) (h2 : S50x10.Slices ![0, c.val] S50x1) (i : S_.Idx) :
    (msV (difV (colX c.val h1 (val_main_v10 x0)) (hitV b x1) (colC c.val h2 x2)) i : EReal) = ece x0 x1 x2 c := by
  have hcol : ∀ s, (colX (F := Ideal) c.val h1 (val_main_v10 (F := Ideal) x0) (ix1 s) : EReal) = prob x0 s c := fun s => by
    rw [colX_at]
    choose a ha using hx s
    exact soft_at x0 s a ha c
  rw [msV_at]
  unfold ece eceF
  refine congrArg (· * _) (Finset.sum_congr rfl fun k _ => ?_)
  have e := difV_at (colX (F := Ideal) c.val h1 (val_main_v10 (F := Ideal) x0)) (hitV b x1) (colC c.val h2 x2)
    (fun s => by rw [hcol s]; exact pr_real _ _) (fun s => hit x1 s c.val = 1#1) (fun s => hitV_at b c.val hb x1 s) k
  simp only [hcol] at e
  rw [e, colC_at]
  rfl

/-! ## The mean squared difference -/

theorem base_at (i : S_.Idx) : (val_main_v400 (F := Ideal) x0 x1 i : EReal) = loss x0 x1 * ((1 / 10000000 : ℝ) : EReal) := by
  have e : (val_main_v399 (F := Ideal) x0 x1 i : EReal) = loss x0 x1 := by
    rw [val_main_v399_apply]
    refine (congrArg₂ (· + ·) (show (val_main_cst_130 (F := Ideal) (Shape.Idx.first h_S_) : EReal) = 0 from w0) (sum_idx2 _)).trans ?_
    refine (zero_add _).trans ?_
    unfold loss
    refine Finset.sum_congr rfl fun s _ => Finset.sum_congr rfl fun c _ => ?_
    have e1 : (val_main_v397 (F := Ideal) x0 x1 (ix2 s c) : EReal) = (x0 (ix2 s c) : EReal) - x1 (ix2 s (0 : Fin 1)) := by
      rw [val_main_v397_apply, val_main_v396_apply]
      refine congrArg (fun z : EReal => (x0 (ix2 s c) : EReal) - z) (congrArg x1 (funext fun b => ?_))
      match b with
      | ⟨0, _⟩ => rfl
      | ⟨1, _⟩ => rfl
    show (val_main_v397 (F := Ideal) x0 x1 (ix2 s c) : EReal) * (val_main_v397 (F := Ideal) x0 x1 (ix2 s c) : EReal) = _
    rw [e1]
    rfl
  rw [val_main_v400_apply]
  show Ideal.div (val_main_v399 (F := Ideal) x0 x1 i : EReal) (Ideal.ofBits .f32 0x4B189680#32) = _
  rw [e, w1e7, Ideal.div_coe (by norm_num), one_div]

theorem sq_top (z w : EReal) (h : ∀ r : ℝ, z ≠ (r : EReal)) : (z - w) * (z - w) = ⊤ := by
  induction z with
  | coe r => exact absurd rfl (h r)
  | bot => rw [EReal.bot_sub]; rfl
  | top =>
    induction w with
    | coe r => rw [EReal.top_sub_coe]; rfl
    | bot => rfl
    | top => rfl

theorem loss_top (hx : ¬ ∀ s c, ∃ r : ℝ, (x0 (ix2 s c) : EReal) = (r : EReal)) : loss x0 x1 = ⊤ := by
  push Not at hx
  obtain ⟨s, c, h⟩ := hx
  have hs : sqN x0 x1 s c = ⊤ := by
    exact sq_top _ _ h
  have hn : ∀ s c, 0 ≤ sqN x0 x1 s c := fun s c => sq_nonneg' _
  refine top_le_iff.1 ?_
  rw [← hs]
  unfold loss
  exact (Finset.single_le_sum (fun c' _ => hn s c') (Finset.mem_univ c)).trans
    (Finset.single_le_sum (f := fun s => ∑ c : Fin 10, sqN x0 x1 s c) (fun s' _ => Finset.sum_nonneg fun c' _ => hn s' c') (Finset.mem_univ s))

theorem top_plus (e : EReal) (h : 0 ≤ e) : ⊤ * ((1 / 10000000 : ℝ) : EReal) + e = ⊤ := by
  rw [EReal.top_mul_coe_of_pos (by norm_num)]
  exact EReal.top_add_of_ne_bot (fun h' => by rw [h'] at h; simp at h)

theorem sum8_nonneg (a b c d e f g h : EReal) (ha : 0 ≤ a) (hb : 0 ≤ b) (hc : 0 ≤ c) (hd : 0 ≤ d) (he : 0 ≤ e) (hf : 0 ≤ f) (hg : 0 ≤ g) (hh : 0 ≤ h) :
    0 ≤ (((((((0 + a) + b) + c) + d) + e) + f) + g) + h :=
  add_nonneg (add_nonneg (add_nonneg (add_nonneg (add_nonneg (add_nonneg (add_nonneg (add_nonneg le_rfl ha) hb) hc) hd) he) hf) hg) hh

theorem ms_at_nonneg (D : FVec Ideal S50 .f32) (i : S_.Idx) : 0 ≤ (msV D i : EReal) := by
  rw [msV_at]; exact ms_nonneg _

theorem sum_at (v a b c d e f g h : FVec Ideal S_ .f32) (i : S_.Idx) :
    (addf v (addf (addf (addf (addf (addf (addf (addf (addf (constant S_ .f32 0x00000000#32) a) b) c) d) e) f) g) h) i : EReal)
      = (v i : EReal) + ((((((((0 + a i) + b i) + c i) + d i) + e i) + f i) + g i) + h i) := by
  show (v i : EReal) + ((((((((Ideal.ofBits .f32 0x00000000#32 + (a i : EReal)) + b i) + c i) + d i) + e i) + f i) + g i) + h i) = _
  rw [w0]

/-- The reference's result. -/
theorem res_value : val_main_v401 (F := Ideal) x0 x1 x2 = fun _ : S_.Idx => value x0 x1 x2 := by
  funext i
  rw [res_eq, sum_at, base_at]
  unfold value
  by_cases hx : ∀ s c, ∃ r : ℝ, (x0 (ix2 s c) : EReal) = (r : EReal)
  · have k1 := class_at x0 x1 x2 hx 1 0x3F800000#32 (by rw [w1]; norm_num) slices_S1000000x10_S1000000x1_0_1 slices_S50x10_S50x1_0_1 i
    have k2 := class_at x0 x1 x2 hx 2 0x40000000#32 (by rw [w2]; norm_num) slices_S1000000x10_S1000000x1_0_2 slices_S50x10_S50x1_0_2 i
    have k3 := class_at x0 x1 x2 hx 3 0x40400000#32 (by rw [w3]; norm_num) slices_S1000000x10_S1000000x1_0_3 slices_S50x10_S50x1_0_3 i
    have k4 := class_at x0 x1 x2 hx 4 0x40800000#32 (by rw [w4]; norm_num) slices_S1000000x10_S1000000x1_0_4 slices_S50x10_S50x1_0_4 i
    have k5 := class_at x0 x1 x2 hx 5 0x40A00000#32 (by rw [w5]; norm_num) slices_S1000000x10_S1000000x1_0_5 slices_S50x10_S50x1_0_5 i
    have k6 := class_at x0 x1 x2 hx 6 0x40C00000#32 (by rw [w6]; norm_num) slices_S1000000x10_S1000000x1_0_6 slices_S50x10_S50x1_0_6 i
    have k7 := class_at x0 x1 x2 hx 7 0x40E00000#32 (by rw [w7]; norm_num) slices_S1000000x10_S1000000x1_0_7 slices_S50x10_S50x1_0_7 i
    have k8 := class_at x0 x1 x2 hx 8 0x41000000#32 (by rw [w8]; norm_num) slices_S1000000x10_S1000000x1_0_8 slices_S50x10_S50x1_0_8 i
    rw [← k1, ← k2, ← k3, ← k4, ← k5, ← k6, ← k7, ← k8]
    rfl
  · rw [loss_top x0 x1 hx, top_plus, top_plus]
    · exact sum8_nonneg _ _ _ _ _ _ _ _ (ms_nonneg _) (ms_nonneg _) (ms_nonneg _) (ms_nonneg _) (ms_nonneg _) (ms_nonneg _) (ms_nonneg _) (ms_nonneg _)
    · exact sum8_nonneg _ _ _ _ _ _ _ _ (ms_at_nonneg _ _) (ms_at_nonneg _ _) (ms_at_nonneg _ _) (ms_at_nonneg _ _) (ms_at_nonneg _ _) (ms_at_nonneg _ _) (ms_at_nonneg _ _) (ms_at_nonneg _ _)

end Cert.Proof.Ref
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.RefValue

@[expose] public section

noncomputable section

namespace Cert.Proof

open Idealize.ShloMosaic Idealize.ShloMosaic.StableHlo Idealize.SL.Sem
open Idealize.ShloMosaic.TcCoe

/-! ## The kernel -/

section Kernel
open Cert.KernelIdeal

variable (m : (ℓ : Loc nD τ sig) → Buf (Elt Ideal) ℓ) (ρ : Dev nD → PrngReg)

/-- The kernel's run: its result is `value` of its arguments, its arguments end unchanged, every counter is back at zero. -/
theorem kernel_run :
    θ_run (Cert.KernelIdeal.defs (F := Ideal)) (Cert.KernelIdeal.threads (F := Ideal)) ⟨m, fun _ => 0, ρ⟩ (fun r =>
      (∀ c : Dev nD, r.2.mem ((c.tc : Thread nD τ).loc main_v21) = (fun _ : S_.Idx => value (argX m c) (argY m c) (argP m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run _ _ _).mono (fun r h => ⟨fun c =>
      ⟨(h.1 c (Proc.devRef .tc main_v21) (Finset.mem_filter.2 ⟨devRef_mem_tcRefs _, by decide⟩)).trans (V5_v21 m c),
       (h.1 c (Proc.devRef .tc main_arg0) (Finset.mem_filter.2 ⟨devRef_mem_tcRefs _, by decide⟩)).trans (V5_arg m c _ (Or.inl rfl)),
       (h.1 c (Proc.devRef .tc main_arg1) (Finset.mem_filter.2 ⟨devRef_mem_tcRefs _, by decide⟩)).trans (V5_arg m c _ (Or.inr (Or.inl rfl))),
       (h.1 c (Proc.devRef .tc main_arg2) (Finset.mem_filter.2 ⟨devRef_mem_tcRefs _, by decide⟩)).trans (V5_arg m c _ (Or.inr (Or.inr rfl)))⟩,
      h.2⟩)
    (run_main m ρ (fun d => inRange m d))

end Kernel

/-! ## The reference -/

section Reference
open Cert.ReferenceIdeal

variable (m : (ℓ : Loc nD τ sig) → Buf (Elt Ideal) ℓ) (ρ : Dev nD → PrngReg)

/-- The reference's run: its result is `value` of its arguments, its arguments end unchanged. -/
theorem reference_run :
    θ_run (Cert.ReferenceIdeal.defs (F := Ideal)) (onTc (τ := τ) (Cert.ReferenceIdeal.main (F := Ideal))) ⟨m, fun _ => 0, ρ⟩ (fun r =>
      ∀ c : Dev nD, r.2.mem ((c.tc : Thread nD τ).loc main_v401)
          = (fun _ : S_.Idx => value (m ((c.tc : Thread nD τ).loc main_arg0)) (m ((c.tc : Thread nD τ).loc main_arg1)) (m ((c.tc : Thread nD τ).loc main_arg2)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono (fun _ h c =>
      ⟨((h c).1.trans (Cert.ReferenceIdeal.Read.val_main_v401_eq (launchContents m c))).trans (Ref.res_value _ _ _), (h c).2⟩)
    (Cert.ReferenceIdeal.Value.run (F := Ideal) m ρ)

end Reference

/-! ## The claims -/

theorem frame_kernel : Cert.quiescent_KernelIdeal (hKernelIdeal := Cert.KernelIdeal.Gen.facts) := fun m ρ _ =>
  (θ_run _ _ _).mono (fun _ h => ⟨fun c => (h.1 c).2, h.2⟩) (kernel_run m ρ)

/-- The reference declares no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (reference_run m ρ)

theorem values : Cert.algebraic_KernelIdeal_ReferenceIdeal (hKernelIdeal := Cert.KernelIdeal.Gen.facts)
    (hReferenceIdeal := Cert.ReferenceIdeal.Gen.facts) := fun m ρ m' ρ' _ hm =>
  ⟨fun c => (fun _ : Cert.KernelIdeal.S_.Idx => value (argX m c) (argY m c) (argP m c)),
    (θ_run _ _ _).mono (fun _ h => h.1) (kernel_run m ρ),
    (θ_run _ _ _).mono (fun _ h c => ⟨(h c).1.trans (by rw [(hm c).1, (hm c).2.1, (hm c).2.2]), (h c).2⟩) (reference_run m' ρ')⟩

theorem claim : Cert.Claim :=
  ⟨Cert.KernelIdeal.Gen.facts, Cert.ReferenceIdeal.Gen.facts, frame_kernel, frame_reference, values⟩

end Cert.Proof

end
